-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![16, 1024, 16, 64]⟩ ⟨4, ![16, 4096, 16, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![16, 1024, 16, 64]⟩ ⟨4, ![16, 4096, 16, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x1024x16x64 : S_.BroadcastsInDim S16x1024x16x64 (![] : Fin 0 → Fin S16x1024x16x64.rank)
  reducesTo_S16x1024x16x64_S_d0_1_2_3 : S16x1024x16x64.ReducesTo [0, 1, 2, 3] S_

variable [Facts]

def fn {F : FTy → Type} [FloatOps F] (main_arg0 : FVec F S16x1x16x64 .f32) (main_arg1 : FVec F S16x1024x16x64 .f32) (main_arg2 : FVec F S16x1024x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x1024x16x64 .f32 := Host.absf main_arg1
  let main_cst_0 : FVec F S_ .f32 := constant S_ .f32 0x7F800000#32
  let main_v5 : FVec F S16x1024x16x64 .f32 := broadcastInDim S16x1024x16x64 ![] bcast_S_S16x1024x16x64 main_cst_0
  let main_v6 : IVec S16x1024x16x64 1 := cmpf .olt main_v4 main_v5
  let main_c_1 : IVec S_ 1 := constantI S_ 1 1#1
  let main_v7 : IVec S_ 1 := (fun x v => Host.reduce IntOp.andi x v reducesTo_S16x1024x16x64_S_d0_1_2_3 h_S_) main_v6 main_c_1
  let main_v8 : IVec S_ 1 := andi main_v3 main_v7
  main_v8
-- ==== Pre_finite_ReferenceIdeal.lean ====
abbrev S16x1x16x64 : Shape := ⟨4, ![16, 1, 16, 64]⟩
abbrev S16x4096x16x64 : Shape := ⟨4, ![16, 4096, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x4096x16x64 : S_.BroadcastsInDim S16x4096x16x64 (![] : Fin 0 → Fin S16x4096x16x64.rank)
  reducesTo_S16x4096x16x64_S_d0_1_2_3 : S16x4096x16x64.ReducesTo [0, 1, 2, 3] S_

variable [Facts]

def fn {F : FTy → Type} [FloatOps F] (main_arg0 : FVec F S16x1x16x64 .f32) (main_arg1 : FVec F S16x4096x16x64 .f32) (main_arg2 : FVec F S16x4096x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x4096x16x64 .f32 := Host.absf main_arg1
  let main_cst_0 : FVec F S_ .f32 := constant S_ .f32 0x7F800000#32
  let main_v5 : FVec F S16x4096x16x64 .f32 := broadcastInDim S16x4096x16x64 ![] bcast_S_S16x4096x16x64 main_cst_0
  let main_v6 : IVec S16x4096x16x64 1 := cmpf .olt main_v4 main_v5
  let main_c_1 : IVec S_ 1 := constantI S_ 1 1#1
  let main_v7 : IVec S_ 1 := (fun x v => Host.reduce IntOp.andi x v reducesTo_S16x4096x16x64_S_d0_1_2_3 h_S_) main_v6 main_c_1
  let main_v8 : IVec S_ 1 := andi main_v3 main_v7
  main_v8
-- ==== Kernel.lean ====
abbrev S16x1x16x64 : Shape := ⟨4, ![16, 1, 16, 64]⟩
abbrev S16x1024x16x64 : Shape := ⟨4, ![16, 1024, 16, 64]⟩
abbrev S16x16x64x1024 : Shape := ⟨4, ![16, 16, 64, 1024]⟩
abbrev S16x16x64 : Shape := ⟨3, ![16, 16, 64]⟩
abbrev S1024 : Shape := ⟨1, ![1024]⟩
abbrev S1x1024 : Shape := ⟨2, ![1, 1024]⟩
abbrev S_ : Shape := ⟨0, ![]⟩
abbrev S16 : Shape := ⟨1, ![16]⟩
abbrev S16x1 : Shape := ⟨2, ![16, 1]⟩
abbrev S16x1024 : Shape := ⟨2, ![16, 1024]⟩
abbrev S1 : Shape := ⟨1, ![1]⟩
abbrev S1x16x64 : Shape := ⟨3, ![1, 16, 64]⟩
abbrev S1x16x64x1024 : Shape := ⟨4, ![1, 16, 64, 1024]⟩
abbrev S2x1152 : Shape := ⟨2, ![2, 1152]⟩
abbrev S2x1024 : Shape := ⟨2, ![2, 1024]⟩
abbrev S3x1152 : Shape := ⟨2, ![3, 1152]⟩
abbrev S2x3 : Shape := ⟨2, ![2, 3]⟩
abbrev S2x7 : Shape := ⟨2, ![2, 7]⟩
abbrev S16x64x1024 : Shape := ⟨3, ![16, 64, 1024]⟩
abbrev S1024x1024 : Shape := ⟨2, ![1024, 1024]⟩
abbrev S16x64 : Shape := ⟨2, ![16, 64]⟩
abbrev S1x16 : Shape := ⟨2, ![1, 16]⟩
abbrev S1x112 : Shape := ⟨2, ![1, 112]⟩
abbrev S1x1152 : Shape := ⟨2, ![1, 1152]⟩
abbrev S1x1 : Shape := ⟨2, ![1, 1]⟩

abbrev nBuf : Space → Nat
  | .hbm => 51
  | .vmem => 12
  | .smem => 1
  | _ => 0

abbrev bufTy : (tb : Table) → Fin (tcTables nBuf tb) → BufTy
  | .hbm, ⟨0, _⟩ => ⟨S16x1x16x64, .f32⟩
  | .hbm, ⟨1, _⟩ => ⟨S16x1024x16x64, .f32⟩
  | .hbm, ⟨2, _⟩ => ⟨S16x1024x16x64, .f32⟩
  | .hbm, ⟨3, _⟩ => ⟨S16x16x64x1024, .f32⟩
  | .hbm, ⟨4, _⟩ => ⟨S16x16x64x1024, .f32⟩
  | .hbm, ⟨5, _⟩ => ⟨S16x16x64, .f32⟩
  | .hbm, ⟨6, _⟩ => ⟨S1024, .i32⟩
  | .hbm, ⟨7, _⟩ => ⟨S1x1024, .i32⟩
  | .hbm, ⟨8, _⟩ => ⟨S_, .i32⟩
  | .hbm, ⟨9, _⟩ => ⟨S_, .i32⟩
  | .hbm, ⟨10, _⟩ => ⟨S1x1024, .i32⟩
  | .hbm, ⟨11, _⟩ => ⟨S1x1024, .i32⟩
  | .hbm, ⟨12, _⟩ => ⟨S1x1024, .i32⟩
  | .hbm, ⟨13, _⟩ => ⟨S_, .i32⟩
  | .hbm, ⟨14, _⟩ => ⟨S1x1024, .i32⟩
  | .hbm, ⟨15, _⟩ => ⟨S1x1024, .i1⟩
  | .hbm, ⟨16, _⟩ => ⟨S1x1024, .i32⟩
  | .hbm, ⟨17, _⟩ => ⟨S1x1024, .i32⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S1x1024, .i1⟩
  | .hbm, ⟨22, _⟩ => ⟨S_, .i32⟩
  | .hbm, ⟨23, _⟩ => ⟨S1x1024, .i32⟩
  | .hbm, ⟨24, _⟩ => ⟨S1x1024, .i32⟩
  | .hbm, ⟨25, _⟩ => ⟨S1x1024, .i32⟩
  | .hbm, ⟨26, _⟩ => ⟨S16, .i32⟩
  | .hbm, ⟨27, _⟩ => ⟨S16x1, .i32⟩
  | .hbm, ⟨28, _⟩ => ⟨S16x1024, .i32⟩
  | .hbm, ⟨29, _⟩ => ⟨S16x1024, .i32⟩
  | .hbm, ⟨30, _⟩ => ⟨S16x1024, .i1⟩
  | .hbm, ⟨31, _⟩ => ⟨S16x1024, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S16x1024, .f32⟩
  | .hbm, ⟨50, _⟩ => ⟨S16x1x16x64, .f32⟩
  | .local _ .vmem, ⟨0, _⟩ => ⟨S1x16x64, .f32⟩
  | .local _ .vmem, ⟨1, _⟩ => ⟨S1x16x64, .f32⟩
  | .local _ .vmem, ⟨2, _⟩ => ⟨S1x16x64x1024, .f32⟩
  | .local _ .vmem, ⟨3, _⟩ => ⟨S1x16x64x1024, .f32⟩
  | .local _ .vmem, ⟨4, _⟩ => ⟨S1x16x64x1024, .f32⟩
  | .local _ .vmem, ⟨5, _⟩ => ⟨S1x16x64x1024, .f32⟩
  | .local _ .vmem, ⟨6, _⟩ => ⟨S16x1024, .f32⟩
  | .local _ .vmem, ⟨7, _⟩ => ⟨S16x1024, .f32⟩
  | .local _ .vmem, ⟨8, _⟩ => ⟨S2x1152, .f32⟩
  | .local _ .vmem, ⟨9, _⟩ => ⟨S2x1024, .f32⟩
  | .local _ .vmem, ⟨10, _⟩ => ⟨S3x1152, .f32⟩
  | .local _ .vmem, ⟨11, _⟩ => ⟨S3x1152, .f32⟩
  | .local _ .smem, ⟨0, _⟩ => ⟨S1, .i32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_c_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_c_3 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v25 : Ref sig .tc := ⟨.hbm, 49, rfl⟩
abbrev main_v26 : Ref sig .tc := ⟨.hbm, 50, rfl⟩
abbrev main_v24 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev barrier0 : Sem sig := 0

abbrev nD : Nat := 32
abbrev τ : Topo := Topo.v7x

variable {F : FTy → Type} [FloatOps F]

abbrev grid0 : Pipeline.Grid := ⟨1, ![2], ![false]⟩

abbrev pre0 : Pipeline.Prefetch sig := ⟨1, ![main_v24.idx], fun | 0 => main_v24.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v28 : Index := Scalar.indexCast arg0
  let c0_21 : Index := 0#32
  ![v28.toNat, 0]
def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_25 : BitVec 32 := 0#32
  let v45 : BitVec 1 := Scalar.cmpi .ne v44 c0_i32_25
  v45

def k0_dev1 (d32 : Dev nD) : Nat :=
  let c0_i32_33 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c16_i32_32 : BitVec 32 := 16#32
  let v53 : BitVec 32 := Scalar.muli v34 c16_i32_32
  let v54 : BitVec 32 := Scalar.addi c0_i32_33 v53
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let c4_i32_34 : BitVec 32 := 4#32
  let v55 : BitVec 32 := Scalar.muli v37 c4_i32_34
  let v56 : BitVec 32 := Scalar.addi v54 v55
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c0_i32_28 : BitVec 32 := 0#32
  let v50 : BitVec 32 := Scalar.addi v40 c0_i32_28
  let c1_i32_29 : BitVec 32 := 1#32
  let v51 : BitVec 32 := Scalar.addi v50 c1_i32_29
  let c4_i32_30 : BitVec 32 := 4#32
  let v52 : BitVec 32 := Scalar.remsi v51 c4_i32_30
  let c1_i32_35 : BitVec 32 := 1#32
  let v57 : BitVec 32 := Scalar.muli v52 c1_i32_35
  let v58 : BitVec 32 := Scalar.addi v56 v57
  v58.toNat
def k0_dev2 (d32 : Dev nD) : Nat :=
  let c0_i32_41 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c16_i32_40 : BitVec 32 := 16#32
  let v62 : BitVec 32 := Scalar.muli v34 c16_i32_40
  let v63 : BitVec 32 := Scalar.addi c0_i32_41 v62
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let c4_i32_42 : BitVec 32 := 4#32
  let v64 : BitVec 32 := Scalar.muli v37 c4_i32_42
  let v65 : BitVec 32 := Scalar.addi v63 v64
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_36 : BitVec 32 := 1#32
  let v59 : BitVec 32 := Scalar.addi v40 c1_i32_36
  let c1_i32_37 : BitVec 32 := 1#32
  let v60 : BitVec 32 := Scalar.addi v59 c1_i32_37
  let c4_i32_38 : BitVec 32 := 4#32
  let v61 : BitVec 32 := Scalar.remsi v60 c4_i32_38
  let c1_i32_43 : BitVec 32 := 1#32
  let v66 : BitVec 32 := Scalar.muli v61 c1_i32_43
  let v67 : BitVec 32 := Scalar.addi v65 v66
  v67.toNat
def k0_dev3 (d32 : Dev nD) : Nat :=
  let c0_i32_49 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c16_i32_48 : BitVec 32 := 16#32
  let v71 : BitVec 32 := Scalar.muli v34 c16_i32_48
  let v72 : BitVec 32 := Scalar.addi c0_i32_49 v71
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let c4_i32_50 : BitVec 32 := 4#32
  let v73 : BitVec 32 := Scalar.muli v37 c4_i32_50
  let v74 : BitVec 32 := Scalar.addi v72 v73
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c2_i32_44 : BitVec 32 := 2#32
  let v68 : BitVec 32 := Scalar.addi v40 c2_i32_44
  let c1_i32_45 : BitVec 32 := 1#32
  let v69 : BitVec 32 := Scalar.addi v68 c1_i32_45
  let c4_i32_46 : BitVec 32 := 4#32
  let v70 : BitVec 32 := Scalar.remsi v69 c4_i32_46
  let c1_i32_51 : BitVec 32 := 1#32
  let v75 : BitVec 32 := Scalar.muli v70 c1_i32_51
  let v76 : BitVec 32 := Scalar.addi v74 v75
  v76.toNat
def k0_dev4 (d32 : Dev nD) : Nat :=
  let c0_i32_64 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c0_i32_52 : BitVec 32 := 0#32
  let v77 : BitVec 32 := Scalar.addi v42 c0_i32_52
  let c1_i32_53 : BitVec 32 := 1#32
  let v78 : BitVec 32 := Scalar.addi v77 c1_i32_53
  let c8_i32 : BitVec 32 := 8#32
  let v79 : BitVec 32 := Scalar.remsi v78 c8_i32
  let c0_i32_55 : BitVec 32 := 0#32
  let v81 : BitVec 1 := Scalar.cmpi .sgt v79 c0_i32_55
  let v82 : BitVec 32 := Scalar.extui v81
  let c0_i32_56 : BitVec 32 := 0#32
  let v83 : BitVec 1 := Scalar.cmpi .slt v79 c0_i32_56
  let v84 : BitVec 32 := Scalar.extui v83
  let v85 : BitVec 32 := Scalar.subi v82 v84
  let c4_i32_54 : BitVec 32 := 4#32
  let c0_i32_57 : BitVec 32 := 0#32
  let v86 : BitVec 1 := Scalar.cmpi .sgt c4_i32_54 c0_i32_57
  let v87 : BitVec 32 := Scalar.extui v86
  let c0_i32_58 : BitVec 32 := 0#32
  let v88 : BitVec 1 := Scalar.cmpi .slt c4_i32_54 c0_i32_58
  let v89 : BitVec 32 := Scalar.extui v88
  let v90 : BitVec 32 := Scalar.subi v87 v89
  let v91 : BitVec 1 := Scalar.cmpi .ne v85 v90
  let v92 : BitVec 32 := Scalar.remsi v79 c4_i32_54
  let c0_i32_59 : BitVec 32 := 0#32
  let v93 : BitVec 1 := Scalar.cmpi .ne v92 c0_i32_59
  let v94 : BitVec 1 := Scalar.andi v91 v93
  let v80 : BitVec 32 := Scalar.divsi v79 c4_i32_54
  let c1_i32_60 : BitVec 32 := 1#32
  let v95 : BitVec 32 := Scalar.subi v80 c1_i32_60
  let v96 : BitVec 32 := Scalar.select v94 v95 v80
  let c16_i32_63 : BitVec 32 := 16#32
  let v98 : BitVec 32 := Scalar.muli v96 c16_i32_63
  let v99 : BitVec 32 := Scalar.addi c0_i32_64 v98
  let c4_i32_61 : BitVec 32 := 4#32
  let v97 : BitVec 32 := Scalar.remsi v79 c4_i32_61
  let c4_i32_65 : BitVec 32 := 4#32
  let v100 : BitVec 32 := Scalar.muli v97 c4_i32_65
  let v101 : BitVec 32 := Scalar.addi v99 v100
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_66 : BitVec 32 := 1#32
  let v102 : BitVec 32 := Scalar.muli v40 c1_i32_66
  let v103 : BitVec 32 := Scalar.addi v101 v102
  v103.toNat
def k0_dev5 (d32 : Dev nD) : Nat :=
  let c0_i32_80 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c1_i32_67 : BitVec 32 := 1#32
  let v104 : BitVec 32 := Scalar.addi v42 c1_i32_67
  let c1_i32_68 : BitVec 32 := 1#32
  let v105 : BitVec 32 := Scalar.addi v104 c1_i32_68
  let c8_i32_69 : BitVec 32 := 8#32
  let v106 : BitVec 32 := Scalar.remsi v105 c8_i32_69
  let c0_i32_71 : BitVec 32 := 0#32
  let v108 : BitVec 1 := Scalar.cmpi .sgt v106 c0_i32_71
  let v109 : BitVec 32 := Scalar.extui v108
  let c0_i32_72 : BitVec 32 := 0#32
  let v110 : BitVec 1 := Scalar.cmpi .slt v106 c0_i32_72
  let v111 : BitVec 32 := Scalar.extui v110
  let v112 : BitVec 32 := Scalar.subi v109 v111
  let c4_i32_70 : BitVec 32 := 4#32
  let c0_i32_73 : BitVec 32 := 0#32
  let v113 : BitVec 1 := Scalar.cmpi .sgt c4_i32_70 c0_i32_73
  let v114 : BitVec 32 := Scalar.extui v113
  let c0_i32_74 : BitVec 32 := 0#32
  let v115 : BitVec 1 := Scalar.cmpi .slt c4_i32_70 c0_i32_74
  let v116 : BitVec 32 := Scalar.extui v115
  let v117 : BitVec 32 := Scalar.subi v114 v116
  let v118 : BitVec 1 := Scalar.cmpi .ne v112 v117
  let v119 : BitVec 32 := Scalar.remsi v106 c4_i32_70
  let c0_i32_75 : BitVec 32 := 0#32
  let v120 : BitVec 1 := Scalar.cmpi .ne v119 c0_i32_75
  let v121 : BitVec 1 := Scalar.andi v118 v120
  let v107 : BitVec 32 := Scalar.divsi v106 c4_i32_70
  let c1_i32_76 : BitVec 32 := 1#32
  let v122 : BitVec 32 := Scalar.subi v107 c1_i32_76
  let v123 : BitVec 32 := Scalar.select v121 v122 v107
  let c16_i32_79 : BitVec 32 := 16#32
  let v125 : BitVec 32 := Scalar.muli v123 c16_i32_79
  let v126 : BitVec 32 := Scalar.addi c0_i32_80 v125
  let c4_i32_77 : BitVec 32 := 4#32
  let v124 : BitVec 32 := Scalar.remsi v106 c4_i32_77
  let c4_i32_81 : BitVec 32 := 4#32
  let v127 : BitVec 32 := Scalar.muli v124 c4_i32_81
  let v128 : BitVec 32 := Scalar.addi v126 v127
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_82 : BitVec 32 := 1#32
  let v129 : BitVec 32 := Scalar.muli v40 c1_i32_82
  let v130 : BitVec 32 := Scalar.addi v128 v129
  v130.toNat
def k0_dev6 (d32 : Dev nD) : Nat :=
  let c0_i32_96 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c2_i32_83 : BitVec 32 := 2#32
  let v131 : BitVec 32 := Scalar.addi v42 c2_i32_83
  let c1_i32_84 : BitVec 32 := 1#32
  let v132 : BitVec 32 := Scalar.addi v131 c1_i32_84
  let c8_i32_85 : BitVec 32 := 8#32
  let v133 : BitVec 32 := Scalar.remsi v132 c8_i32_85
  let c0_i32_87 : BitVec 32 := 0#32
  let v135 : BitVec 1 := Scalar.cmpi .sgt v133 c0_i32_87
  let v136 : BitVec 32 := Scalar.extui v135
  let c0_i32_88 : BitVec 32 := 0#32
  let v137 : BitVec 1 := Scalar.cmpi .slt v133 c0_i32_88
  let v138 : BitVec 32 := Scalar.extui v137
  let v139 : BitVec 32 := Scalar.subi v136 v138
  let c4_i32_86 : BitVec 32 := 4#32
  let c0_i32_89 : BitVec 32 := 0#32
  let v140 : BitVec 1 := Scalar.cmpi .sgt c4_i32_86 c0_i32_89
  let v141 : BitVec 32 := Scalar.extui v140
  let c0_i32_90 : BitVec 32 := 0#32
  let v142 : BitVec 1 := Scalar.cmpi .slt c4_i32_86 c0_i32_90
  let v143 : BitVec 32 := Scalar.extui v142
  let v144 : BitVec 32 := Scalar.subi v141 v143
  let v145 : BitVec 1 := Scalar.cmpi .ne v139 v144
  let v146 : BitVec 32 := Scalar.remsi v133 c4_i32_86
  let c0_i32_91 : BitVec 32 := 0#32
  let v147 : BitVec 1 := Scalar.cmpi .ne v146 c0_i32_91
  let v148 : BitVec 1 := Scalar.andi v145 v147
  let v134 : BitVec 32 := Scalar.divsi v133 c4_i32_86
  let c1_i32_92 : BitVec 32 := 1#32
  let v149 : BitVec 32 := Scalar.subi v134 c1_i32_92
  let v150 : BitVec 32 := Scalar.select v148 v149 v134
  let c16_i32_95 : BitVec 32 := 16#32
  let v152 : BitVec 32 := Scalar.muli v150 c16_i32_95
  let v153 : BitVec 32 := Scalar.addi c0_i32_96 v152
  let c4_i32_93 : BitVec 32 := 4#32
  let v151 : BitVec 32 := Scalar.remsi v133 c4_i32_93
  let c4_i32_97 : BitVec 32 := 4#32
  let v154 : BitVec 32 := Scalar.muli v151 c4_i32_97
  let v155 : BitVec 32 := Scalar.addi v153 v154
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_98 : BitVec 32 := 1#32
  let v156 : BitVec 32 := Scalar.muli v40 c1_i32_98
  let v157 : BitVec 32 := Scalar.addi v155 v156
  v157.toNat
def k0_dev7 (d32 : Dev nD) : Nat :=
  let c0_i32_111 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c3_i32 : BitVec 32 := 3#32
  let v158 : BitVec 32 := Scalar.addi v42 c3_i32
  let c1_i32_99 : BitVec 32 := 1#32
  let v159 : BitVec 32 := Scalar.addi v158 c1_i32_99
  let c8_i32_100 : BitVec 32 := 8#32
  let v160 : BitVec 32 := Scalar.remsi v159 c8_i32_100
  let c0_i32_102 : BitVec 32 := 0#32
  let v162 : BitVec 1 := Scalar.cmpi .sgt v160 c0_i32_102
  let v163 : BitVec 32 := Scalar.extui v162
  let c0_i32_103 : BitVec 32 := 0#32
  let v164 : BitVec 1 := Scalar.cmpi .slt v160 c0_i32_103
  let v165 : BitVec 32 := Scalar.extui v164
  let v166 : BitVec 32 := Scalar.subi v163 v165
  let c4_i32_101 : BitVec 32 := 4#32
  let c0_i32_104 : BitVec 32 := 0#32
  let v167 : BitVec 1 := Scalar.cmpi .sgt c4_i32_101 c0_i32_104
  let v168 : BitVec 32 := Scalar.extui v167
  let c0_i32_105 : BitVec 32 := 0#32
  let v169 : BitVec 1 := Scalar.cmpi .slt c4_i32_101 c0_i32_105
  let v170 : BitVec 32 := Scalar.extui v169
  let v171 : BitVec 32 := Scalar.subi v168 v170
  let v172 : BitVec 1 := Scalar.cmpi .ne v166 v171
  let v173 : BitVec 32 := Scalar.remsi v160 c4_i32_101
  let c0_i32_106 : BitVec 32 := 0#32
  let v174 : BitVec 1 := Scalar.cmpi .ne v173 c0_i32_106
  let v175 : BitVec 1 := Scalar.andi v172 v174
  let v161 : BitVec 32 := Scalar.divsi v160 c4_i32_101
  let c1_i32_107 : BitVec 32 := 1#32
  let v176 : BitVec 32 := Scalar.subi v161 c1_i32_107
  let v177 : BitVec 32 := Scalar.select v175 v176 v161
  let c16_i32_110 : BitVec 32 := 16#32
  let v179 : BitVec 32 := Scalar.muli v177 c16_i32_110
  let v180 : BitVec 32 := Scalar.addi c0_i32_111 v179
  let c4_i32_108 : BitVec 32 := 4#32
  let v178 : BitVec 32 := Scalar.remsi v160 c4_i32_108
  let c4_i32_112 : BitVec 32 := 4#32
  let v181 : BitVec 32 := Scalar.muli v178 c4_i32_112
  let v182 : BitVec 32 := Scalar.addi v180 v181
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_113 : BitVec 32 := 1#32
  let v183 : BitVec 32 := Scalar.muli v40 c1_i32_113
  let v184 : BitVec 32 := Scalar.addi v182 v183
  v184.toNat
def k0_dev8 (d32 : Dev nD) : Nat :=
  let c0_i32_127 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c4_i32_114 : BitVec 32 := 4#32
  let v185 : BitVec 32 := Scalar.addi v42 c4_i32_114
  let c1_i32_115 : BitVec 32 := 1#32
  let v186 : BitVec 32 := Scalar.addi v185 c1_i32_115
  let c8_i32_116 : BitVec 32 := 8#32
  let v187 : BitVec 32 := Scalar.remsi v186 c8_i32_116
  let c0_i32_118 : BitVec 32 := 0#32
  let v189 : BitVec 1 := Scalar.cmpi .sgt v187 c0_i32_118
  let v190 : BitVec 32 := Scalar.extui v189
  let c0_i32_119 : BitVec 32 := 0#32
  let v191 : BitVec 1 := Scalar.cmpi .slt v187 c0_i32_119
  let v192 : BitVec 32 := Scalar.extui v191
  let v193 : BitVec 32 := Scalar.subi v190 v192
  let c4_i32_117 : BitVec 32 := 4#32
  let c0_i32_120 : BitVec 32 := 0#32
  let v194 : BitVec 1 := Scalar.cmpi .sgt c4_i32_117 c0_i32_120
  let v195 : BitVec 32 := Scalar.extui v194
  let c0_i32_121 : BitVec 32 := 0#32
  let v196 : BitVec 1 := Scalar.cmpi .slt c4_i32_117 c0_i32_121
  let v197 : BitVec 32 := Scalar.extui v196
  let v198 : BitVec 32 := Scalar.subi v195 v197
  let v199 : BitVec 1 := Scalar.cmpi .ne v193 v198
  let v200 : BitVec 32 := Scalar.remsi v187 c4_i32_117
  let c0_i32_122 : BitVec 32 := 0#32
  let v201 : BitVec 1 := Scalar.cmpi .ne v200 c0_i32_122
  let v202 : BitVec 1 := Scalar.andi v199 v201
  let v188 : BitVec 32 := Scalar.divsi v187 c4_i32_117
  let c1_i32_123 : BitVec 32 := 1#32
  let v203 : BitVec 32 := Scalar.subi v188 c1_i32_123
  let v204 : BitVec 32 := Scalar.select v202 v203 v188
  let c16_i32_126 : BitVec 32 := 16#32
  let v206 : BitVec 32 := Scalar.muli v204 c16_i32_126
  let v207 : BitVec 32 := Scalar.addi c0_i32_127 v206
  let c4_i32_124 : BitVec 32 := 4#32
  let v205 : BitVec 32 := Scalar.remsi v187 c4_i32_124
  let c4_i32_128 : BitVec 32 := 4#32
  let v208 : BitVec 32 := Scalar.muli v205 c4_i32_128
  let v209 : BitVec 32 := Scalar.addi v207 v208
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_129 : BitVec 32 := 1#32
  let v210 : BitVec 32 := Scalar.muli v40 c1_i32_129
  let v211 : BitVec 32 := Scalar.addi v209 v210
  v211.toNat
def k0_dev9 (d32 : Dev nD) : Nat :=
  let c0_i32_142 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c5_i32 : BitVec 32 := 5#32
  let v212 : BitVec 32 := Scalar.addi v42 c5_i32
  let c1_i32_130 : BitVec 32 := 1#32
  let v213 : BitVec 32 := Scalar.addi v212 c1_i32_130
  let c8_i32_131 : BitVec 32 := 8#32
  let v214 : BitVec 32 := Scalar.remsi v213 c8_i32_131
  let c0_i32_133 : BitVec 32 := 0#32
  let v216 : BitVec 1 := Scalar.cmpi .sgt v214 c0_i32_133
  let v217 : BitVec 32 := Scalar.extui v216
  let c0_i32_134 : BitVec 32 := 0#32
  let v218 : BitVec 1 := Scalar.cmpi .slt v214 c0_i32_134
  let v219 : BitVec 32 := Scalar.extui v218
  let v220 : BitVec 32 := Scalar.subi v217 v219
  let c4_i32_132 : BitVec 32 := 4#32
  let c0_i32_135 : BitVec 32 := 0#32
  let v221 : BitVec 1 := Scalar.cmpi .sgt c4_i32_132 c0_i32_135
  let v222 : BitVec 32 := Scalar.extui v221
  let c0_i32_136 : BitVec 32 := 0#32
  let v223 : BitVec 1 := Scalar.cmpi .slt c4_i32_132 c0_i32_136
  let v224 : BitVec 32 := Scalar.extui v223
  let v225 : BitVec 32 := Scalar.subi v222 v224
  let v226 : BitVec 1 := Scalar.cmpi .ne v220 v225
  let v227 : BitVec 32 := Scalar.remsi v214 c4_i32_132
  let c0_i32_137 : BitVec 32 := 0#32
  let v228 : BitVec 1 := Scalar.cmpi .ne v227 c0_i32_137
  let v229 : BitVec 1 := Scalar.andi v226 v228
  let v215 : BitVec 32 := Scalar.divsi v214 c4_i32_132
  let c1_i32_138 : BitVec 32 := 1#32
  let v230 : BitVec 32 := Scalar.subi v215 c1_i32_138
  let v231 : BitVec 32 := Scalar.select v229 v230 v215
  let c16_i32_141 : BitVec 32 := 16#32
  let v233 : BitVec 32 := Scalar.muli v231 c16_i32_141
  let v234 : BitVec 32 := Scalar.addi c0_i32_142 v233
  let c4_i32_139 : BitVec 32 := 4#32
  let v232 : BitVec 32 := Scalar.remsi v214 c4_i32_139
  let c4_i32_143 : BitVec 32 := 4#32
  let v235 : BitVec 32 := Scalar.muli v232 c4_i32_143
  let v236 : BitVec 32 := Scalar.addi v234 v235
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_144 : BitVec 32 := 1#32
  let v237 : BitVec 32 := Scalar.muli v40 c1_i32_144
  let v238 : BitVec 32 := Scalar.addi v236 v237
  v238.toNat
def k0_dev10 (d32 : Dev nD) : Nat :=
  let c0_i32_157 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c6_i32 : BitVec 32 := 6#32
  let v239 : BitVec 32 := Scalar.addi v42 c6_i32
  let c1_i32_145 : BitVec 32 := 1#32
  let v240 : BitVec 32 := Scalar.addi v239 c1_i32_145
  let c8_i32_146 : BitVec 32 := 8#32
  let v241 : BitVec 32 := Scalar.remsi v240 c8_i32_146
  let c0_i32_148 : BitVec 32 := 0#32
  let v243 : BitVec 1 := Scalar.cmpi .sgt v241 c0_i32_148
  let v244 : BitVec 32 := Scalar.extui v243
  let c0_i32_149 : BitVec 32 := 0#32
  let v245 : BitVec 1 := Scalar.cmpi .slt v241 c0_i32_149
  let v246 : BitVec 32 := Scalar.extui v245
  let v247 : BitVec 32 := Scalar.subi v244 v246
  let c4_i32_147 : BitVec 32 := 4#32
  let c0_i32_150 : BitVec 32 := 0#32
  let v248 : BitVec 1 := Scalar.cmpi .sgt c4_i32_147 c0_i32_150
  let v249 : BitVec 32 := Scalar.extui v248
  let c0_i32_151 : BitVec 32 := 0#32
  let v250 : BitVec 1 := Scalar.cmpi .slt c4_i32_147 c0_i32_151
  let v251 : BitVec 32 := Scalar.extui v250
  let v252 : BitVec 32 := Scalar.subi v249 v251
  let v253 : BitVec 1 := Scalar.cmpi .ne v247 v252
  let v254 : BitVec 32 := Scalar.remsi v241 c4_i32_147
  let c0_i32_152 : BitVec 32 := 0#32
  let v255 : BitVec 1 := Scalar.cmpi .ne v254 c0_i32_152
  let v256 : BitVec 1 := Scalar.andi v253 v255
  let v242 : BitVec 32 := Scalar.divsi v241 c4_i32_147
  let c1_i32_153 : BitVec 32 := 1#32
  let v257 : BitVec 32 := Scalar.subi v242 c1_i32_153
  let v258 : BitVec 32 := Scalar.select v256 v257 v242
  let c16_i32_156 : BitVec 32 := 16#32
  let v260 : BitVec 32 := Scalar.muli v258 c16_i32_156
  let v261 : BitVec 32 := Scalar.addi c0_i32_157 v260
  let c4_i32_154 : BitVec 32 := 4#32
  let v259 : BitVec 32 := Scalar.remsi v241 c4_i32_154
  let c4_i32_158 : BitVec 32 := 4#32
  let v262 : BitVec 32 := Scalar.muli v259 c4_i32_158
  let v263 : BitVec 32 := Scalar.addi v261 v262
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_159 : BitVec 32 := 1#32
  let v264 : BitVec 32 := Scalar.muli v40 c1_i32_159
  let v265 : BitVec 32 := Scalar.addi v263 v264
  v265.toNat
def k0_dev11 (d32 : Dev nD) : Nat :=
  let c0_i32_168 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c16_i32_167 : BitVec 32 := 16#32
  let v269 : BitVec 32 := Scalar.muli v34 c16_i32_167
  let v270 : BitVec 32 := Scalar.addi c0_i32_168 v269
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let c4_i32_169 : BitVec 32 := 4#32
  let v271 : BitVec 32 := Scalar.muli v37 c4_i32_169
  let v272 : BitVec 32 := Scalar.addi v270 v271
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c0_i32_160 : BitVec 32 := 0#32
  let v266 : BitVec 32 := Scalar.addi v40 c0_i32_160
  let c1_i32_161 : BitVec 32 := 1#32
  let v267 : BitVec 32 := Scalar.addi v266 c1_i32_161
  let c4_i32_162 : BitVec 32 := 4#32
  let v268 : BitVec 32 := Scalar.remsi v267 c4_i32_162
  let c1_i32_170 : BitVec 32 := 1#32
  let v273 : BitVec 32 := Scalar.muli v268 c1_i32_170
  let v274 : BitVec 32 := Scalar.addi v272 v273
  v274.toNat
def k0_dev12 (d32 : Dev nD) : Nat :=
  let c0_i32_183 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c16_i32_182 : BitVec 32 := 16#32
  let v284 : BitVec 32 := Scalar.muli v34 c16_i32_182
  let v285 : BitVec 32 := Scalar.addi c0_i32_183 v284
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let c4_i32_184 : BitVec 32 := 4#32
  let v286 : BitVec 32 := Scalar.muli v37 c4_i32_184
  let v287 : BitVec 32 := Scalar.addi v285 v286
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_175 : BitVec 32 := 1#32
  let v281 : BitVec 32 := Scalar.addi v40 c1_i32_175
  let c1_i32_176 : BitVec 32 := 1#32
  let v282 : BitVec 32 := Scalar.addi v281 c1_i32_176
  let c4_i32_177 : BitVec 32 := 4#32
  let v283 : BitVec 32 := Scalar.remsi v282 c4_i32_177
  let c1_i32_185 : BitVec 32 := 1#32
  let v288 : BitVec 32 := Scalar.muli v283 c1_i32_185
  let v289 : BitVec 32 := Scalar.addi v287 v288
  v289.toNat
def k0_dev13 (d32 : Dev nD) : Nat :=
  let c0_i32_198 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c16_i32_197 : BitVec 32 := 16#32
  let v299 : BitVec 32 := Scalar.muli v34 c16_i32_197
  let v300 : BitVec 32 := Scalar.addi c0_i32_198 v299
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let c4_i32_199 : BitVec 32 := 4#32
  let v301 : BitVec 32 := Scalar.muli v37 c4_i32_199
  let v302 : BitVec 32 := Scalar.addi v300 v301
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c2_i32_190 : BitVec 32 := 2#32
  let v296 : BitVec 32 := Scalar.addi v40 c2_i32_190
  let c1_i32_191 : BitVec 32 := 1#32
  let v297 : BitVec 32 := Scalar.addi v296 c1_i32_191
  let c4_i32_192 : BitVec 32 := 4#32
  let v298 : BitVec 32 := Scalar.remsi v297 c4_i32_192
  let c1_i32_200 : BitVec 32 := 1#32
  let v303 : BitVec 32 := Scalar.muli v298 c1_i32_200
  let v304 : BitVec 32 := Scalar.addi v302 v303
  v304.toNat
def k0_cond2 (i : grid0.Coords) : BitVec 1 :=
  let arg0 : BitVec 32 := BitVec.ofNat 32 (i 0).val
  let c1_i32_26 : BitVec 32 := 1#32
  let v46 : BitVec 1 := Scalar.cmpi .eq arg0 c1_i32_26
  let v47 : BitVec 32 := Scalar.extui v46
  let c0_i32_27 : BitVec 32 := 0#32
  let v48 : BitVec 1 := Scalar.cmpi .ne v47 c0_i32_27
  v48

def k0_dev14 (d32 : Dev nD) : Nat :=
  let c0_i32_36 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c16_i32_35 : BitVec 32 := 16#32
  let v52 : BitVec 32 := Scalar.muli v34 c16_i32_35
  let v53 : BitVec 32 := Scalar.addi c0_i32_36 v52
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let c4_i32_37 : BitVec 32 := 4#32
  let v54 : BitVec 32 := Scalar.muli v37 c4_i32_37
  let v55 : BitVec 32 := Scalar.addi v53 v54
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c0_i32_28 : BitVec 32 := 0#32
  let v49 : BitVec 32 := Scalar.addi v40 c0_i32_28
  let c1_i32_29 : BitVec 32 := 1#32
  let v50 : BitVec 32 := Scalar.addi v49 c1_i32_29
  let c4_i32_30 : BitVec 32 := 4#32
  let v51 : BitVec 32 := Scalar.remsi v50 c4_i32_30
  let c1_i32_38 : BitVec 32 := 1#32
  let v56 : BitVec 32 := Scalar.muli v51 c1_i32_38
  let v57 : BitVec 32 := Scalar.addi v55 v56
  v57.toNat
def k0_dev15 (d32 : Dev nD) : Nat :=
  let c0_i32_51 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c16_i32_50 : BitVec 32 := 16#32
  let v67 : BitVec 32 := Scalar.muli v34 c16_i32_50
  let v68 : BitVec 32 := Scalar.addi c0_i32_51 v67
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let c4_i32_52 : BitVec 32 := 4#32
  let v69 : BitVec 32 := Scalar.muli v37 c4_i32_52
  let v70 : BitVec 32 := Scalar.addi v68 v69
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_43 : BitVec 32 := 1#32
  let v64 : BitVec 32 := Scalar.addi v40 c1_i32_43
  let c1_i32_44 : BitVec 32 := 1#32
  let v65 : BitVec 32 := Scalar.addi v64 c1_i32_44
  let c4_i32_45 : BitVec 32 := 4#32
  let v66 : BitVec 32 := Scalar.remsi v65 c4_i32_45
  let c1_i32_53 : BitVec 32 := 1#32
  let v71 : BitVec 32 := Scalar.muli v66 c1_i32_53
  let v72 : BitVec 32 := Scalar.addi v70 v71
  v72.toNat
def k0_dev16 (d32 : Dev nD) : Nat :=
  let c0_i32_66 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c16_i32_65 : BitVec 32 := 16#32
  let v82 : BitVec 32 := Scalar.muli v34 c16_i32_65
  let v83 : BitVec 32 := Scalar.addi c0_i32_66 v82
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let c4_i32_67 : BitVec 32 := 4#32
  let v84 : BitVec 32 := Scalar.muli v37 c4_i32_67
  let v85 : BitVec 32 := Scalar.addi v83 v84
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c2_i32_58 : BitVec 32 := 2#32
  let v79 : BitVec 32 := Scalar.addi v40 c2_i32_58
  let c1_i32_59 : BitVec 32 := 1#32
  let v80 : BitVec 32 := Scalar.addi v79 c1_i32_59
  let c4_i32_60 : BitVec 32 := 4#32
  let v81 : BitVec 32 := Scalar.remsi v80 c4_i32_60
  let c1_i32_68 : BitVec 32 := 1#32
  let v86 : BitVec 32 := Scalar.muli v81 c1_i32_68
  let v87 : BitVec 32 := Scalar.addi v85 v86
  v87.toNat
def k0_off2 (v0 : BitVec 32) (c0_i32_158 : BitVec 32) : Fin 2 → Nat :=
  let v162 : BitVec 32 := Scalar.addi v0 c0_i32_158
  let v163 : Index := Scalar.indexCast v162
  let c0_159 : Index := 0#32
  ![v163.toNat, 0]

def k0_off3 (v0 : BitVec 32) (c0_i32_162 : BitVec 32) : Fin 2 → Nat :=
  let v168 : BitVec 32 := Scalar.addi v0 c0_i32_162
  let c0_i32_179 : BitVec 32 := 0#32
  ![v168.toNat, 0]

def k0_chk1 (i : grid0.Coords) (v0 : BitVec 32) : Prop :=
  (∀ (k0_h2 : k0_cond2 i = 1#1), ∀ (r : Fin 2), ∀ a, (k0_off2 v0 (BitVec.ofNat 32 r.val)) a + S1x1024.size a ≤ S16x1024.size a) ∧
  (∀ (k0_h2 : k0_cond2 i = 1#1), ∀ (r : Fin 2), ∀ a, (k0_off3 v0 (BitVec.ofNat 32 r.val)) a + S1x1024.size a ≤ S16x1024.size a)
theorem k0_off2_inb : ∀ (i : grid0.Coords) (v0 : BitVec 32) (k0_hw1 : k0_chk1 i v0), ∀ (k0_h2 : k0_cond2 i = 1#1), ∀ (r : Fin 2), ∀ a, (k0_off2 v0 (BitVec.ofNat 32 r.val)) a + S1x1024.size a ≤ S16x1024.size a := fun i v0 k0_hw1 k0_h2 r => k0_hw1.1 k0_h2 r
theorem k0_off3_inb : ∀ (i : grid0.Coords) (v0 : BitVec 32) (k0_hw1 : k0_chk1 i v0), ∀ (k0_h2 : k0_cond2 i = 1#1), ∀ (r : Fin 2), ∀ a, (k0_off3 v0 (BitVec.ofNat 32 r.val)) a + S1x1024.size a ≤ S16x1024.size a := fun i v0 k0_hw1 k0_h2 r => k0_hw1.2 k0_h2 r

def k0_dev17 (d32 : Dev nD) : Nat :=
  let c0_i32_176 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c0_i32_160 : BitVec 32 := 0#32
  let v165 : BitVec 32 := Scalar.addi v42 c0_i32_160
  let c1_i32_161 : BitVec 32 := 1#32
  let v166 : BitVec 32 := Scalar.addi v165 c1_i32_161
  let c8_i32 : BitVec 32 := 8#32
  let v167 : BitVec 32 := Scalar.remsi v166 c8_i32
  let c0_i32_164 : BitVec 32 := 0#32
  let v170 : BitVec 1 := Scalar.cmpi .sgt v167 c0_i32_164
  let v171 : BitVec 32 := Scalar.extui v170
  let c0_i32_165 : BitVec 32 := 0#32
  let v172 : BitVec 1 := Scalar.cmpi .slt v167 c0_i32_165
  let v173 : BitVec 32 := Scalar.extui v172
  let v174 : BitVec 32 := Scalar.subi v171 v173
  let c4_i32_163 : BitVec 32 := 4#32
  let c0_i32_166 : BitVec 32 := 0#32
  let v175 : BitVec 1 := Scalar.cmpi .sgt c4_i32_163 c0_i32_166
  let v176 : BitVec 32 := Scalar.extui v175
  let c0_i32_167 : BitVec 32 := 0#32
  let v177 : BitVec 1 := Scalar.cmpi .slt c4_i32_163 c0_i32_167
  let v178 : BitVec 32 := Scalar.extui v177
  let v179 : BitVec 32 := Scalar.subi v176 v178
  let v180 : BitVec 1 := Scalar.cmpi .ne v174 v179
  let v181 : BitVec 32 := Scalar.remsi v167 c4_i32_163
  let c0_i32_168 : BitVec 32 := 0#32
  let v182 : BitVec 1 := Scalar.cmpi .ne v181 c0_i32_168
  let v183 : BitVec 1 := Scalar.andi v180 v182
  let v169 : BitVec 32 := Scalar.divsi v167 c4_i32_163
  let c1_i32_169 : BitVec 32 := 1#32
  let v184 : BitVec 32 := Scalar.subi v169 c1_i32_169
  let v185 : BitVec 32 := Scalar.select v183 v184 v169
  let c16_i32_175 : BitVec 32 := 16#32
  let v187 : BitVec 32 := Scalar.muli v185 c16_i32_175
  let v188 : BitVec 32 := Scalar.addi c0_i32_176 v187
  let c4_i32_170 : BitVec 32 := 4#32
  let v186 : BitVec 32 := Scalar.remsi v167 c4_i32_170
  let c4_i32_177 : BitVec 32 := 4#32
  let v189 : BitVec 32 := Scalar.muli v186 c4_i32_177
  let v190 : BitVec 32 := Scalar.addi v188 v189
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_178 : BitVec 32 := 1#32
  let v191 : BitVec 32 := Scalar.muli v40 c1_i32_178
  let v192 : BitVec 32 := Scalar.addi v190 v191
  v192.toNat
def k0_dev18 (d32 : Dev nD) : Nat :=
  let c0_i32_199 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c1_i32_182 : BitVec 32 := 1#32
  let v199 : BitVec 32 := Scalar.addi v42 c1_i32_182
  let c1_i32_183 : BitVec 32 := 1#32
  let v200 : BitVec 32 := Scalar.addi v199 c1_i32_183
  let c8_i32_184 : BitVec 32 := 8#32
  let v201 : BitVec 32 := Scalar.remsi v200 c8_i32_184
  let c0_i32_187 : BitVec 32 := 0#32
  let v204 : BitVec 1 := Scalar.cmpi .sgt v201 c0_i32_187
  let v205 : BitVec 32 := Scalar.extui v204
  let c0_i32_188 : BitVec 32 := 0#32
  let v206 : BitVec 1 := Scalar.cmpi .slt v201 c0_i32_188
  let v207 : BitVec 32 := Scalar.extui v206
  let v208 : BitVec 32 := Scalar.subi v205 v207
  let c4_i32_186 : BitVec 32 := 4#32
  let c0_i32_189 : BitVec 32 := 0#32
  let v209 : BitVec 1 := Scalar.cmpi .sgt c4_i32_186 c0_i32_189
  let v210 : BitVec 32 := Scalar.extui v209
  let c0_i32_190 : BitVec 32 := 0#32
  let v211 : BitVec 1 := Scalar.cmpi .slt c4_i32_186 c0_i32_190
  let v212 : BitVec 32 := Scalar.extui v211
  let v213 : BitVec 32 := Scalar.subi v210 v212
  let v214 : BitVec 1 := Scalar.cmpi .ne v208 v213
  let v215 : BitVec 32 := Scalar.remsi v201 c4_i32_186
  let c0_i32_191 : BitVec 32 := 0#32
  let v216 : BitVec 1 := Scalar.cmpi .ne v215 c0_i32_191
  let v217 : BitVec 1 := Scalar.andi v214 v216
  let v203 : BitVec 32 := Scalar.divsi v201 c4_i32_186
  let c1_i32_192 : BitVec 32 := 1#32
  let v218 : BitVec 32 := Scalar.subi v203 c1_i32_192
  let v219 : BitVec 32 := Scalar.select v217 v218 v203
  let c16_i32_198 : BitVec 32 := 16#32
  let v221 : BitVec 32 := Scalar.muli v219 c16_i32_198
  let v222 : BitVec 32 := Scalar.addi c0_i32_199 v221
  let c4_i32_193 : BitVec 32 := 4#32
  let v220 : BitVec 32 := Scalar.remsi v201 c4_i32_193
  let c4_i32_200 : BitVec 32 := 4#32
  let v223 : BitVec 32 := Scalar.muli v220 c4_i32_200
  let v224 : BitVec 32 := Scalar.addi v222 v223
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_201 : BitVec 32 := 1#32
  let v225 : BitVec 32 := Scalar.muli v40 c1_i32_201
  let v226 : BitVec 32 := Scalar.addi v224 v225
  v226.toNat
def k0_dev19 (d32 : Dev nD) : Nat :=
  let c0_i32_222 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c2_i32_205 : BitVec 32 := 2#32
  let v233 : BitVec 32 := Scalar.addi v42 c2_i32_205
  let c1_i32_206 : BitVec 32 := 1#32
  let v234 : BitVec 32 := Scalar.addi v233 c1_i32_206
  let c8_i32_207 : BitVec 32 := 8#32
  let v235 : BitVec 32 := Scalar.remsi v234 c8_i32_207
  let c0_i32_210 : BitVec 32 := 0#32
  let v238 : BitVec 1 := Scalar.cmpi .sgt v235 c0_i32_210
  let v239 : BitVec 32 := Scalar.extui v238
  let c0_i32_211 : BitVec 32 := 0#32
  let v240 : BitVec 1 := Scalar.cmpi .slt v235 c0_i32_211
  let v241 : BitVec 32 := Scalar.extui v240
  let v242 : BitVec 32 := Scalar.subi v239 v241
  let c4_i32_209 : BitVec 32 := 4#32
  let c0_i32_212 : BitVec 32 := 0#32
  let v243 : BitVec 1 := Scalar.cmpi .sgt c4_i32_209 c0_i32_212
  let v244 : BitVec 32 := Scalar.extui v243
  let c0_i32_213 : BitVec 32 := 0#32
  let v245 : BitVec 1 := Scalar.cmpi .slt c4_i32_209 c0_i32_213
  let v246 : BitVec 32 := Scalar.extui v245
  let v247 : BitVec 32 := Scalar.subi v244 v246
  let v248 : BitVec 1 := Scalar.cmpi .ne v242 v247
  let v249 : BitVec 32 := Scalar.remsi v235 c4_i32_209
  let c0_i32_214 : BitVec 32 := 0#32
  let v250 : BitVec 1 := Scalar.cmpi .ne v249 c0_i32_214
  let v251 : BitVec 1 := Scalar.andi v248 v250
  let v237 : BitVec 32 := Scalar.divsi v235 c4_i32_209
  let c1_i32_215 : BitVec 32 := 1#32
  let v252 : BitVec 32 := Scalar.subi v237 c1_i32_215
  let v253 : BitVec 32 := Scalar.select v251 v252 v237
  let c16_i32_221 : BitVec 32 := 16#32
  let v255 : BitVec 32 := Scalar.muli v253 c16_i32_221
  let v256 : BitVec 32 := Scalar.addi c0_i32_222 v255
  let c4_i32_216 : BitVec 32 := 4#32
  let v254 : BitVec 32 := Scalar.remsi v235 c4_i32_216
  let c4_i32_223 : BitVec 32 := 4#32
  let v257 : BitVec 32 := Scalar.muli v254 c4_i32_223
  let v258 : BitVec 32 := Scalar.addi v256 v257
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_224 : BitVec 32 := 1#32
  let v259 : BitVec 32 := Scalar.muli v40 c1_i32_224
  let v260 : BitVec 32 := Scalar.addi v258 v259
  v260.toNat
def k0_dev20 (d32 : Dev nD) : Nat :=
  let c0_i32_244 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c3_i32 : BitVec 32 := 3#32
  let v267 : BitVec 32 := Scalar.addi v42 c3_i32
  let c1_i32_228 : BitVec 32 := 1#32
  let v268 : BitVec 32 := Scalar.addi v267 c1_i32_228
  let c8_i32_229 : BitVec 32 := 8#32
  let v269 : BitVec 32 := Scalar.remsi v268 c8_i32_229
  let c0_i32_232 : BitVec 32 := 0#32
  let v272 : BitVec 1 := Scalar.cmpi .sgt v269 c0_i32_232
  let v273 : BitVec 32 := Scalar.extui v272
  let c0_i32_233 : BitVec 32 := 0#32
  let v274 : BitVec 1 := Scalar.cmpi .slt v269 c0_i32_233
  let v275 : BitVec 32 := Scalar.extui v274
  let v276 : BitVec 32 := Scalar.subi v273 v275
  let c4_i32_231 : BitVec 32 := 4#32
  let c0_i32_234 : BitVec 32 := 0#32
  let v277 : BitVec 1 := Scalar.cmpi .sgt c4_i32_231 c0_i32_234
  let v278 : BitVec 32 := Scalar.extui v277
  let c0_i32_235 : BitVec 32 := 0#32
  let v279 : BitVec 1 := Scalar.cmpi .slt c4_i32_231 c0_i32_235
  let v280 : BitVec 32 := Scalar.extui v279
  let v281 : BitVec 32 := Scalar.subi v278 v280
  let v282 : BitVec 1 := Scalar.cmpi .ne v276 v281
  let v283 : BitVec 32 := Scalar.remsi v269 c4_i32_231
  let c0_i32_236 : BitVec 32 := 0#32
  let v284 : BitVec 1 := Scalar.cmpi .ne v283 c0_i32_236
  let v285 : BitVec 1 := Scalar.andi v282 v284
  let v271 : BitVec 32 := Scalar.divsi v269 c4_i32_231
  let c1_i32_237 : BitVec 32 := 1#32
  let v286 : BitVec 32 := Scalar.subi v271 c1_i32_237
  let v287 : BitVec 32 := Scalar.select v285 v286 v271
  let c16_i32_243 : BitVec 32 := 16#32
  let v289 : BitVec 32 := Scalar.muli v287 c16_i32_243
  let v290 : BitVec 32 := Scalar.addi c0_i32_244 v289
  let c4_i32_238 : BitVec 32 := 4#32
  let v288 : BitVec 32 := Scalar.remsi v269 c4_i32_238
  let c4_i32_245 : BitVec 32 := 4#32
  let v291 : BitVec 32 := Scalar.muli v288 c4_i32_245
  let v292 : BitVec 32 := Scalar.addi v290 v291
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_246 : BitVec 32 := 1#32
  let v293 : BitVec 32 := Scalar.muli v40 c1_i32_246
  let v294 : BitVec 32 := Scalar.addi v292 v293
  v294.toNat
def k0_dev21 (d32 : Dev nD) : Nat :=
  let c0_i32_267 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c4_i32_250 : BitVec 32 := 4#32
  let v301 : BitVec 32 := Scalar.addi v42 c4_i32_250
  let c1_i32_251 : BitVec 32 := 1#32
  let v302 : BitVec 32 := Scalar.addi v301 c1_i32_251
  let c8_i32_252 : BitVec 32 := 8#32
  let v303 : BitVec 32 := Scalar.remsi v302 c8_i32_252
  let c0_i32_255 : BitVec 32 := 0#32
  let v306 : BitVec 1 := Scalar.cmpi .sgt v303 c0_i32_255
  let v307 : BitVec 32 := Scalar.extui v306
  let c0_i32_256 : BitVec 32 := 0#32
  let v308 : BitVec 1 := Scalar.cmpi .slt v303 c0_i32_256
  let v309 : BitVec 32 := Scalar.extui v308
  let v310 : BitVec 32 := Scalar.subi v307 v309
  let c4_i32_254 : BitVec 32 := 4#32
  let c0_i32_257 : BitVec 32 := 0#32
  let v311 : BitVec 1 := Scalar.cmpi .sgt c4_i32_254 c0_i32_257
  let v312 : BitVec 32 := Scalar.extui v311
  let c0_i32_258 : BitVec 32 := 0#32
  let v313 : BitVec 1 := Scalar.cmpi .slt c4_i32_254 c0_i32_258
  let v314 : BitVec 32 := Scalar.extui v313
  let v315 : BitVec 32 := Scalar.subi v312 v314
  let v316 : BitVec 1 := Scalar.cmpi .ne v310 v315
  let v317 : BitVec 32 := Scalar.remsi v303 c4_i32_254
  let c0_i32_259 : BitVec 32 := 0#32
  let v318 : BitVec 1 := Scalar.cmpi .ne v317 c0_i32_259
  let v319 : BitVec 1 := Scalar.andi v316 v318
  let v305 : BitVec 32 := Scalar.divsi v303 c4_i32_254
  let c1_i32_260 : BitVec 32 := 1#32
  let v320 : BitVec 32 := Scalar.subi v305 c1_i32_260
  let v321 : BitVec 32 := Scalar.select v319 v320 v305
  let c16_i32_266 : BitVec 32 := 16#32
  let v323 : BitVec 32 := Scalar.muli v321 c16_i32_266
  let v324 : BitVec 32 := Scalar.addi c0_i32_267 v323
  let c4_i32_261 : BitVec 32 := 4#32
  let v322 : BitVec 32 := Scalar.remsi v303 c4_i32_261
  let c4_i32_268 : BitVec 32 := 4#32
  let v325 : BitVec 32 := Scalar.muli v322 c4_i32_268
  let v326 : BitVec 32 := Scalar.addi v324 v325
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_269 : BitVec 32 := 1#32
  let v327 : BitVec 32 := Scalar.muli v40 c1_i32_269
  let v328 : BitVec 32 := Scalar.addi v326 v327
  v328.toNat
def k0_dev22 (d32 : Dev nD) : Nat :=
  let c0_i32_289 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c5_i32 : BitVec 32 := 5#32
  let v335 : BitVec 32 := Scalar.addi v42 c5_i32
  let c1_i32_273 : BitVec 32 := 1#32
  let v336 : BitVec 32 := Scalar.addi v335 c1_i32_273
  let c8_i32_274 : BitVec 32 := 8#32
  let v337 : BitVec 32 := Scalar.remsi v336 c8_i32_274
  let c0_i32_277 : BitVec 32 := 0#32
  let v340 : BitVec 1 := Scalar.cmpi .sgt v337 c0_i32_277
  let v341 : BitVec 32 := Scalar.extui v340
  let c0_i32_278 : BitVec 32 := 0#32
  let v342 : BitVec 1 := Scalar.cmpi .slt v337 c0_i32_278
  let v343 : BitVec 32 := Scalar.extui v342
  let v344 : BitVec 32 := Scalar.subi v341 v343
  let c4_i32_276 : BitVec 32 := 4#32
  let c0_i32_279 : BitVec 32 := 0#32
  let v345 : BitVec 1 := Scalar.cmpi .sgt c4_i32_276 c0_i32_279
  let v346 : BitVec 32 := Scalar.extui v345
  let c0_i32_280 : BitVec 32 := 0#32
  let v347 : BitVec 1 := Scalar.cmpi .slt c4_i32_276 c0_i32_280
  let v348 : BitVec 32 := Scalar.extui v347
  let v349 : BitVec 32 := Scalar.subi v346 v348
  let v350 : BitVec 1 := Scalar.cmpi .ne v344 v349
  let v351 : BitVec 32 := Scalar.remsi v337 c4_i32_276
  let c0_i32_281 : BitVec 32 := 0#32
  let v352 : BitVec 1 := Scalar.cmpi .ne v351 c0_i32_281
  let v353 : BitVec 1 := Scalar.andi v350 v352
  let v339 : BitVec 32 := Scalar.divsi v337 c4_i32_276
  let c1_i32_282 : BitVec 32 := 1#32
  let v354 : BitVec 32 := Scalar.subi v339 c1_i32_282
  let v355 : BitVec 32 := Scalar.select v353 v354 v339
  let c16_i32_288 : BitVec 32 := 16#32
  let v357 : BitVec 32 := Scalar.muli v355 c16_i32_288
  let v358 : BitVec 32 := Scalar.addi c0_i32_289 v357
  let c4_i32_283 : BitVec 32 := 4#32
  let v356 : BitVec 32 := Scalar.remsi v337 c4_i32_283
  let c4_i32_290 : BitVec 32 := 4#32
  let v359 : BitVec 32 := Scalar.muli v356 c4_i32_290
  let v360 : BitVec 32 := Scalar.addi v358 v359
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_291 : BitVec 32 := 1#32
  let v361 : BitVec 32 := Scalar.muli v40 c1_i32_291
  let v362 : BitVec 32 := Scalar.addi v360 v361
  v362.toNat
def k0_dev23 (d32 : Dev nD) : Nat :=
  let c0_i32_311 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c6_i32 : BitVec 32 := 6#32
  let v369 : BitVec 32 := Scalar.addi v42 c6_i32
  let c1_i32_295 : BitVec 32 := 1#32
  let v370 : BitVec 32 := Scalar.addi v369 c1_i32_295
  let c8_i32_296 : BitVec 32 := 8#32
  let v371 : BitVec 32 := Scalar.remsi v370 c8_i32_296
  let c0_i32_299 : BitVec 32 := 0#32
  let v374 : BitVec 1 := Scalar.cmpi .sgt v371 c0_i32_299
  let v375 : BitVec 32 := Scalar.extui v374
  let c0_i32_300 : BitVec 32 := 0#32
  let v376 : BitVec 1 := Scalar.cmpi .slt v371 c0_i32_300
  let v377 : BitVec 32 := Scalar.extui v376
  let v378 : BitVec 32 := Scalar.subi v375 v377
  let c4_i32_298 : BitVec 32 := 4#32
  let c0_i32_301 : BitVec 32 := 0#32
  let v379 : BitVec 1 := Scalar.cmpi .sgt c4_i32_298 c0_i32_301
  let v380 : BitVec 32 := Scalar.extui v379
  let c0_i32_302 : BitVec 32 := 0#32
  let v381 : BitVec 1 := Scalar.cmpi .slt c4_i32_298 c0_i32_302
  let v382 : BitVec 32 := Scalar.extui v381
  let v383 : BitVec 32 := Scalar.subi v380 v382
  let v384 : BitVec 1 := Scalar.cmpi .ne v378 v383
  let v385 : BitVec 32 := Scalar.remsi v371 c4_i32_298
  let c0_i32_303 : BitVec 32 := 0#32
  let v386 : BitVec 1 := Scalar.cmpi .ne v385 c0_i32_303
  let v387 : BitVec 1 := Scalar.andi v384 v386
  let v373 : BitVec 32 := Scalar.divsi v371 c4_i32_298
  let c1_i32_304 : BitVec 32 := 1#32
  let v388 : BitVec 32 := Scalar.subi v373 c1_i32_304
  let v389 : BitVec 32 := Scalar.select v387 v388 v373
  let c16_i32_310 : BitVec 32 := 16#32
  let v391 : BitVec 32 := Scalar.muli v389 c16_i32_310
  let v392 : BitVec 32 := Scalar.addi c0_i32_311 v391
  let c4_i32_305 : BitVec 32 := 4#32
  let v390 : BitVec 32 := Scalar.remsi v371 c4_i32_305
  let c4_i32_312 : BitVec 32 := 4#32
  let v393 : BitVec 32 := Scalar.muli v390 c4_i32_312
  let v394 : BitVec 32 := Scalar.addi v392 v393
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_313 : BitVec 32 := 1#32
  let v395 : BitVec 32 := Scalar.muli v40 c1_i32_313
  let v396 : BitVec 32 := Scalar.addi v394 v395
  v396.toNat
def k0_dev24 (d32 : Dev nD) : Nat :=
  let c0_i32_423 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c0_i32_406 : BitVec 32 := 0#32
  let v474 : BitVec 32 := Scalar.addi v42 c0_i32_406
  let c1_i32_407 : BitVec 32 := 1#32
  let v475 : BitVec 32 := Scalar.addi v474 c1_i32_407
  let c8_i32_408 : BitVec 32 := 8#32
  let v476 : BitVec 32 := Scalar.remsi v475 c8_i32_408
  let c0_i32_411 : BitVec 32 := 0#32
  let v479 : BitVec 1 := Scalar.cmpi .sgt v476 c0_i32_411
  let v480 : BitVec 32 := Scalar.extui v479
  let c0_i32_412 : BitVec 32 := 0#32
  let v481 : BitVec 1 := Scalar.cmpi .slt v476 c0_i32_412
  let v482 : BitVec 32 := Scalar.extui v481
  let v483 : BitVec 32 := Scalar.subi v480 v482
  let c4_i32_410 : BitVec 32 := 4#32
  let c0_i32_413 : BitVec 32 := 0#32
  let v484 : BitVec 1 := Scalar.cmpi .sgt c4_i32_410 c0_i32_413
  let v485 : BitVec 32 := Scalar.extui v484
  let c0_i32_414 : BitVec 32 := 0#32
  let v486 : BitVec 1 := Scalar.cmpi .slt c4_i32_410 c0_i32_414
  let v487 : BitVec 32 := Scalar.extui v486
  let v488 : BitVec 32 := Scalar.subi v485 v487
  let v489 : BitVec 1 := Scalar.cmpi .ne v483 v488
  let v490 : BitVec 32 := Scalar.remsi v476 c4_i32_410
  let c0_i32_415 : BitVec 32 := 0#32
  let v491 : BitVec 1 := Scalar.cmpi .ne v490 c0_i32_415
  let v492 : BitVec 1 := Scalar.andi v489 v491
  let v478 : BitVec 32 := Scalar.divsi v476 c4_i32_410
  let c1_i32_416 : BitVec 32 := 1#32
  let v493 : BitVec 32 := Scalar.subi v478 c1_i32_416
  let v494 : BitVec 32 := Scalar.select v492 v493 v478
  let c16_i32_422 : BitVec 32 := 16#32
  let v496 : BitVec 32 := Scalar.muli v494 c16_i32_422
  let v497 : BitVec 32 := Scalar.addi c0_i32_423 v496
  let c4_i32_417 : BitVec 32 := 4#32
  let v495 : BitVec 32 := Scalar.remsi v476 c4_i32_417
  let c4_i32_424 : BitVec 32 := 4#32
  let v498 : BitVec 32 := Scalar.muli v495 c4_i32_424
  let v499 : BitVec 32 := Scalar.addi v497 v498
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_425 : BitVec 32 := 1#32
  let v500 : BitVec 32 := Scalar.muli v40 c1_i32_425
  let v501 : BitVec 32 := Scalar.addi v499 v500
  v501.toNat
def k0_dev25 (d32 : Dev nD) : Nat :=
  let c0_i32_446 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c1_i32_429 : BitVec 32 := 1#32
  let v508 : BitVec 32 := Scalar.addi v42 c1_i32_429
  let c1_i32_430 : BitVec 32 := 1#32
  let v509 : BitVec 32 := Scalar.addi v508 c1_i32_430
  let c8_i32_431 : BitVec 32 := 8#32
  let v510 : BitVec 32 := Scalar.remsi v509 c8_i32_431
  let c0_i32_434 : BitVec 32 := 0#32
  let v513 : BitVec 1 := Scalar.cmpi .sgt v510 c0_i32_434
  let v514 : BitVec 32 := Scalar.extui v513
  let c0_i32_435 : BitVec 32 := 0#32
  let v515 : BitVec 1 := Scalar.cmpi .slt v510 c0_i32_435
  let v516 : BitVec 32 := Scalar.extui v515
  let v517 : BitVec 32 := Scalar.subi v514 v516
  let c4_i32_433 : BitVec 32 := 4#32
  let c0_i32_436 : BitVec 32 := 0#32
  let v518 : BitVec 1 := Scalar.cmpi .sgt c4_i32_433 c0_i32_436
  let v519 : BitVec 32 := Scalar.extui v518
  let c0_i32_437 : BitVec 32 := 0#32
  let v520 : BitVec 1 := Scalar.cmpi .slt c4_i32_433 c0_i32_437
  let v521 : BitVec 32 := Scalar.extui v520
  let v522 : BitVec 32 := Scalar.subi v519 v521
  let v523 : BitVec 1 := Scalar.cmpi .ne v517 v522
  let v524 : BitVec 32 := Scalar.remsi v510 c4_i32_433
  let c0_i32_438 : BitVec 32 := 0#32
  let v525 : BitVec 1 := Scalar.cmpi .ne v524 c0_i32_438
  let v526 : BitVec 1 := Scalar.andi v523 v525
  let v512 : BitVec 32 := Scalar.divsi v510 c4_i32_433
  let c1_i32_439 : BitVec 32 := 1#32
  let v527 : BitVec 32 := Scalar.subi v512 c1_i32_439
  let v528 : BitVec 32 := Scalar.select v526 v527 v512
  let c16_i32_445 : BitVec 32 := 16#32
  let v530 : BitVec 32 := Scalar.muli v528 c16_i32_445
  let v531 : BitVec 32 := Scalar.addi c0_i32_446 v530
  let c4_i32_440 : BitVec 32 := 4#32
  let v529 : BitVec 32 := Scalar.remsi v510 c4_i32_440
  let c4_i32_447 : BitVec 32 := 4#32
  let v532 : BitVec 32 := Scalar.muli v529 c4_i32_447
  let v533 : BitVec 32 := Scalar.addi v531 v532
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_448 : BitVec 32 := 1#32
  let v534 : BitVec 32 := Scalar.muli v40 c1_i32_448
  let v535 : BitVec 32 := Scalar.addi v533 v534
  v535.toNat
def k0_dev26 (d32 : Dev nD) : Nat :=
  let c0_i32_469 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c2_i32_452 : BitVec 32 := 2#32
  let v542 : BitVec 32 := Scalar.addi v42 c2_i32_452
  let c1_i32_453 : BitVec 32 := 1#32
  let v543 : BitVec 32 := Scalar.addi v542 c1_i32_453
  let c8_i32_454 : BitVec 32 := 8#32
  let v544 : BitVec 32 := Scalar.remsi v543 c8_i32_454
  let c0_i32_457 : BitVec 32 := 0#32
  let v547 : BitVec 1 := Scalar.cmpi .sgt v544 c0_i32_457
  let v548 : BitVec 32 := Scalar.extui v547
  let c0_i32_458 : BitVec 32 := 0#32
  let v549 : BitVec 1 := Scalar.cmpi .slt v544 c0_i32_458
  let v550 : BitVec 32 := Scalar.extui v549
  let v551 : BitVec 32 := Scalar.subi v548 v550
  let c4_i32_456 : BitVec 32 := 4#32
  let c0_i32_459 : BitVec 32 := 0#32
  let v552 : BitVec 1 := Scalar.cmpi .sgt c4_i32_456 c0_i32_459
  let v553 : BitVec 32 := Scalar.extui v552
  let c0_i32_460 : BitVec 32 := 0#32
  let v554 : BitVec 1 := Scalar.cmpi .slt c4_i32_456 c0_i32_460
  let v555 : BitVec 32 := Scalar.extui v554
  let v556 : BitVec 32 := Scalar.subi v553 v555
  let v557 : BitVec 1 := Scalar.cmpi .ne v551 v556
  let v558 : BitVec 32 := Scalar.remsi v544 c4_i32_456
  let c0_i32_461 : BitVec 32 := 0#32
  let v559 : BitVec 1 := Scalar.cmpi .ne v558 c0_i32_461
  let v560 : BitVec 1 := Scalar.andi v557 v559
  let v546 : BitVec 32 := Scalar.divsi v544 c4_i32_456
  let c1_i32_462 : BitVec 32 := 1#32
  let v561 : BitVec 32 := Scalar.subi v546 c1_i32_462
  let v562 : BitVec 32 := Scalar.select v560 v561 v546
  let c16_i32_468 : BitVec 32 := 16#32
  let v564 : BitVec 32 := Scalar.muli v562 c16_i32_468
  let v565 : BitVec 32 := Scalar.addi c0_i32_469 v564
  let c4_i32_463 : BitVec 32 := 4#32
  let v563 : BitVec 32 := Scalar.remsi v544 c4_i32_463
  let c4_i32_470 : BitVec 32 := 4#32
  let v566 : BitVec 32 := Scalar.muli v563 c4_i32_470
  let v567 : BitVec 32 := Scalar.addi v565 v566
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_471 : BitVec 32 := 1#32
  let v568 : BitVec 32 := Scalar.muli v40 c1_i32_471
  let v569 : BitVec 32 := Scalar.addi v567 v568
  v569.toNat
def k0_dev27 (d32 : Dev nD) : Nat :=
  let c0_i32_492 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c3_i32_475 : BitVec 32 := 3#32
  let v576 : BitVec 32 := Scalar.addi v42 c3_i32_475
  let c1_i32_476 : BitVec 32 := 1#32
  let v577 : BitVec 32 := Scalar.addi v576 c1_i32_476
  let c8_i32_477 : BitVec 32 := 8#32
  let v578 : BitVec 32 := Scalar.remsi v577 c8_i32_477
  let c0_i32_480 : BitVec 32 := 0#32
  let v581 : BitVec 1 := Scalar.cmpi .sgt v578 c0_i32_480
  let v582 : BitVec 32 := Scalar.extui v581
  let c0_i32_481 : BitVec 32 := 0#32
  let v583 : BitVec 1 := Scalar.cmpi .slt v578 c0_i32_481
  let v584 : BitVec 32 := Scalar.extui v583
  let v585 : BitVec 32 := Scalar.subi v582 v584
  let c4_i32_479 : BitVec 32 := 4#32
  let c0_i32_482 : BitVec 32 := 0#32
  let v586 : BitVec 1 := Scalar.cmpi .sgt c4_i32_479 c0_i32_482
  let v587 : BitVec 32 := Scalar.extui v586
  let c0_i32_483 : BitVec 32 := 0#32
  let v588 : BitVec 1 := Scalar.cmpi .slt c4_i32_479 c0_i32_483
  let v589 : BitVec 32 := Scalar.extui v588
  let v590 : BitVec 32 := Scalar.subi v587 v589
  let v591 : BitVec 1 := Scalar.cmpi .ne v585 v590
  let v592 : BitVec 32 := Scalar.remsi v578 c4_i32_479
  let c0_i32_484 : BitVec 32 := 0#32
  let v593 : BitVec 1 := Scalar.cmpi .ne v592 c0_i32_484
  let v594 : BitVec 1 := Scalar.andi v591 v593
  let v580 : BitVec 32 := Scalar.divsi v578 c4_i32_479
  let c1_i32_485 : BitVec 32 := 1#32
  let v595 : BitVec 32 := Scalar.subi v580 c1_i32_485
  let v596 : BitVec 32 := Scalar.select v594 v595 v580
  let c16_i32_491 : BitVec 32 := 16#32
  let v598 : BitVec 32 := Scalar.muli v596 c16_i32_491
  let v599 : BitVec 32 := Scalar.addi c0_i32_492 v598
  let c4_i32_486 : BitVec 32 := 4#32
  let v597 : BitVec 32 := Scalar.remsi v578 c4_i32_486
  let c4_i32_493 : BitVec 32 := 4#32
  let v600 : BitVec 32 := Scalar.muli v597 c4_i32_493
  let v601 : BitVec 32 := Scalar.addi v599 v600
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_494 : BitVec 32 := 1#32
  let v602 : BitVec 32 := Scalar.muli v40 c1_i32_494
  let v603 : BitVec 32 := Scalar.addi v601 v602
  v603.toNat
def k0_dev28 (d32 : Dev nD) : Nat :=
  let c0_i32_515 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c4_i32_498 : BitVec 32 := 4#32
  let v610 : BitVec 32 := Scalar.addi v42 c4_i32_498
  let c1_i32_499 : BitVec 32 := 1#32
  let v611 : BitVec 32 := Scalar.addi v610 c1_i32_499
  let c8_i32_500 : BitVec 32 := 8#32
  let v612 : BitVec 32 := Scalar.remsi v611 c8_i32_500
  let c0_i32_503 : BitVec 32 := 0#32
  let v615 : BitVec 1 := Scalar.cmpi .sgt v612 c0_i32_503
  let v616 : BitVec 32 := Scalar.extui v615
  let c0_i32_504 : BitVec 32 := 0#32
  let v617 : BitVec 1 := Scalar.cmpi .slt v612 c0_i32_504
  let v618 : BitVec 32 := Scalar.extui v617
  let v619 : BitVec 32 := Scalar.subi v616 v618
  let c4_i32_502 : BitVec 32 := 4#32
  let c0_i32_505 : BitVec 32 := 0#32
  let v620 : BitVec 1 := Scalar.cmpi .sgt c4_i32_502 c0_i32_505
  let v621 : BitVec 32 := Scalar.extui v620
  let c0_i32_506 : BitVec 32 := 0#32
  let v622 : BitVec 1 := Scalar.cmpi .slt c4_i32_502 c0_i32_506
  let v623 : BitVec 32 := Scalar.extui v622
  let v624 : BitVec 32 := Scalar.subi v621 v623
  let v625 : BitVec 1 := Scalar.cmpi .ne v619 v624
  let v626 : BitVec 32 := Scalar.remsi v612 c4_i32_502
  let c0_i32_507 : BitVec 32 := 0#32
  let v627 : BitVec 1 := Scalar.cmpi .ne v626 c0_i32_507
  let v628 : BitVec 1 := Scalar.andi v625 v627
  let v614 : BitVec 32 := Scalar.divsi v612 c4_i32_502
  let c1_i32_508 : BitVec 32 := 1#32
  let v629 : BitVec 32 := Scalar.subi v614 c1_i32_508
  let v630 : BitVec 32 := Scalar.select v628 v629 v614
  let c16_i32_514 : BitVec 32 := 16#32
  let v632 : BitVec 32 := Scalar.muli v630 c16_i32_514
  let v633 : BitVec 32 := Scalar.addi c0_i32_515 v632
  let c4_i32_509 : BitVec 32 := 4#32
  let v631 : BitVec 32 := Scalar.remsi v612 c4_i32_509
  let c4_i32_516 : BitVec 32 := 4#32
  let v634 : BitVec 32 := Scalar.muli v631 c4_i32_516
  let v635 : BitVec 32 := Scalar.addi v633 v634
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_517 : BitVec 32 := 1#32
  let v636 : BitVec 32 := Scalar.muli v40 c1_i32_517
  let v637 : BitVec 32 := Scalar.addi v635 v636
  v637.toNat
def k0_dev29 (d32 : Dev nD) : Nat :=
  let c0_i32_538 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c5_i32_521 : BitVec 32 := 5#32
  let v644 : BitVec 32 := Scalar.addi v42 c5_i32_521
  let c1_i32_522 : BitVec 32 := 1#32
  let v645 : BitVec 32 := Scalar.addi v644 c1_i32_522
  let c8_i32_523 : BitVec 32 := 8#32
  let v646 : BitVec 32 := Scalar.remsi v645 c8_i32_523
  let c0_i32_526 : BitVec 32 := 0#32
  let v649 : BitVec 1 := Scalar.cmpi .sgt v646 c0_i32_526
  let v650 : BitVec 32 := Scalar.extui v649
  let c0_i32_527 : BitVec 32 := 0#32
  let v651 : BitVec 1 := Scalar.cmpi .slt v646 c0_i32_527
  let v652 : BitVec 32 := Scalar.extui v651
  let v653 : BitVec 32 := Scalar.subi v650 v652
  let c4_i32_525 : BitVec 32 := 4#32
  let c0_i32_528 : BitVec 32 := 0#32
  let v654 : BitVec 1 := Scalar.cmpi .sgt c4_i32_525 c0_i32_528
  let v655 : BitVec 32 := Scalar.extui v654
  let c0_i32_529 : BitVec 32 := 0#32
  let v656 : BitVec 1 := Scalar.cmpi .slt c4_i32_525 c0_i32_529
  let v657 : BitVec 32 := Scalar.extui v656
  let v658 : BitVec 32 := Scalar.subi v655 v657
  let v659 : BitVec 1 := Scalar.cmpi .ne v653 v658
  let v660 : BitVec 32 := Scalar.remsi v646 c4_i32_525
  let c0_i32_530 : BitVec 32 := 0#32
  let v661 : BitVec 1 := Scalar.cmpi .ne v660 c0_i32_530
  let v662 : BitVec 1 := Scalar.andi v659 v661
  let v648 : BitVec 32 := Scalar.divsi v646 c4_i32_525
  let c1_i32_531 : BitVec 32 := 1#32
  let v663 : BitVec 32 := Scalar.subi v648 c1_i32_531
  let v664 : BitVec 32 := Scalar.select v662 v663 v648
  let c16_i32_537 : BitVec 32 := 16#32
  let v666 : BitVec 32 := Scalar.muli v664 c16_i32_537
  let v667 : BitVec 32 := Scalar.addi c0_i32_538 v666
  let c4_i32_532 : BitVec 32 := 4#32
  let v665 : BitVec 32 := Scalar.remsi v646 c4_i32_532
  let c4_i32_539 : BitVec 32 := 4#32
  let v668 : BitVec 32 := Scalar.muli v665 c4_i32_539
  let v669 : BitVec 32 := Scalar.addi v667 v668
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_540 : BitVec 32 := 1#32
  let v670 : BitVec 32 := Scalar.muli v40 c1_i32_540
  let v671 : BitVec 32 := Scalar.addi v669 v670
  v671.toNat
def k0_dev30 (d32 : Dev nD) : Nat :=
  let c0_i32_561 : BitVec 32 := 0#32
  let v32 : BitVec 32 := Dev.word d32
  let c16_i32 : BitVec 32 := 16#32
  let v33 : BitVec 32 := Scalar.divsi v32 c16_i32
  let c2_i32 : BitVec 32 := 2#32
  let v34 : BitVec 32 := Scalar.remsi v33 c2_i32
  let c4_i32_24 : BitVec 32 := 4#32
  let v41 : BitVec 32 := Scalar.muli v34 c4_i32_24
  let v35 : BitVec 32 := Dev.word d32
  let c4_i32_22 : BitVec 32 := 4#32
  let v36 : BitVec 32 := Scalar.divsi v35 c4_i32_22
  let c4_i32 : BitVec 32 := 4#32
  let v37 : BitVec 32 := Scalar.remsi v36 c4_i32
  let v42 : BitVec 32 := Scalar.addi v41 v37
  let c6_i32_544 : BitVec 32 := 6#32
  let v678 : BitVec 32 := Scalar.addi v42 c6_i32_544
  let c1_i32_545 : BitVec 32 := 1#32
  let v679 : BitVec 32 := Scalar.addi v678 c1_i32_545
  let c8_i32_546 : BitVec 32 := 8#32
  let v680 : BitVec 32 := Scalar.remsi v679 c8_i32_546
  let c0_i32_549 : BitVec 32 := 0#32
  let v683 : BitVec 1 := Scalar.cmpi .sgt v680 c0_i32_549
  let v684 : BitVec 32 := Scalar.extui v683
  let c0_i32_550 : BitVec 32 := 0#32
  let v685 : BitVec 1 := Scalar.cmpi .slt v680 c0_i32_550
  let v686 : BitVec 32 := Scalar.extui v685
  let v687 : BitVec 32 := Scalar.subi v684 v686
  let c4_i32_548 : BitVec 32 := 4#32
  let c0_i32_551 : BitVec 32 := 0#32
  let v688 : BitVec 1 := Scalar.cmpi .sgt c4_i32_548 c0_i32_551
  let v689 : BitVec 32 := Scalar.extui v688
  let c0_i32_552 : BitVec 32 := 0#32
  let v690 : BitVec 1 := Scalar.cmpi .slt c4_i32_548 c0_i32_552
  let v691 : BitVec 32 := Scalar.extui v690
  let v692 : BitVec 32 := Scalar.subi v689 v691
  let v693 : BitVec 1 := Scalar.cmpi .ne v687 v692
  let v694 : BitVec 32 := Scalar.remsi v680 c4_i32_548
  let c0_i32_553 : BitVec 32 := 0#32
  let v695 : BitVec 1 := Scalar.cmpi .ne v694 c0_i32_553
  let v696 : BitVec 1 := Scalar.andi v693 v695
  let v682 : BitVec 32 := Scalar.divsi v680 c4_i32_548
  let c1_i32_554 : BitVec 32 := 1#32
  let v697 : BitVec 32 := Scalar.subi v682 c1_i32_554
  let v698 : BitVec 32 := Scalar.select v696 v697 v682
  let c16_i32_560 : BitVec 32 := 16#32
  let v700 : BitVec 32 := Scalar.muli v698 c16_i32_560
  let v701 : BitVec 32 := Scalar.addi c0_i32_561 v700
  let c4_i32_555 : BitVec 32 := 4#32
  let v699 : BitVec 32 := Scalar.remsi v680 c4_i32_555
  let c4_i32_562 : BitVec 32 := 4#32
  let v702 : BitVec 32 := Scalar.muli v699 c4_i32_562
  let v703 : BitVec 32 := Scalar.addi v701 v702
  let v38 : BitVec 32 := Dev.word d32
  let c1_i32 : BitVec 32 := 1#32
  let v39 : BitVec 32 := Scalar.divsi v38 c1_i32
  let c4_i32_23 : BitVec 32 := 4#32
  let v40 : BitVec 32 := Scalar.remsi v39 c4_i32_23
  let c1_i32_563 : BitVec 32 := 1#32
  let v704 : BitVec 32 := Scalar.muli v40 c1_i32_563
  let v705 : BitVec 32 := Scalar.addi v703 v704
  v705.toNat
def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x1x16x64 : Shape := ⟨4, ![16, 1, 16, 64]⟩
abbrev S16x4096x16x64 : Shape := ⟨4, ![16, 4096, 16, 64]⟩
abbrev S16x16x1x4096 : Shape := ⟨4, ![16, 16, 1, 4096]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 20
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S16x4096x16x64, .f32⟩
  | .hbm, ⟨2, _⟩ => ⟨S16x4096x16x64, .f32⟩
  | .hbm, ⟨3, _⟩ => ⟨S16x16x1x4096, .f32⟩
  | .hbm, ⟨4, _⟩ => ⟨S_, .f32⟩
  | .hbm, ⟨5, _⟩ => ⟨S16x16x1x4096, .f32⟩
  | .hbm, ⟨6, _⟩ => ⟨S16x16x1x4096, .f32⟩
  | .hbm, ⟨7, _⟩ => ⟨S_, .f32⟩
  | .hbm, ⟨8, _⟩ => ⟨S16x16x1, .f32⟩
  | .hbm, ⟨9, _⟩ => ⟨S16x16x1x1, .f32⟩
  | .hbm, ⟨10, _⟩ => ⟨S16x16x1x4096, .f32⟩
  | .hbm, ⟨11, _⟩ => ⟨S16x16x1x4096, .f32⟩
  | .hbm, ⟨12, _⟩ => ⟨S16x16x1x4096, .f32⟩
  | .hbm, ⟨13, _⟩ => ⟨S_, .f32⟩
  | .hbm, ⟨14, _⟩ => ⟨S16x16x1, .f32⟩
  | .hbm, ⟨15, _⟩ => ⟨S16x16x1x1, .f32⟩
  | .hbm, ⟨16, _⟩ => ⟨S16x16x1x4096, .f32⟩
  | .hbm, ⟨17, _⟩ => ⟨S16x16x1x4096, .f32⟩
  | .hbm, ⟨18, _⟩ => ⟨S16x16x64x1, .f32⟩
  | .hbm, ⟨19, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
/-
The mesh of the kernel, device by device.

A device's logical id is `4 * g + z`: `g` numbers the pairs of `x`, `y` coordinates (the group of two
batches the device computes), `z` is its coordinate along the axis that the keys and values are cut over.
The kernel sends along `z` to the three other devices of the same group, and along `g` to the seven
devices of the same `z`. Here are those peers in closed form, the device the copy with a given number
comes from, and the fact that every device number the program computes is one of these.
-/
module

public import proofs.«01_k».proof.Proof.Gen.KernelIdeal
public import proofs.«01_k».proof.Proof.Gen.KernelIdeal.Skeleton
public import proofs.«01_k».proof.Proof.Gen.KernelIdeal.Launch

@[expose] public section

namespace Cert.FlashProof

open Cert.KernelIdeal Cert.KernelIdeal.Gen
open Idealize.ShloMosaic

/-- The numbers of a device's peers: three along `z`, seven along `g`. -/
abbrev Peer : Type := Fin 3 ⊕ Fin 7

/-- The `j`-th peer along `z`: `j + 1` further round. -/
def zp (c : Dev nD) (j : Fin 3) : Dev nD :=
  ⟨4 * (c.val / 4) + (c.val % 4 + j.val + 1) % 4, by have := c.isLt; simp only [nD] at this ⊢; omega⟩

/-- The `j`-th peer along `g`: `j + 1` further round. -/
def gp (c : Dev nD) (j : Fin 7) : Dev nD :=
  ⟨4 * ((c.val / 4 + j.val + 1) % 8) + c.val % 4, by have := c.isLt; simp only [nD] at this ⊢; omega⟩

/-- The device whose `j`-th peer along `z` is `c`. -/
def zq (c : Dev nD) (j : Fin 3) : Dev nD := zp c j.rev

/-- The device whose `j`-th peer along `g` is `c`. -/
def gq (c : Dev nD) (j : Fin 7) : Dev nD := gp c j.rev

theorem zq_zp (c : Dev nD) (j : Fin 3) : zq (zp c j) j = c := by
  have := c.isLt; have := j.isLt; apply Fin.ext; simp only [zq, zp, Fin.val_rev, nD] at *; omega
theorem zp_zq (c : Dev nD) (j : Fin 3) : zp (zq c j) j = c := by
  have := c.isLt; have := j.isLt; apply Fin.ext; simp only [zq, zp, Fin.val_rev, nD] at *; omega
theorem gq_gp (c : Dev nD) (j : Fin 7) : gq (gp c j) j = c := by
  have := c.isLt; have := j.isLt; apply Fin.ext; simp only [gq, gp, Fin.val_rev, nD] at *; omega
theorem gp_gq (c : Dev nD) (j : Fin 7) : gp (gq c j) j = c := by
  have := c.isLt; have := j.isLt; apply Fin.ext; simp only [gq, gp, Fin.val_rev, nD] at *; omega

/-- A peer along either axis. -/
def pe (c : Dev nD) : Peer → Dev nD
  | .inl j => zp c j
  | .inr j => gp c j

/-- The number under which the peer of number `k` counts the device itself as a peer. -/
def prev : Peer → Peer
  | .inl j => .inl j.rev
  | .inr j => .inr j.rev

theorem prev_prev (k : Peer) : prev (prev k) = k := by
  cases k <;> simp only [prev, Fin.rev_rev]

theorem pe_prev_pe (c : Dev nD) (k : Peer) : pe (pe c k) (prev k) = c := by
  cases k with
  | inl j => exact zq_zp c j
  | inr j => exact gq_gp c j

theorem pe_pe_prev (c : Dev nD) (k : Peer) : pe (pe c (prev k)) k = c := by
  cases k with
  | inl j => exact zp_zq c j
  | inr j => exact gp_gq c j

/-- Going to the peer of number `k` is a permutation of the devices. -/
def peEquiv (k : Peer) : Dev nD ≃ Dev nD :=
  ⟨fun c => pe c k, fun c => pe c (prev k), fun c => pe_prev_pe c k, fun c => pe_pe_prev c k⟩

/-- The first of the two rows of the result that the device computes. -/
def rb (c : Dev nD) : ℕ := 2 * (c.val / 4)

theorem rb_le (c : Dev nD) : rb c ≤ 14 := by have := c.isLt; simp only [rb, nD] at *; omega

/-! ## The device numbers the program computes -/

/-- The peers along `z`, in the order the program meets them. -/
abbrev zl : List Peer := [.inl 0, .inl 1, .inl 2]
/-- The peers along `g`, in the order the program meets them. -/
abbrev gl : List Peer := [.inr 0, .inr 1, .inr 2, .inr 3, .inr 4, .inr 5, .inr 6]

theorem univ_peer : (Finset.univ : Finset Peer) = (zl ++ gl).toFinset := by decide
theorem nodup_peer : (zl ++ gl).Nodup := by decide

/-- The number the program computes for the device of the signal to peer `k`. -/
def bdevN (c : Dev nD) : Peer → ℕ
  | .inl 0 => k0_dev1 c | .inl 1 => k0_dev2 c | .inl 2 => k0_dev3 c
  | .inr 0 => k0_dev4 c | .inr 1 => k0_dev5 c | .inr 2 => k0_dev6 c | .inr 3 => k0_dev7 c
  | .inr 4 => k0_dev8 c | .inr 5 => k0_dev9 c | .inr 6 => k0_dev10 c

/-- The number the program computes for the device of row `r`'s copy to peer `k`. -/
def sdevN (c : Dev nD) : Fin 2 → Peer → ℕ
  | 0, .inl 0 => k0_dev11 c | 0, .inl 1 => k0_dev12 c | 0, .inl 2 => k0_dev13 c
  | 1, .inl 0 => k0_dev14 c | 1, .inl 1 => k0_dev15 c | 1, .inl 2 => k0_dev16 c
  | 0, .inr 0 => k0_dev17 c | 0, .inr 1 => k0_dev18 c | 0, .inr 2 => k0_dev19 c | 0, .inr 3 => k0_dev20 c
  | 0, .inr 4 => k0_dev21 c | 0, .inr 5 => k0_dev22 c | 0, .inr 6 => k0_dev23 c
  | 1, .inr 0 => k0_dev24 c | 1, .inr 1 => k0_dev25 c | 1, .inr 2 => k0_dev26 c | 1, .inr 3 => k0_dev27 c
  | 1, .inr 4 => k0_dev28 c | 1, .inr 5 => k0_dev29 c | 1, .inr 6 => k0_dev30 c

set_option maxRecDepth 20000 in
theorem bdevN_eq (c : Dev nD) (k : Peer) : bdevN c k = (pe c k).val := by revert c k; decide
set_option maxRecDepth 20000 in
theorem sdevN_eq (c : Dev nD) (r : Fin 2) (k : Peer) : sdevN c r k = (pe c k).val := by revert c r k; decide

/-- The device the program signals as peer `k`. -/
def bdev (c : Dev nD) (k : Peer) : Dev nD := ⟨bdevN c k, by rw [bdevN_eq]; exact (pe c k).isLt⟩
/-- The device the program copies row `r` to as peer `k`. -/
def sdev (c : Dev nD) (r : Fin 2) (k : Peer) : Dev nD := ⟨sdevN c r k, by rw [sdevN_eq]; exact (pe c k).isLt⟩

theorem bdev_eq (c : Dev nD) (k : Peer) : bdev c k = pe c k := Fin.ext (bdevN_eq c k)
theorem sdev_eq (c : Dev nD) (r : Fin 2) (k : Peer) : sdev c r k = pe c k := Fin.ext (sdevN_eq c r k)

end Cert.FlashProof
-- ==== Proof.Cells.lean ====
/-
The protocol between the devices: the semaphores, what is handed over at each, and in which order a device
pays what it owes.

* The barrier cell of device `c` is raised once by each of its ten peers and waited on once, for ten. The
  peer `pe c k` hands over with its signal the places on it that `c`'s two copies of number `k` land in: a row
  of each of the two landing buffers for a peer along `z`, two rows of the result's staging buffer for a
  peer along `g`.
* Row `r`'s copy to peer `k` credits the sender's cell `send r k` and the peer's cell `recv r k`, each waited
  on once. The first returns the share of the source that was lent to the copy, the second hands over the row
  that has landed: the row of local sums of the sender for `z`, its finished row of the result for `g`.
-/
module

public import proofs.«01_k».proof.Proof.Mesh
public import Idealize.ShloMosaic.Lib.Pipeline.Kit
public import Idealize.ShloMosaic.Lib.Pipeline.BigSepL
public import Idealize.ShloMosaic.Lib.Pipeline.Launch
public import Idealize.ShloMosaic.Lib.Transfers
public import Idealize.ShloMosaic.Lib.Tactic

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-- The ghost state: the library's of the pipeline's cells, the rounds of the protocol's cells, and the counters of
    local transfers. -/
abbrev UU : Type := UR sig nD τ × (URounds (GSem nD τ sig) Peer × Counters)

local notation "𝕄" => MT nD τ sig Unit (Elt F) ℕ UU ℕ

/-- Where the protocol's rounds live in the ghost state. -/
abbrev ER : Emb (URounds (GSem nD τ sig) Peer) (MT nD τ sig Unit (Elt F) ℕ UU ℕ) :=
  (Emb.inl : Emb (URounds (GSem nD τ sig) Peer) (URounds (GSem nD τ sig) Peer × Counters)).trans embR
/-- Where the counters of local transfers live in the ghost state. -/
abbrev ECt : UEmb Counters (MT nD τ sig Unit (Elt F) ℕ UU ℕ) := countersEmb

/-! ## Memrefs -/

abbrev outM : Memref sig .tc .vmem S16x1024 .f32 := Memref.whole cc0_stg4_0
abbrev redM : Memref sig .tc .vmem S2x1152 .f32 := Memref.whole cc0_scratch0
abbrev nrmM : Memref sig .tc .vmem S2x1024 .f32 := Memref.whole cc0_scratch1
/-- The buffer that row `r`'s copies along `z` land in. -/
abbrev czM (r : Fin 2) : Memref sig .tc .vmem S3x1152 .f32 :=
  match r with
  | 0 => Memref.whole cc0_scratch2
  | 1 => Memref.whole cc0_scratch3

theorem inb_red (r : Fin 2) : ∀ a, (![r.val, 0] : Fin 2 → ℕ) a + S1x1152.size a ≤ S2x1152.size a := by revert r; decide
theorem inb_nrm (r : Fin 2) : ∀ a, (![r.val, 0] : Fin 2 → ℕ) a + S1x1024.size a ≤ S2x1024.size a := by revert r; decide
theorem inb_cz (j : Fin 3) : ∀ a, (![j.val, 0] : Fin 2 → ℕ) a + S1x1152.size a ≤ S3x1152.size a := by revert j; decide
theorem inb_out (n : ℕ) (h : n < 16) : ∀ a, (![n, 0] : Fin 2 → ℕ) a + S1x1024.size a ≤ S16x1024.size a := by
  intro a; fin_cases a
  · show n + 1 ≤ 16; omega
  · show 0 + 1024 ≤ 1024; omega

theorem rb_add_lt (c : Dev nD) (r : Fin 2) : rb c + r.val < 16 := by have := rb_le c; omega

/-- Row `r` of the local sums. -/
abbrev redRow (r : Fin 2) : Memref sig .tc .vmem S1x1152 .f32 :=
  redM.slice (Rect.unit (s := S2x1152) ![r.val, 0] S1x1152.size (inb_red r)) (fun _ => rfl)
/-- Row `r` of the device's part of the result. -/
abbrev nrmRow (r : Fin 2) : Memref sig .tc .vmem S1x1024 .f32 :=
  nrmM.slice (Rect.unit (s := S2x1024) ![r.val, 0] S1x1024.size (inb_nrm r)) (fun _ => rfl)
/-- Where the copy of number `j` of row `r` lands. -/
abbrev czRow (r : Fin 2) (j : Fin 3) : Memref sig .tc .vmem S1x1152 .f32 :=
  (czM r).slice (Rect.unit (s := S3x1152) ![j.val, 0] S1x1152.size (inb_cz j)) (fun _ => rfl)
/-- A row of the result's staging buffer, at offsets `o`. -/
abbrev outAt (o : Fin 2 → ℕ) (ho : ∀ a, o a + S1x1024.size a ≤ S16x1024.size a) : Memref sig .tc .vmem S1x1024 .f32 :=
  outM.slice (Rect.unit (s := S16x1024) o S1x1024.size ho) (fun _ => rfl)
/-- Row `n` of the result's staging buffer. -/
abbrev outRow (n : ℕ) (h : n < 16) : Memref sig .tc .vmem S1x1024 .f32 := outAt ![n, 0] (inb_out n h)

/-- The shape of a copied row. -/
abbrev rowS : Peer → Shape
  | .inl _ => S1x1152
  | .inr _ => S1x1024

/-- The source of row `r`'s copy to peer `k`. -/
abbrev srcRow (r : Fin 2) : (k : Peer) → Memref sig .tc .vmem (rowS k) .f32
  | .inl _ => redRow r
  | .inr _ => nrmRow r
/-- Where row `r`'s copy of number `k` lands, at offsets `o` of the result's staging buffer for `g`. -/
abbrev dstAt (r : Fin 2) (o : Fin 2 → ℕ) (ho : ∀ a, o a + S1x1024.size a ≤ S16x1024.size a) :
    (k : Peer) → Memref sig .tc .vmem (rowS k) .f32
  | .inl j => czRow r j
  | .inr _ => outAt o ho
/-- Where row `r`'s copy of number `k` from device `d` lands. -/
abbrev dstRow (r : Fin 2) (d : Dev nD) (k : Peer) : Memref sig .tc .vmem (rowS k) .f32 :=
  dstAt r ![rb d + r.val, 0] (inb_out _ (rb_add_lt d r)) k

/-! ## Semaphores -/

theorem inb_sz (r : Fin 2) (j : Fin 3) : ∀ a, (![r.val, j.val] : Fin 2 → ℕ) a + S1x1.size a ≤ S2x3.size a := by revert r j; decide
theorem inb_sg (r : Fin 2) (j : Fin 7) : ∀ a, (![r.val, j.val] : Fin 2 → ℕ) a + S1x1.size a ≤ S2x7.size a := by revert r j; decide

/-- The semaphore of the copy's departure. -/
abbrev sSem (r : Fin 2) : Peer → DmaSem sig
  | .inl j => ((cc0_scratch4.slice (Rect.unit (s := S2x3) ![r.val, j.val] S1x1.size (inb_sz r j))).squeeze S_ squeezes_S1x1_S_).sem
  | .inr j => ((cc0_scratch6.slice (Rect.unit (s := S2x7) ![r.val, j.val] S1x1.size (inb_sg r j))).squeeze S_ squeezes_S1x1_S_).sem
/-- The semaphore of the copy's arrival. -/
abbrev rSem (r : Fin 2) : Peer → DmaSem sig
  | .inl j => ((cc0_scratch5.slice (Rect.unit (s := S2x3) ![r.val, j.val] S1x1.size (inb_sz r j))).squeeze S_ squeezes_S1x1_S_).sem
  | .inr j => ((cc0_scratch7.slice (Rect.unit (s := S2x7) ![r.val, j.val] S1x1.size (inb_sg r j))).squeeze S_ squeezes_S1x1_S_).sem

/-- The barrier semaphore. -/
abbrev bSem : Sem sig := (SemArray.scalar (sig.barrier 0 rfl) : Sems sig S_).sem

/-- The kinds of the protocol's cells: the barrier, and of row `r`'s copy of number `k` the departure (`false`) and the
    arrival (`true`). -/
abbrev CK : Type := Option (Bool × Fin 2 × Peer)
abbrev bar : CK := none
abbrev snd (r : Fin 2) (k : Peer) : CK := some (false, r, k)
abbrev rcv (r : Fin 2) (k : Peer) : CK := some (true, r, k)

/-- The semaphore of a kind of cell. -/
def sm : CK → SemLoc sig
  | none => .reg bSem
  | some (false, r, k) => .dma (sSem r k)
  | some (true, r, k) => .dma (rSem r k)

/-- The numbers of the semaphores. -/
def smN : CK → ℕ
  | none => 0
  | some (false, r, .inl j) => 8 + 3 * r.val + j.val
  | some (false, r, .inr j) => 20 + 7 * r.val + j.val
  | some (true, r, .inl j) => 14 + 3 * r.val + j.val
  | some (true, r, .inr j) => 34 + 7 * r.val + j.val
def locN : SemLoc sig → ℕ
  | .reg _ => 0
  | .dma s => s.val
theorem locN_sm (k : CK) : locN (sm k) = smN k := by revert k; decide
set_option synthInstance.maxSize 1024 in
theorem smN_inj : ∀ a b : CK, smN a = smN b → a = b := by decide
theorem sm_inj : Function.Injective sm := fun a b h => smN_inj a b (by rw [← locN_sm, ← locN_sm, h])

/-- The kind of a semaphore, if it is one of the protocol's. -/
def ckOf (s : SemLoc sig) : Option CK := open Classical in if h : ∃ k, sm k = s then some h.choose else none
theorem ckOf_sm (k : CK) : ckOf (sm k) = some k := by
  unfold ckOf
  have h : ∃ k', sm k' = sm k := ⟨k, rfl⟩
  rw [dif_pos h]; exact congrArg some (sm_inj h.choose_spec)

/-- The cell of kind `k` on device `c`. -/
abbrev cell (c : Dev nD) (k : CK) : GSem nD τ sig := ((c : Thread nD τ), sm k)

/-- What a copy of number `k` credits. -/
def NN : Peer → ℕ
  | .inl _ => (redRow 0).view.dmaCredit
  | .inr _ => (nrmRow 0).view.dmaCredit
theorem NN_pos (k : Peer) : 0 < NN k := by
  cases k <;> exact View.dmaCredit_pos _ (by decide)
theorem src_amount (r : Fin 2) (k : Peer) : (srcRow r k).view.dmaCredit = NN k := by
  cases k <;> rfl
theorem dst_amount (r : Fin 2) (o ho) (k : Peer) : (dstAt r o ho k).view.dmaCredit = NN k := by
  cases k
  · fin_cases r <;> rfl
  · rfl

/-- The share of the source that a copy of number `k` is lent. -/
def sshare : Peer → PosShare TreeShare
  | .inl j => shareTok fullShare 3 j
  | .inr j => shareTok fullShare 7 j

/-! ## What the copies carry -/

/-- The rows the copies carry: device by device, the two rows of local sums and the two finished rows. -/
structure Cont (F : FTy → Type) [FloatOps F] where
  red : Dev nD → Fin 2 → S1x1152.Idx → Elt F .f32
  nrm : Dev nD → Fin 2 → S1x1024.Idx → Elt F .f32

/-- What row `r`'s copy of number `k` from device `d` carries. -/
abbrev Cont.val (X : Cont F) (d : Dev nD) (r : Fin 2) : (k : Peer) → (rowS k).Idx → Elt F .f32
  | .inl _ => X.red d r
  | .inr _ => X.nrm d r

/-- The device that copy number `k` comes from. -/
abbrev qe (c : Dev nD) (k : Peer) : Dev nD := pe c (prev k)
theorem pe_qe (c : Dev nD) (k : Peer) : pe (qe c k) k = c := pe_pe_prev c k
theorem qe_pe (c : Dev nD) (k : Peer) : qe (pe c k) k = c := pe_prev_pe c k

/-! ## The schedule -/

/-- The place on `pe c k` for row `r` of `c`, at some contents. -/
def slot (c : Dev nD) (r : Fin 2) (k : Peer) : sProp 𝕄 :=
  iprop(∃ Y, owns (pe c k : Thread nD τ) (dstRow r c k) fullShare Y)
/-- What a peer's signal hands over. -/
def barPay (c : Dev nD) (k : Peer) : sProp 𝕄 :=
  iprop((slot c 0 k ∗ reached ER (cell (pe c k) (rcv 0 k)) 0) ∗ (slot c 1 k ∗ reached ER (cell (pe c k) (rcv 1 k)) 0))
/-- What an arrival hands over. -/
def recvPay (X : Cont F) (c : Dev nD) (r : Fin 2) (k : Peer) : sProp 𝕄 :=
  owns (c : Thread nD τ) (dstRow r (qe c k) k) fullShare (X.val (qe c k) r k)
/-- What a departure returns. -/
def sendPay (X : Cont F) (c : Dev nD) (r : Fin 2) (k : Peer) : sProp 𝕄 :=
  owns (c : Thread nD τ) (srcRow r k) (sshare k) (X.val c r k)

instance slot_storable (c : Dev nD) (r k) : BI.Storable (upEmb : UEmb _ 𝕄) (slot (F := F) c r k) := by unfold slot; infer_instance
instance barPay_storable (c : Dev nD) (k) : BI.Storable (upEmb : UEmb _ 𝕄) (barPay (F := F) c k) := by unfold barPay; infer_instance
instance recvPay_storable (X : Cont F) (c : Dev nD) (r k) : BI.Storable (upEmb : UEmb _ 𝕄) (recvPay X c r k) := by unfold recvPay; infer_instance
instance sendPay_storable (X : Cont F) (c : Dev nD) (r k) : BI.Storable (upEmb : UEmb _ 𝕄) (sendPay X c r k) := by unfold sendPay; infer_instance

/-- The duties of a kind of cell. -/
def dutiesK : Option CK → Finset Peer
  | some none => Finset.univ
  | some (some _) => {.inl 0}
  | none => ∅
/-- What a payment at a kind of cell adds. -/
def amountK : Option CK → ℕ
  | some (some (_, _, k)) => NN k
  | _ => 1
/-- What a payment at a kind of cell of device `c` hands over. -/
def payK (X : Cont F) (c : Dev nD) (d : Peer) : Option CK → sProp 𝕄
  | some none => barPay c d
  | some (some (false, r, k)) => sendPay X c r k
  | some (some (true, r, k)) => recvPay X c r k
  | none => iprop(emp)

/-- The protocol: one round at each cell. -/
def Sch (X : Cont F) : Rounds.Schedule (GSem nD τ sig) Peer 𝕄 where
  duties g r := if r = 0 ∧ g.1.2 = .tc then dutiesK (ckOf g.2) else ∅
  unitless _ := False
  amount g _ _ := amountK (ckOf g.2)
  payload g _ d := payK X g.1.1 d (ckOf g.2)
  amount_pos g _ _ _ := by
    show 0 < amountK (ckOf g.2)
    generalize ckOf g.2 = o
    rcases o with _ | _ | ⟨b, r, k⟩
    · exact Nat.one_pos
    · exact Nat.one_pos
    · exact NN_pos k

instance Sch_payload_storable (X : Cont F) (g : GSem nD τ sig) (r : ℕ) (d : Peer) :
    BI.Storable (upEmb : UEmb _ 𝕄) ((Sch X).payload g r d) := by
  show BI.Storable upEmb (payK X g.1.1 d (ckOf g.2))
  generalize ckOf g.2 = o
  rcases o with _ | _ | ⟨_ | _, r, k⟩ <;> (dsimp only [payK]; infer_instance)

section Sched
variable (X : Cont F) (c : Dev nD)

theorem duties_cell (k : CK) : (Sch X).duties (cell c k) 0 = dutiesK (some k) := by
  show (if (0 = 0 ∧ (c : Thread nD τ).2 = .tc) then dutiesK (ckOf (sm k)) else ∅) = _; rw [if_pos ⟨rfl, rfl⟩, ckOf_sm]
theorem duties_later (g : GSem nD τ sig) (r : ℕ) (hr : 1 ≤ r) : (Sch X).duties g r = ∅ :=
  if_neg fun h => by omega
theorem amount_cell (k : CK) (d : Peer) : (Sch X).amount (cell c k) 0 d = amountK (some k) := by
  show amountK (ckOf (sm k)) = _; rw [ckOf_sm]
theorem payload_cell (k : CK) (d : Peer) : (Sch X).payload (cell c k) 0 d = payK X c d (some k) := by
  show payK X c d (ckOf (sm k)) = _; rw [ckOf_sm]
theorem expect_bar : (Sch X).expect (cell c bar) 0 = 10 := by
  unfold Schedule.expect Schedule.amountOf
  rw [duties_cell, Finset.sum_congr rfl fun d _ => amount_cell X c bar d]; rfl
theorem expect_dma (x : Bool × Fin 2 × Peer) : (Sch X).expect (cell c (some x)) 0 = NN x.2.2 := by
  unfold Schedule.expect Schedule.amountOf
  rw [duties_cell, Finset.sum_congr rfl fun d _ => amount_cell X c (some x) d]
  exact Finset.sum_singleton _ _
theorem rest_bar : bigSep ((Sch X).duties (cell c bar) 0 \ ∅) (fun d => (Sch X).payload (cell c bar) 0 d)
    = bigSepL (zl ++ gl) (barPay (F := F) c) := by
  rw [Finset.sdiff_empty, duties_cell, bigSep_congr fun d _ => payload_cell X c bar d]
  exact bigSep_univ_eq_bigSepL _ univ_peer nodup_peer _
theorem rest_dma (x : Bool × Fin 2 × Peer) :
    bigSep ((Sch X).duties (cell c (some x)) 0 \ ∅) (fun d => (Sch X).payload (cell c (some x)) 0 d)
    = payK X c (.inl 0) (some (some x)) := by
  rw [Finset.sdiff_empty, duties_cell]
  show bigSep {_} _ = _
  rw [bigSep_singleton, payload_cell]

end Sched

/-! ## What a device owes, and the levels -/

/-- A sum of payments owed. -/
def owedL : List (GSem nD τ sig × ℕ) → CellTallies nD τ sig Unit
  | [] => 0
  | x :: l => owedL l + tallyAt x.1 () x.2

/-- The payment of a device's signal to peer `k`. -/
abbrev sigE (c : Dev nD) (k : Peer) : GSem nD τ sig × ℕ := (cell (pe c k) bar, 1)
/-- The payment of a device's copy of row `r` to peer `k`. -/
abbrev cpE (c : Dev nD) (r : Fin 2) (k : Peer) : GSem nD τ sig × ℕ := (cell (pe c k) (rcv r k), NN k)

/-- What a device owes after its signals and its first row's copies along `z`. -/
def owed1 (c : Dev nD) : List (GSem nD τ sig × ℕ) :=
  zl.map (cpE c 1) ++ (gl.map (cpE c 0) ++ (gl.map (cpE c 1) ++ []))
/-- What a device owes at the start, in the order it pays. -/
def owed0 (c : Dev nD) : List (GSem nD τ sig × ℕ) :=
  (zl ++ gl).map (sigE c) ++ (zl.map (cpE c 0) ++ owed1 c)

def L (g : GSem nD τ sig) : Finset Unit := if g.1.2 = .tc then {()} else ∅
theorem L_of_ne (g : GSem nD τ sig) (h : g.1.2 ≠ .tc) : L g = ∅ := if_neg h
theorem L_tc (c : Dev nD) (s : SemLoc sig) : L ((c : Thread nD τ), s) = {()} := if_pos rfl

/-- The level of a kind of cell: departures lowest, then the barrier, arrivals along `z`, arrivals along `g`. -/
def lvK : Option CK → ℕ
  | some none => 1
  | some (some (true, _, .inl _)) => 2
  | some (some (true, _, .inr _)) => 3
  | _ => 0
def lv (g : GSem nD τ sig) (_ : Unit) : ℕ := lvK (ckOf g.2)
theorem lv_cell (c : Dev nD) (k : CK) (u : Unit) : lv (cell c k) u = lvK (some k) := by
  show lvK (ckOf (sm k)) = _; rw [ckOf_sm]

theorem owedL_pos {l : List (GSem nD τ sig × ℕ)} {g : GSem nD τ sig} {u : Unit} (h : 0 < owedL l g u) : ∃ x ∈ l, x.1 = g := by
  induction l with
  | nil => exact absurd h (Nat.lt_irrefl 0)
  | cons x l ih =>
    unfold owedL at h
    rw [Pi.add_apply, Finsupp.add_apply, tallyAt_apply] at h
    by_cases hx : g = x.1 ∧ u = ()
    · exact ⟨x, List.mem_cons_self, hx.1.symm⟩
    · rw [if_neg hx, Nat.add_zero] at h
      obtain ⟨y, hy, e⟩ := ih h
      exact ⟨y, List.mem_cons_of_mem _ hy, e⟩

/-- A wait is admissible below everything the device still owes. -/
theorem mayWait_list (c : Dev nD) (s : SemLoc sig) (l : List (GSem nD τ sig × ℕ))
    (hl : ∀ x ∈ l, x.1.1.2 = .tc ∧ lvK (ckOf s) < lv x.1 ()) :
    (levAts L lv : sProp 𝕄) ⊢ MayWait (c : Thread nD τ) s () (owedL l) :=
  MayOwe.of_cut (L := L) (lev := lv) (lvK (ckOf s))
    (fun p hp => by rw [Finset.mem_singleton.mp hp, L_tc]; exact Finset.mem_singleton_self _)
    (fun g u hg => by
      obtain ⟨x, hx, rfl⟩ := owedL_pos hg
      unfold L; rw [if_pos (hl x hx).1]; exact Finset.mem_singleton_self _)
    (fun p hp => by rw [Finset.mem_singleton.mp hp]; exact le_refl _)
    (fun g u hg => by
      obtain ⟨x, hx, rfl⟩ := owedL_pos hg
      exact (hl x hx).2)

/-- What the device owes, whatever it has waited for. -/
def Ow (c : Dev nD) (l : List (GSem nD τ sig × ℕ)) : sProp 𝕄 := iprop(∃ W, owes (c : Thread nD τ) (owedL l) W)

end Cert.FlashProof
-- ==== Proof.Steps.lean ====
/-
The operations of the protocol, run: the ten signals, the wait for ten, the copies of a row, the waits for a
row's copies, each over a list of peers, and the loads and stores of owned rows.
-/
module

public import proofs.«01_k».proof.Proof.Cells

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Owned
variable {s : Shape} {e : EltTy} (c : Dev nD) {α : Type}

/-- A load of a slice of a memref, the slice owned. -/
theorem wp_load_owns {Q : α → sProp 𝕄} {cs : CoreSpace} (m : Memref sig .tc cs s e) (r : Rect s) (hr : ∀ a, r.stride a = 1) {hl : m.view.LoadsAt r.toLoadRect}
    {k : (r.shape.Idx → Elt F e) → Prog (TpuEff nD τ sig (Elt F) Λ₀ .tc) α} (q : PosShare TreeShare) (X : r.shape.Idx → Elt F e) :
    (owns (c : Thread nD τ) (m.slice r hr) q X : sProp 𝕄)
      ⊢ iprop((owns (c : Thread nD τ) (m.slice r hr) q X -∗ WP c (k X) Q) -∗ WP c (.op (.load m r.toLoadRect hl) k) Q) := by
  unfold owns
  iintro ⟨%f, %hf, H⟩ Hk
  iapply (wp_load_rect 𝒱₀ (c : Thread nD τ) none Set.univ (m := m) (r := r) (S := (m.slice r hr).view.set) (Finset.Subset.refl _)) $$ H
  iintro H
  rw [show (m.access r).read (Elt F) f = X from hf]
  iapply Hk
  iexists f
  isplitr; · ipureintro; exact hf
  iexact H

/-- A store over a slice of a memref, the slice owned. -/
theorem wp_store_owns {Q : α → sProp 𝕄} {cs : CoreSpace} (m : Memref sig .tc cs s e) (r : Rect s) (hr : ∀ a, r.stride a = 1) {w : r.shape.Idx → Elt F e}
    {hx : (m.access r).Stores Finset.univ} {hm : Finset.univ = Finset.univ ∨ ∀ a, r.stride a = 1}
    {k : PUnit → Prog (TpuEff nD τ sig (Elt F) Λ₀ .tc) α} (X : r.shape.Idx → Elt F e) :
    (owns (c : Thread nD τ) (m.slice r hr) fullShare X : sProp 𝕄)
      ⊢ iprop((owns (c : Thread nD τ) (m.slice r hr) fullShare w -∗ WP c (k ⟨⟩) Q) -∗ WP c (.op (.store m r w Finset.univ hx hm) k) Q) := by
  unfold owns
  iintro ⟨%f, %hf, H⟩ Hk
  iapply (wp_store 𝒱₀ (c : Thread nD τ) none Set.univ (m := m) (r := r) (Mk := Finset.univ) (S := (m.slice r hr).view.set) (Finset.Subset.refl _)) $$ H
  iintro H
  iapply Hk
  iexists (m.access r).write (Elt F) f w Finset.univ
  isplitr
  · ipureintro; exact View.read_write_univ _ _
  iexact H

end Owned

/-! ## The programs -/

section Progs
variable {α : Type} (c : Dev nD)

/-- The signals to the peers of a list. -/
def sigs (l : List Peer) (p : Prog (TpuEff nD τ sig (Elt F) Λ₀ .tc) α) : Prog (TpuEff nD τ sig (Elt F) Λ₀ .tc) α :=
  match l with
  | [] => p
  | k :: l => .op (.semSignal (Dev.tc (bdev c k) : Thread nD τ) bSem (1#32 : BitVec 32).toNat) fun _ => sigs l p

/-- The copies of row `r` to the peers of a list. -/
def sends (r : Fin 2) (o : Fin 2 → ℕ) (ho : ∀ a, o a + S1x1024.size a ≤ S16x1024.size a) (l : List Peer)
    (p : Prog (TpuEff nD τ sig (Elt F) Λ₀ .tc) α) : Prog (TpuEff nD τ sig (Elt F) Λ₀ .tc) α :=
  match l with
  | [] => p
  | k :: l => .op (.enqueueDma (srcRow r k) (.remote (Dev.tc (sdev c r k) : Thread nD τ) (dstAt r o ho k) (.dma (sSem r k)) (by cases k <;> fin_cases r <;> rfl))
      (.dma (rSem r k)) (View.wordExact_bits rfl) (View.wordExact_bits rfl) ⟨⟨rfl, Or.inl rfl⟩, trivial⟩) fun _ => sends r o ho l p

/-- The waits for the departures and the arrivals of row `r`'s copies of the numbers of a list. -/
def waits (r : Fin 2) (o : Fin 2 → ℕ) (ho : ∀ a, o a + S1x1024.size a ≤ S16x1024.size a) (l : List Peer)
    (p : Prog (TpuEff nD τ sig (Elt F) Λ₀ .tc) α) : Prog (TpuEff nD τ sig (Elt F) Λ₀ .tc) α :=
  match l with
  | [] => p
  | k :: l => .op (.waitDma2 (sSem r k) (dstAt r o ho k) (srcRow r k) (View.wordExact_bits rfl) (View.wordExact_bits rfl)) fun _ =>
      .op (.waitDma2 (rSem r k) (srcRow r k) (dstAt r o ho k) (View.wordExact_bits rfl) (View.wordExact_bits rfl)) fun _ => waits r o ho l p

end Progs

/-! ## Running them -/

section Run
variable (X : Cont F) (K : GSem nD τ sig → ℕ) (c : Dev nD) {α : Type}

/-- The invariant of a cell. -/
abbrev inv (g : GSem nD τ sig) : sProp 𝕄 := cellInv ER (Sch X) (K g) g

/-- What the signal to peer `n` takes: the token, and the places for that peer's copies. -/
def sigRes (n : Peer) : sProp 𝕄 :=
  iprop(inv X K (cell (pe c n) bar) ∗ reached ER (cell (pe c n) bar) 0 ∗ dutyTok ER (cell (pe c n) bar) 0 (prev n) ∗ barPay (pe c n) (prev n))

theorem wp_sigs {Q : α → sProp 𝕄} (l : List Peer) (rest : List (GSem nD τ sig × ℕ)) (p : Prog (TpuEff nD τ sig (Elt F) Λ₀ .tc) α) :
    iprop(Ow c (l.map (sigE c) ++ rest) ∗ bigSepL l (sigRes X K c))
      ⊢ iprop((Ow c rest -∗ WP c p Q) -∗ WP c (sigs c l p) Q) := by
  induction l with
  | nil =>
    iintro ⟨H, -⟩ Hk
    iapply Hk; iexact H
  | cons k l ih =>
    rw [bigSepL_cons']
    unfold Ow sigRes at ih ⊢
    iintro ⟨⟨%W, HO⟩, ⟨⟨#HI, #Hr, Ht, Hp⟩, Hl⟩⟩ Hk
    unfold sigs
    rw [bdev_eq]
    iapply (Rounds.wp_signal 𝒱₀ ER (Sch X) (c : Thread nD τ) none (dst := (pe c k : Thread nD τ)) (sem := bSem) (d := prev k) (r := 0)
        (κ := K (cell (pe c k) bar))
        (by rw [show ((pe c k : Thread nD τ), SemLoc.reg bSem) = cell (pe c k) bar from rfl, duties_cell]; exact Finset.mem_univ _)
        (amount_cell X (pe c k) bar (prev k)) () (owedL (l.map (sigE c) ++ rest)) rfl) $$ [HO Ht Hp]
    · isplitr; · iexact HI
      isplitl [HO]; · iexact HO
      isplitl [Ht]; · iexact Ht
      isplitl [Hp]
      · iapply (show barPay (pe c k) (prev k) ⊢ (Sch X).payload ((pe c k : Thread nD τ), SemLoc.reg bSem) 0 (prev k) from
          Entails.of_eq (payload_cell X (pe c k) bar (prev k)).symm)
        iexact Hp
      iexact Hr
    iintro HO
    iapply ih $$ [HO Hl]
    · isplitl [HO]; · iexists W; iexact HO
      iexact Hl
    iexact Hk

/-- The wait for the ten signals: the places on the peers come with it. -/
theorem wp_bar {Q : α → sProp 𝕄} (rest : List (GSem nD τ sig × ℕ)) (hrest : ∀ x ∈ rest, x.1.1.2 = .tc ∧ lvK (ckOf (sm bar)) < lv x.1 ())
    {k : PUnit → Prog (TpuEff nD τ sig (Elt F) Λ₀ .tc) α} :
    iprop(Ow c rest ∗ inv X K (cell c bar) ∗ cred (tallyAt (cell c bar) () 10) ∗ atPos ER (cell c bar) 0 ∅ 0 ∗ levAts L lv)
      ⊢ iprop(((Ow c rest ∗ atPos ER (cell c bar) 1 ∅ 0 ∗ bigSepL (zl ++ gl) (barPay (F := F) c)) -∗ WP c (k ⟨⟩) Q)
        -∗ WP c (.op (.semWait bSem (10#32 : BitVec 32).toNat) k) Q) := by
  unfold Ow
  iintro ⟨⟨%W, HO⟩, #HI, Hc, Ha, #Hlev⟩ Hk
  iapply (Rounds.wp_wait_rest_token 𝒱₀ ER (Sch X) (c : Thread nD τ) none (κ := K (cell c bar)) (sm := sm bar)
      (wpE_semWait_eq 𝒱₀ (c : Thread nD τ) none Set.univ) (Set.mem_univ _) () (O := owedL rest) (W := W) (R := 0) (m := 0) (T := ∅)
      (by rw [expect_bar]; rfl)) $$ [HO Hc Ha]
  · isplitr; · iexact HI
    isplitl [Hc]; · iexact Hc
    isplitl [HO]; · iexact HO
    isplitr; · iapply (mayWait_list c (sm bar) rest hrest); iexact Hlev
    iexact Ha
  iintro ⟨HO, Ha, -, Hp⟩
  iapply Hk
  isplitl [HO]; · iexists _; iexact HO
  isplitl [Ha]; · iexact Ha
  iapply (Entails.of_eq (rest_bar X c)); iexact Hp

/-- What row `r`'s copy to peer `k` takes: a share of the row, the place on the peer, the two tokens. -/
def sendRes (r : Fin 2) (k : Peer) : sProp 𝕄 :=
  iprop((inv X K (cell c (snd r k)) ∗ inv X K (cell (pe c k) (rcv r k)) ∗ reached ER (cell c (snd r k)) 0 ∗ reached ER (cell (pe c k) (rcv r k)) 0)
    ∗ sendPay X c r k ∗ slot c r k ∗ dutyTok ER (cell c (snd r k)) 0 (.inl 0) ∗ dutyTok ER (cell (pe c k) (rcv r k)) 0 (.inl 0))

/-- One copy: at its start the departure's credit is in hand. -/
theorem wp_send1 {Q : α → sProp 𝕄} (r : Fin 2) (k : Peer) (n : Dev nD) (hn : n = pe c k)
    {hsc : (dstRow r c k : Memref sig (Dev.tc n : Thread nD τ).2.kind .vmem (rowS k) .f32).view.ref.isScScratch = false}
    {hsrc : (srcRow r k).view.WordExact} {hdst : (dstRow r c k).view.WordExact}
    {hsem : DmaTarget.Typed .vmem (.dma (rSem r k)) (.remote (Dev.tc n : Thread nD τ) (dstRow r c k) (.dma (sSem r k)) hsc)}
    {p : PUnit → Prog (TpuEff nD τ sig (Elt F) Λ₀ .tc) α} (rest : List (GSem nD τ sig × ℕ)) :
    iprop(Ow c (cpE c r k :: rest) ∗ sendRes X K c r k)
      ⊢ iprop(((Ow c rest ∗ cred (tallyAt (cell c (snd r k)) () (NN k))) -∗ WP c (p ⟨⟩) Q)
        -∗ WP c (.op (.enqueueDma (srcRow r k) (.remote (Dev.tc n : Thread nD τ) (dstRow r c k) (.dma (sSem r k)) hsc) (.dma (rSem r k)) hsrc hdst hsem) p) Q) := by
  subst hn
  unfold Ow sendRes sendPay slot owns
  iintro ⟨⟨%W, HO⟩, ⟨#HI, #HI', #Hr, #Hr'⟩, ⟨%fs, %hfs, Hs⟩, ⟨%Y, %fd, %hfd, Hd⟩, Ht, Ht'⟩ Hk
  iapply (Rounds.wp_send_pointsTo 𝒱₀ ER (Sch X) (c : Thread nD τ) none (c' := (pe c k : Thread nD τ))
      (κ₁ := K (cell c (snd r k))) (κ₂ := K (cell (pe c k) (rcv r k))) (sS := sm (snd r k)) (sem := sm (rcv r k))
      (r₁ := 0) (r₂ := 0) (d₁ := .inl 0) (d₂ := .inl 0) (q := sshare k) (fs := fs) (fd := fd)
      (by rw [duties_cell]; exact Finset.mem_singleton_self _) (by rw [duties_cell]; exact Finset.mem_singleton_self _)
      () () (NN k) (dst_amount r _ _ k) (amount_cell X c (snd r k) _) (amount_cell X (pe c k) (rcv r k) _)
      (owedL rest) rfl (W := W)
      (by
        rw [payload_cell]; show _ ⊢ sendPay X c r k
        unfold sendPay owns
        iintro H; iexists fs; isplitr; · ipureintro; exact hfs
        iexact H)
      (by
        rw [payload_cell]; show _ ⊢ recvPay X (pe c k) r k
        unfold recvPay owns
        rw [qe_pe]
        iintro H; iexists (dstRow r c k).view.write (Elt F) fd ((srcRow r k).view.read (Elt F) fs) Finset.univ; isplitr
        · ipureintro; exact (View.read_write_univ _ _).trans hfs
        iexact H)) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iexact Hc

theorem wp_sends {Q : α → sProp 𝕄} (r : Fin 2) (o : Fin 2 → ℕ) (ho : ∀ a, o a + S1x1024.size a ≤ S16x1024.size a) (hoe : o = ![rb c + r.val, 0])
    (l : List Peer) (rest : List (GSem nD τ sig × ℕ)) (p : Prog (TpuEff nD τ sig (Elt F) Λ₀ .tc) α) :
    iprop(Ow c (l.map (cpE c r) ++ rest) ∗ bigSepL l (sendRes X K c r))
      ⊢ iprop(((Ow c rest ∗ bigSepL l fun k => cred (tallyAt (cell c (snd r k)) () (NN k))) -∗ WP c p Q) -∗ WP c (sends c r o ho l p) Q) := by
  subst hoe
  induction l with
  | nil =>
    iintro ⟨H, -⟩ Hk
    iapply Hk; isplitl [H]; · iexact H
    iempintro
  | cons k l ih =>
    rw [bigSepL_cons', bigSepL_cons', List.map_cons, List.cons_append]
    iintro ⟨HO, Hs, Hl⟩ Hk
    unfold sends
    iapply (wp_send1 X K c r k _ (sdev_eq c r k) (l.map (cpE c r) ++ rest)) $$ [HO Hs]
    · isplitl [HO] <;> iassumption
    iintro ⟨HO, Hc⟩
    iapply ih $$ [HO Hl]
    · isplitl [HO] <;> iassumption
    iintro ⟨HO, Hcs⟩
    iapply Hk
    isplitl [HO]; · iexact HO
    isplitl [Hc]; · iexact Hc
    iexact Hcs

/-- What the waits for row `r`'s copies of number `k` take. -/
def waitRes (r : Fin 2) (k : Peer) : sProp 𝕄 :=
  iprop((inv X K (cell c (snd r k)) ∗ inv X K (cell c (rcv r k)))
    ∗ cred (tallyAt (cell c (snd r k)) () (NN k)) ∗ cred (tallyAt (cell c (rcv r k)) () (NN k))
    ∗ atPos ER (cell c (snd r k)) 0 ∅ 0 ∗ atPos ER (cell c (rcv r k)) 0 ∅ 0)
/-- What they give: the share of the source back and the row that has landed. -/
def waitOut (r : Fin 2) (k : Peer) : sProp 𝕄 :=
  iprop((sendPay X c r k ∗ recvPay X c r k) ∗ atPos ER (cell c (snd r k)) 1 ∅ 0 ∗ atPos ER (cell c (rcv r k)) 1 ∅ 0)

/-- A wait on one of a device's own copy cells. -/
theorem wp_wait1 {Q : α → sProp 𝕄} (x : Bool × Fin 2 × Peer) (rest : List (GSem nD τ sig × ℕ))
    (hrest : ∀ y ∈ rest, y.1.1.2 = .tc ∧ lvK (ckOf (sm (some x))) < lv y.1 ())
    {w : TpuEff nD τ sig (Elt F) Λ₀ .tc PUnit} (hw : ∀ Kt : PUnit → sProp 𝕄,
      wpE (defs₀ (F := F)) 𝒱₀ (c : Thread nD τ) none Set.univ w Kt = waitSpec (c : Thread nD τ) Set.univ (sm (some x)) (NN x.2.2) Kt)
    {k : PUnit → Prog (TpuEff nD τ sig (Elt F) Λ₀ .tc) α} :
    iprop(Ow c rest ∗ inv X K (cell c (some x)) ∗ cred (tallyAt (cell c (some x)) () (NN x.2.2)) ∗ atPos ER (cell c (some x)) 0 ∅ 0 ∗ levAts L lv)
      ⊢ iprop(((Ow c rest ∗ atPos ER (cell c (some x)) 1 ∅ 0 ∗ payK X c (.inl 0) (some (some x))) -∗ WP c (k ⟨⟩) Q) -∗ WP c (.op w k) Q) := by
  unfold Ow
  iintro ⟨⟨%W, HO⟩, #HI, Hc, Ha, #Hlev⟩ Hk
  iapply (Rounds.wp_wait_rest_token 𝒱₀ ER (Sch X) (c : Thread nD τ) none (κ := K (cell c (some x))) (sm := sm (some x)) (k' := NN x.2.2)
      hw (Set.mem_univ _) () (O := owedL rest) (W := W) (R := 0) (m := 0) (T := ∅)
      (by rw [expect_dma, Nat.zero_add])) $$ [HO Hc Ha]
  · isplitr; · iexact HI
    isplitl [Hc]; · iexact Hc
    isplitl [HO]; · iexact HO
    isplitr; · iapply (mayWait_list c (sm (some x)) rest hrest); iexact Hlev
    iexact Ha
  iintro ⟨HO, Ha, -, Hp⟩
  iapply Hk
  isplitl [HO]; · iexists _; iexact HO
  isplitl [Ha]; · iexact Ha
  iapply (Entails.of_eq (rest_dma X c x)); iexact Hp

theorem wp_waits {Q : α → sProp 𝕄} (r : Fin 2) (o : Fin 2 → ℕ) (ho : ∀ a, o a + S1x1024.size a ≤ S16x1024.size a)
    (rest : List (GSem nD τ sig × ℕ)) (l : List Peer)
    (hrest : ∀ k ∈ l, ∀ y ∈ rest, y.1.1.2 = .tc ∧ lvK (some (some (true, r, k))) < lv y.1 ())
    (p : Prog (TpuEff nD τ sig (Elt F) Λ₀ .tc) α) :
    iprop(Ow c rest ∗ levAts L lv ∗ bigSepL l (waitRes X K c r))
      ⊢ iprop(((Ow c rest ∗ bigSepL l (waitOut X c r)) -∗ WP c p Q) -∗ WP c (waits r o ho l p) Q) := by
  induction l with
  | nil =>
    iintro ⟨H, -, -⟩ Hk
    iapply Hk; isplitl [H]; · iexact H
    iempintro
  | cons k l ih =>
    rw [bigSepL_cons', bigSepL_cons']
    unfold waitRes waitOut at ih ⊢
    iintro ⟨HO, #Hlev, ⟨⟨#HI, #HI'⟩, Hc, Hc', Ha, Ha'⟩, Hl⟩ Hk
    unfold waits
    iapply (wp_wait1 X K c (false, r, k) rest (fun y hy => ⟨(hrest k List.mem_cons_self y hy).1, by
        rw [ckOf_sm]; exact lt_of_le_of_lt (Nat.zero_le _) (hrest k List.mem_cons_self y hy).2⟩)
        (fun Kt => by rw [wpE_waitDma2_eq, src_amount]; rfl)) $$ [HO Hc Ha]
    · isplitl [HO]; · iexact HO
      isplitr; · iexact HI
      isplitl [Hc]; · iexact Hc
      isplitl [Ha]; · iexact Ha
      iexact Hlev
    iintro ⟨HO, Ha, Hp⟩
    iapply (wp_wait1 X K c (true, r, k) rest (fun y hy => by rw [ckOf_sm]; exact hrest k List.mem_cons_self y hy)
        (fun Kt => by rw [wpE_waitDma2_eq, dst_amount]; rfl)) $$ [HO Hc' Ha']
    · isplitl [HO]; · iexact HO
      isplitr; · iexact HI'
      isplitl [Hc']; · iexact Hc'
      isplitl [Ha']; · iexact Ha'
      iexact Hlev
    iintro ⟨HO, Ha', Hp'⟩
    iapply (ih fun k hk => hrest k (List.mem_cons_of_mem _ hk)) $$ [HO Hl]
    · isplitl [HO]; · iexact HO
      isplitr; · iexact Hlev
      iexact Hl
    iintro ⟨HO, Hout⟩
    iapply Hk
    isplitl [HO]; · iexact HO
    isplitr [Hout]
    · isplitl [Hp Hp']
      · isplitl [Hp]
        · iapply (show payK X c (.inl 0) (some (some (false, r, k))) ⊢ sendPay X c r k from Entails.refl _); iexact Hp
        iapply (show payK X c (.inl 0) (some (some (true, r, k))) ⊢ recvPay X c r k from Entails.refl _); iexact Hp'
      isplitl [Ha] <;> iassumption
    iexact Hout

end Run

end Cert.FlashProof
-- ==== Proof.Owns.lean ====
/-
Owned views: a share dealt into tokens and joined again, the load of a whole memref, the table's word.
-/
module

public import proofs.«01_k».proof.Proof.Steps

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

section Shares
variable (c : Dev nD) {s : Shape} {e : EltTy}

/-- An owned view is its elements at any contents that the view reads alike. -/
theorem owns_at {cs : Space} (m : Memref sig .tc cs s e) (q : PosShare TreeShare) (f : m.view.ty.Contents (Elt F)) :
    (owns (c : Thread nD τ) m q (m.view.read (Elt F) f) : sProp 𝕄) ⊢ (m.view.loc (c : Thread nD τ) ↦[m.view.set]{q} f) := by
  unfold owns
  iintro ⟨%g, %hg, H⟩
  iapply (show (m.view.loc (c : Thread nD τ) ↦[m.view.set]{q} g : sProp 𝕄) ⊢ (m.view.loc (c : Thread nD τ) ↦[m.view.set]{q} f) from
    Entails.of_eq (pointsTo_congr fun i hi => by
      rw [View.set, Finset.mem_map] at hi
      obtain ⟨x, -, rfl⟩ := hi
      have := congrFun hg x
      simpa [View.read] using this))
  iexact H

variable {cs : Space} (m : Memref sig .tc cs s e)

theorem owns_toks_split (q : PosShare TreeShare) (n : ℕ) (X : s.Idx → Elt F e) :
    (owns (c : Thread nD τ) m q X : sProp 𝕄)
      ⊢ iprop(owns (c : Thread nD τ) m (shareDrop q n) X ∗ bigSep Finset.univ fun i : Fin n => owns (c : Thread nD τ) m (shareTok q n i) X) := by
  conv_lhs => unfold owns
  iintro ⟨%f, %hf, H⟩
  subst hf
  ihave H' := (pointsTo_toks_split (Lvl := ℕ) q n) $$ H
  icases H' with ⟨H0, H1⟩
  isplitl [H0]
  · iapply (owns_intro (c : Thread nD τ) m _ f); iexact H0
  iapply (show (bigSep Finset.univ fun i : Fin n => (m.view.loc (c : Thread nD τ) ↦[m.view.set]{shareTok q n i} f : sProp 𝕄)) ⊢ _ from
    bigSep_mono fun i _ => owns_intro (c : Thread nD τ) m (shareTok q n i) f)
  iexact H1

theorem owns_toks_join (q : PosShare TreeShare) (n : ℕ) (X : s.Idx → Elt F e) :
    iprop(owns (c : Thread nD τ) m (shareDrop q n) X ∗ bigSep Finset.univ fun i : Fin n => owns (c : Thread nD τ) m (shareTok q n i) X)
      ⊢ (owns (c : Thread nD τ) m q X : sProp 𝕄) := by
  conv_lhs => lhs; unfold owns
  iintro ⟨⟨%f, %hf, H0⟩, H1⟩
  subst hf
  iapply (owns_intro (c : Thread nD τ) m q f)
  iapply (pointsTo_toks_join (Lvl := ℕ) q n)
  isplitl [H0]; · iexact H0
  iapply (show (bigSep Finset.univ fun i : Fin n => (owns (c : Thread nD τ) m (shareTok q n i) (m.view.read (Elt F) f) : sProp 𝕄)) ⊢ _ from
    bigSep_mono fun i _ => owns_at c m (shareTok q n i) f)
  iexact H1

/-- A load of a whole memref through the rectangle of all its elements. -/
theorem wp_load_full {ks : CoreSpace} (m : Memref sig .tc ks s e) {α : Type} {Q : α → sProp 𝕄} {o : Fin s.rank → ℕ} {inb : ∀ a, o a + s.size a ≤ s.size a}
    {hl : m.view.LoadsAt (Rect.unit o s.size inb).toLoadRect}
    {k : (s.Idx → Elt F e) → Prog (TpuEff nD τ sig (Elt F) Λ₀ .tc) α} (q : PosShare TreeShare) (X : s.Idx → Elt F e) :
    (owns (c : Thread nD τ) m q X : sProp 𝕄)
      ⊢ iprop((owns (c : Thread nD τ) m q X -∗ WP c (k X) Q) -∗ WP c (.op (.load m (Rect.unit o s.size inb).toLoadRect hl) k) Q) := by
  unfold owns
  iintro ⟨%f, %hf, H⟩ Hk
  iapply (wp_load_rect 𝒱₀ (c : Thread nD τ) none Set.univ (m := m) (r := Rect.unit o s.size inb) (S := m.view.set) (View.set_slice_subset _ _)) $$ H
  iintro H
  rw [show (m.access (Rect.unit o s.size inb)).read (Elt F) f = X from by
    rw [← hf]; funext j
    show m.view.read (Elt F) f ((Rect.unit o s.size inb).emb j) = m.view.read (Elt F) f j
    congr 1
    funext a; apply Fin.ext
    have := inb a
    show o a + 1 * (j a).val = _
    omega]
  iapply Hk
  iexists f
  isplitr; · ipureintro; exact hf
  iexact H

end Shares

/-- The table's word, read. -/
theorem wp_table (c : Dev nD) {α : Type} {Q : α → sProp 𝕄} (q : PosShare TreeShare) (f : Buf (Elt F) ((c : Thread nD τ).loc main_v24)) (w : BitVec 32)
    (hf : ∀ j, f j = w) {r : Rect S1} {x : r.shape.Idx} {hl : (Memref.whole main_v24).view.LoadsAt r.toLoadRect}
    {k : BitVec 32 → Prog (TpuEff nD τ sig (Elt F) Λ₀ .tc) α} :
    ((c : Thread nD τ).loc main_v24 ↦{q} f : sProp 𝕄)
      ⊢ iprop((((c : Thread nD τ).loc main_v24 ↦{q} f) -∗ WP c (k w) Q)
        -∗ WP c (.op (.load (p := .tc) (Memref.whole main_v24) r.toLoadRect hl) fun f => k (f x)) Q) := by
  iintro H Hk
  iapply (wp_load_rect 𝒱₀ (c : Thread nD τ) none Set.univ (m := Memref.whole main_v24) (r := r) (S := Finset.univ) (Finset.subset_univ _)
    (k := fun f => k (f x))) $$ H
  iintro H
  rw [show ((Memref.whole main_v24).access r).read (Elt F) f x = w from hf _]
  iapply Hk
  iexact H

end Cert.FlashProof
-- ==== Proof.Point.lean ====
/-
The body at its two grid points on device `c`. At the first the device computes its first row of local sums, exchanges
the signals and sends that row along `z`; at the second it computes the other row, gathers the rows from its `z` peers,
finishes both rows and sends them along `g`.
-/
module

public import proofs.«01_k».proof.Proof.Owns
public import proofs.«01_k».proof.Proof.Gen.KernelIdeal.Skeleton

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

abbrev mM : Memref sig .tc .vmem S16x1024 .f32 := Memref.whole cc0_stg3_0

/-! ## The pieces -/

/-- What a point reads: the table's word, and the blocks of the queries, keys and values and the mask. -/
structure Blocks (F : FTy → Type) [FloatOps F] where
  q : S1x16x64.Idx → Elt F .f32
  kt : S1x16x64x1024.Idx → Elt F .f32
  vt : S1x16x64x1024.Idx → Elt F .f32
  m : S16x1024.Idx → Elt F .f32

/-- The row of local sums a point computes. -/
def Blocks.row (b : Blocks F) : S1x1152.Idx → Elt F .f32 := k0_pay5 b.kt b.vt b.m b.q b.m

section Point
variable (X : Cont F) (K : GSem nD τ sig → ℕ) (c : Dev nD)
variable (a2 : Memref sig .tc .vmem S1x16x64 .f32) (h2 : a2.IsWhole)
  (a3 : Memref sig .tc .vmem S1x16x64x1024 .f32) (h3 : a3.IsWhole) (a4 : Memref sig .tc .vmem S1x16x64x1024 .f32) (h4 : a4.IsWhole)

/-- The inputs of a point, owned. -/
def inputs (qt : PosShare TreeShare) (tb : Buf (Elt F) ((c : Thread nD τ).loc main_v24)) (b : Blocks F) : sProp 𝕄 :=
  iprop(((c : Thread nD τ).loc main_v24 ↦{qt} tb) ∗ owns (c : Thread nD τ) a3 fullShare b.kt ∗ owns (c : Thread nD τ) a4 fullShare b.vt
    ∗ owns (c : Thread nD τ) mM fullShare b.m ∗ owns (c : Thread nD τ) a2 fullShare b.q)

/-- What the body reads of the table. -/
abbrev word (c : Dev nD) : BitVec 32 := BitVec.ofNat 32 (rb c)

theorem chk_word (i : grid0.Coords) (c : Dev nD) : k0_chk1 i (word c) := by
  have h : ∀ c : Dev nD, ∀ r : Fin 2, ∀ a, (k0_off2 (word c) (BitVec.ofNat 32 r.val)) a + S1x1024.size a ≤ S16x1024.size a := by decide
  have h' : ∀ c : Dev nD, ∀ r : Fin 2, ∀ a, (k0_off3 (word c) (BitVec.ofNat 32 r.val)) a + S1x1024.size a ≤ S16x1024.size a := by decide
  exact ⟨fun _ => h c, fun _ => h' c⟩

/-- The operations of a point's head after the table's word is read. -/
def headQ {α : Type} (i : grid0.Coords) (k : (Σ' (arg0 : BitVec 32) (v0 : Elt F .i32) (k0_hw1 : k0_chk1 i v0), Dev nD) → Prog (TpuEff nD τ sig (Elt F) Λ₀ .tc) α) (v0 : BitVec 32) :
    Prog (TpuEff nD τ sig (Elt F) Λ₀ .tc) α :=
  .op (.assume (k0_chk1 i v0) (k0_chk1.dec i v0)) fun h =>
  .op (.load a3 (Rect.unit (s := S1x16x64x1024) ![0, 0, 0, 0] S1x16x64x1024.size inb_S1x16x64x1024_S1x16x64x1024_0_0_0_0).toLoadRect (View.loadsAt_vmem h_S1x16x64x1024)) fun v1 =>
  .op (.load a4 (Rect.unit (s := S1x16x64x1024) ![0, 0, 0, 0] S1x16x64x1024.size inb_S1x16x64x1024_S1x16x64x1024_0_0_0_0).toLoadRect (View.loadsAt_vmem h_S1x16x64x1024)) fun v4 =>
  .op (.load mM (Rect.unit (s := S16x1024) ![0, 0] S16x1024.size inb_S16x1024_S16x1024_0_0).toLoadRect (View.loadsAt_vmem h_S16x1024)) fun v7 =>
  .op (.load a2 (Rect.unit (s := S1x16x64) ![0, 0, 0] S1x16x64.size inb_S1x16x64_S1x16x64_0_0_0).toLoadRect (View.loadsAt_vmem h_S1x16x64)) fun v9 =>
  .op (.load mM (Rect.unit (s := S16x1024) ![0, 0] S16x1024.size inb_S16x1024_S16x1024_0_0).toLoadRect (View.loadsAt_vmem h_S16x1024)) fun v21 =>
  .op (.load redM (Rect.unit (s := S2x1152) (k0_off1 i) S1x1152.size (k0_off1_inb i)).toLoadRect (View.loadsAt_vmem h_S1x1152)) fun _ =>
  .op (.store redM (Rect.unit (s := S2x1152) (k0_off1 i) S1x1152.size (k0_off1_inb i)) (k0_pay5 v1 v4 v7 v9 v21) Finset.univ (View.stores_vmem_bits_univ h_S1x1152 rfl) (.inl rfl)) fun _ =>
  .op .deviceId fun d => k ⟨BitVec.ofNat 32 (i 0).val, v0, h.down, d⟩

/-- The operations of a point's head. -/
def headP {α : Type} (i : grid0.Coords) (k : (Σ' (arg0 : BitVec 32) (v0 : Elt F .i32) (k0_hw1 : k0_chk1 i v0), Dev nD) → Prog (TpuEff nD τ sig (Elt F) Λ₀ .tc) α) :
    Prog (TpuEff nD τ sig (Elt F) Λ₀ .tc) α :=
  .op (.load (p := .tc) (Memref.whole main_v24) (Rect.unit (s := S1) ![0] S1.size inb_S1_S1_0).toLoadRect (View.loadsAt_rect (View.loads_smem_one rfl numel1_S1))) fun f =>
    headQ a2 a3 a4 i k (f (Shape.Idx.first (numel1_S1.symm ▸ Nat.one_pos)))

/-- The head of a point: its row of local sums is computed and stored. -/
theorem wp_head {α : Type} {Q : α → sProp 𝕄} (i : grid0.Coords) (r : Fin 2) (hr : k0_off1 i = ![r.val, 0])
    (qt : PosShare TreeShare) (tb : Buf (Elt F) ((c : Thread nD τ).loc main_v24)) (htb : ∀ j, tb j = word c) (b : Blocks F)
    (Y : S1x1152.Idx → Elt F .f32) (k : (Σ' (arg0 : BitVec 32) (v0 : Elt F .i32) (k0_hw1 : k0_chk1 i v0), Dev nD) → Prog (TpuEff nD τ sig (Elt F) Λ₀ .tc) α) :
    iprop(inputs c a2 a3 a4 qt tb b ∗ owns (c : Thread nD τ) (redRow r) fullShare Y)
      ⊢ iprop(((inputs c a2 a3 a4 qt tb b ∗ owns (c : Thread nD τ) (redRow r) fullShare b.row) -∗ WP c (k ⟨BitVec.ofNat 32 (i 0).val, word c, chk_word i c, c⟩) Q)
        -∗ WP c ((k0_part45_skel i (Memref.whole main_v24) (Memref.isWhole_whole _) a2 h2 a3 h3 a4 h4 mM (Memref.isWhole_whole _) outM (Memref.isWhole_whole _)
          redM (Memref.isWhole_whole _) nrmM (Memref.isWhole_whole _) (czM 0) (Memref.isWhole_whole _) (czM 1) (Memref.isWhole_whole _)
          cc0_scratch4 cc0_scratch5 cc0_scratch6 cc0_scratch7).bind k) Q) := by
  have hred : ∀ (o : Fin 2 → ℕ) (ho : ∀ a, o a + S1x1152.size a ≤ S2x1152.size a), o = ![r.val, 0] →
      redM.slice (Rect.unit (s := S2x1152) o S1x1152.size ho) (fun _ => rfl) = redRow r := by
    intro o ho h; subst h; rfl
  unfold inputs
  rw [← hred (k0_off1 i) (k0_off1_inb i) hr]
  iintro ⟨⟨Ht, H3, H4, HM, H2⟩, HR⟩ Hk
  iapply (show WP c (headP a2 a3 a4 i k) Q ⊢ _ from Entails.refl _)
  unfold headP
  iapply (wp_table c qt tb (word c) htb (k := headQ a2 a3 a4 i k)) $$ Ht
  iintro Ht
  unfold headQ
  iapply (wp_assume 𝒱₀ (c : Thread nD τ) none Set.univ (chk_word i c))
  iapply (wp_load_full c a3 fullShare b.kt) $$ H3; iintro H3
  iapply (wp_load_full c a4 fullShare b.vt) $$ H4; iintro H4
  iapply (wp_load_full c mM fullShare b.m) $$ HM; iintro HM
  iapply (wp_load_full c a2 fullShare b.q) $$ H2; iintro H2
  iapply (wp_load_full c mM fullShare b.m) $$ HM; iintro HM
  iapply (wp_load_owns c redM _ (fun _ => rfl) fullShare Y) $$ HR; iintro HR
  iapply (wp_store_owns c redM _ (fun _ => rfl) Y) $$ HR; iintro HR
  simp only [wp_deviceId]
  iapply Hk
  isplitr [HR]
  · isplitl [Ht]; · iexact Ht
    isplitl [H3]; · iexact H3
    isplitl [H4]; · iexact H4
    isplitl [HM]; · iexact HM
    iexact H2
  iexact HR

/-- The arithmetic of a finished row, and its copy to the device's own place of the result. -/
def comp {α : Type} (r : Fin 2) (pay : Vec F S1x1152 .f32 → Vec F S1x1152 .f32 → Vec F S1x1152 .f32 → Vec F S1x1152 .f32 → Vec F S16x1024 .f32 → FVec F S1x1024 .f32)
    (o : Fin 2 → ℕ) (ho : ∀ a, o a + S1x1024.size a ≤ S16x1024.size a)
    (p : Prog (TpuEff nD τ sig (Elt F) Λ₀ .tc) α) : Prog (TpuEff nD τ sig (Elt F) Λ₀ .tc) α :=
  .op (.load redM (Rect.unit (s := S2x1152) ![r.val, 0] S1x1152.size (inb_red r)).toLoadRect (View.loadsAt_vmem h_S1x1152)) fun v0 =>
  .op (.load (czM r) (Rect.unit (s := S3x1152) ![0, 0] S1x1152.size (inb_cz 0)).toLoadRect (View.loadsAt_vmem h_S1x1152)) fun v1 =>
  .op (.load (czM r) (Rect.unit (s := S3x1152) ![1, 0] S1x1152.size (inb_cz 1)).toLoadRect (View.loadsAt_vmem h_S1x1152)) fun v2 =>
  .op (.load (czM r) (Rect.unit (s := S3x1152) ![2, 0] S1x1152.size (inb_cz 2)).toLoadRect (View.loadsAt_vmem h_S1x1152)) fun v3 =>
  .op (.load mM (Rect.unit (s := S16x1024) ![0, 0] S16x1024.size inb_S16x1024_S16x1024_0_0).toLoadRect (View.loadsAt_vmem h_S16x1024)) fun v4 =>
  .op (.load nrmM (Rect.unit (s := S2x1024) ![r.val, 0] S1x1024.size (inb_nrm r)).toLoadRect (View.loadsAt_vmem h_S1x1024)) fun _ =>
  .op (.store nrmM (Rect.unit (s := S2x1024) ![r.val, 0] S1x1024.size (inb_nrm r)) (pay v0 v1 v2 v3 v4) Finset.univ (View.stores_vmem_bits_univ h_S1x1024 rfl) (.inl rfl)) fun _ =>
  .op (.load nrmM (Rect.unit (s := S2x1024) ![r.val, 0] S1x1024.size (inb_nrm r)).toLoadRect (View.loadsAt_vmem h_S1x1024)) fun v5 =>
  .op (.load outM (Rect.unit (s := S16x1024) o S1x1024.size ho).toLoadRect (View.loadsAt_vmem h_S1x1024)) fun _ =>
  .op (.store outM (Rect.unit (s := S16x1024) o S1x1024.size ho) v5 Finset.univ (View.stores_vmem_bits_univ h_S1x1024 rfl) (.inl rfl)) fun _ => p

/-- The rows a finished row is computed from: the device's own and the three landed ones. -/
def fin4 (r : Fin 2) (m : S16x1024.Idx → Elt F .f32) : S1x1024.Idx → Elt F .f32 :=
  k0_pay4 (X.red c r) (X.red (qe c (.inl 0)) r) (X.red (qe c (.inl 1)) r) (X.red (qe c (.inl 2)) r) m

theorem wp_comp {α : Type} {Q : α → sProp 𝕄} (r : Fin 2) (pay) (hpay : pay = k0_pay4 (F := F)) (o : Fin 2 → ℕ) (ho : ∀ a, o a + S1x1024.size a ≤ S16x1024.size a)
    (hoe : o = ![rb c + r.val, 0]) (q : PosShare TreeShare) (m : S16x1024.Idx → Elt F .f32) (hX : X.nrm c r = fin4 X c r m) (Y Z : S1x1024.Idx → Elt F .f32)
    (p : Prog (TpuEff nD τ sig (Elt F) Λ₀ .tc) α) :
    iprop(owns (c : Thread nD τ) (redRow r) q (X.red c r) ∗ bigSepL zl (recvPay X c r) ∗ owns (c : Thread nD τ) mM fullShare m
        ∗ owns (c : Thread nD τ) (nrmRow r) fullShare Y ∗ owns (c : Thread nD τ) (outRow _ (rb_add_lt c r)) fullShare Z)
      ⊢ iprop(((owns (c : Thread nD τ) (redRow r) q (X.red c r) ∗ bigSepL zl (recvPay X c r) ∗ owns (c : Thread nD τ) mM fullShare m
        ∗ owns (c : Thread nD τ) (nrmRow r) fullShare (X.nrm c r) ∗ owns (c : Thread nD τ) (outRow _ (rb_add_lt c r)) fullShare (X.nrm c r)) -∗ WP c p Q)
        -∗ WP c (comp r pay o ho p) Q) := by
  subst hoe hpay
  rw [hX]
  unfold fin4 comp
  have land : ∀ j : Fin 3, owns (c : Thread nD τ) (czRow r j) fullShare (X.red (qe c (.inl j)) r) ⊢ recvPay X c r (.inl j) := fun j => Entails.refl _
  have land' : ∀ j : Fin 3, recvPay X c r (.inl j) ⊢ owns (c : Thread nD τ) (czRow r j) fullShare (X.red (qe c (.inl j)) r) := fun j => Entails.refl _
  rw [show (zl : List Peer) = [.inl 0, .inl 1, .inl 2] from rfl, bigSepL_cons', bigSepL_cons', bigSepL_cons']
  iintro ⟨HR, ⟨H0, H1, H2, He⟩, HM, HN, HO⟩ Hk
  iapply (wp_load_owns c redM _ (fun _ => rfl) q (X.red c r)) $$ HR; iintro HR
  ihave H0 := (land' 0) $$ H0
  ihave H1 := (land' 1) $$ H1
  ihave H2 := (land' 2) $$ H2
  iapply (wp_load_owns c (czM r) _ (fun _ => rfl) fullShare (X.red (qe c (.inl 0)) r)) $$ H0; iintro H0
  iapply (wp_load_owns c (czM r) _ (fun _ => rfl) fullShare (X.red (qe c (.inl 1)) r)) $$ H1; iintro H1
  iapply (wp_load_owns c (czM r) _ (fun _ => rfl) fullShare (X.red (qe c (.inl 2)) r)) $$ H2; iintro H2
  iapply (wp_load_full c mM fullShare m) $$ HM; iintro HM
  iapply (wp_load_owns c nrmM _ (fun _ => rfl) fullShare Y) $$ HN; iintro HN
  iapply (wp_store_owns c nrmM _ (fun _ => rfl) Y) $$ HN; iintro HN
  iapply (wp_load_owns c nrmM _ (fun _ => rfl) fullShare _) $$ HN; iintro HN
  iapply (wp_load_owns c outM _ (fun _ => rfl) fullShare Z) $$ HO; iintro HO
  iapply (wp_store_owns c outM _ (fun _ => rfl) Z) $$ HO; iintro HO
  iapply Hk
  isplitl [HR]; · iexact HR
  isplitl [H0 H1 H2 He]
  · isplitl [H0]; · iapply (land 0); iexact H0
    isplitl [H1]; · iapply (land 1); iexact H1
    isplitl [H2]; · iapply (land 2); iexact H2
    iexact He
  isplitl [HM]; · iexact HM
  isplitl [HN]; · iexact HN
  iexact HO

/-! ## The programs of the points -/

/-- The first point after its head. -/
def tail0 : Prog (TpuEff nD τ sig (Elt F) Λ₀ .tc) PUnit :=
  sigs c (zl ++ gl) (.op (.semWait bSem (10#32 : BitVec 32).toNat) fun _ => sends c 0 ![rb c + (0 : Fin 2).val, 0] (inb_out _ (rb_add_lt c 0)) zl (.ret ⟨⟩))

/-- The offsets the body computes from the table's word. -/
abbrev o2 (r : Fin 2) : Fin 2 → ℕ := k0_off2 (word c) (BitVec.ofNat 32 r.val)
abbrev o3 (r : Fin 2) : Fin 2 → ℕ := k0_off3 (word c) (BitVec.ofNat 32 r.val)
theorem o2_eq (r : Fin 2) : o2 c r = ![rb c + r.val, 0] := by revert c r; decide
theorem o3_eq (r : Fin 2) : o3 c r = ![rb c + r.val, 0] := by revert c r; decide
theorem o2_inb (r : Fin 2) : ∀ a, o2 c r a + S1x1024.size a ≤ S16x1024.size a := by rw [o2_eq]; exact inb_out _ (rb_add_lt c r)
theorem o3_inb (r : Fin 2) : ∀ a, o3 c r a + S1x1024.size a ≤ S16x1024.size a := by rw [o3_eq]; exact inb_out _ (rb_add_lt c r)

/-- The second point after its head. -/
def tail1 : Prog (TpuEff nD τ sig (Elt F) Λ₀ .tc) PUnit :=
  sends c 1 (o3 c 1) (o3_inb c 1) zl <|
  waits 0 (o3 c 0) (o3_inb c 0) zl <|
  comp 0 k0_pay4 (o2 c 0) (o2_inb c 0) <|
  sends c 0 (o3 c 0) (o3_inb c 0) gl <|
  waits 1 (o3 c 1) (o3_inb c 1) zl <|
  comp 1 k0_pay4 (o2 c 1) (o2_inb c 1) <|
  sends c 1 (o3 c 1) (o3_inb c 1) gl <|
  waits 0 (o3 c 0) (o3_inb c 0) gl <|
  waits 1 (o3 c 1) (o3_inb c 1) gl (.ret ⟨⟩)

/-- The body on the device's buffers. -/
abbrev body (i : grid0.Coords) : Prog (TpuEff nD τ sig (Elt F) Λ₀ .tc) PUnit :=
  cc0_body i (Memref.whole main_v24) (Memref.isWhole_whole _) a2 h2 a3 h3 a4 h4 mM (Memref.isWhole_whole _) outM (Memref.isWhole_whole _)
    redM (Memref.isWhole_whole _) nrmM (Memref.isWhole_whole _) (czM 0) (Memref.isWhole_whole _) (czM 1) (Memref.isWhole_whole _)
    cc0_scratch4 cc0_scratch5 cc0_scratch6 cc0_scratch7

theorem wp_body0 {Q : PUnit → sProp 𝕄} (i : grid0.Coords) (hc1 : k0_cond1 i = 1#1) (hc2 : ¬ k0_cond2 i = 1#1) (hr : k0_off1 i = ![(0 : Fin 2).val, 0])
    (qt : PosShare TreeShare) (tb : Buf (Elt F) ((c : Thread nD τ).loc main_v24)) (htb : ∀ j, tb j = word c) (b : Blocks F) (Y : S1x1152.Idx → Elt F .f32) :
    iprop(inputs c a2 a3 a4 qt tb b ∗ owns (c : Thread nD τ) (redRow 0) fullShare Y)
      ⊢ iprop(((inputs c a2 a3 a4 qt tb b ∗ owns (c : Thread nD τ) (redRow 0) fullShare b.row) -∗ WP c (tail0 c) Q)
        -∗ WP c (body a2 h2 a3 h3 a4 h4 i) Q) := by
  rw [body, cc0_body_eq_skeleton]
  unfold cc0_body_skel
  simp only [dif_pos hc1, dif_neg hc2]
  rw [k0_part45_eq_skeleton]
  iintro H Hk
  iapply (wp_head c a2 h2 a3 h3 a4 h4 i 0 hr qt tb htb b Y) $$ H
  iintro H
  iapply (show WP c (tail0 c) Q ⊢ _ from Entails.refl _)
  iapply Hk
  iexact H

theorem wp_body1 {Q : PUnit → sProp 𝕄} (i : grid0.Coords) (hc1 : ¬ k0_cond1 i = 1#1) (hc2 : k0_cond2 i = 1#1) (hr : k0_off1 i = ![(1 : Fin 2).val, 0])
    (qt : PosShare TreeShare) (tb : Buf (Elt F) ((c : Thread nD τ).loc main_v24)) (htb : ∀ j, tb j = word c) (b : Blocks F) (Y : S1x1152.Idx → Elt F .f32) :
    iprop(inputs c a2 a3 a4 qt tb b ∗ owns (c : Thread nD τ) (redRow 1) fullShare Y)
      ⊢ iprop(((inputs c a2 a3 a4 qt tb b ∗ owns (c : Thread nD τ) (redRow 1) fullShare b.row) -∗ WP c (tail1 c) Q)
        -∗ WP c (body a2 h2 a3 h3 a4 h4 i) Q) := by
  rw [body, cc0_body_eq_skeleton]
  unfold cc0_body_skel
  simp only [dif_neg hc1, dif_pos hc2]
  rw [k0_part45_eq_skeleton]
  iintro H Hk
  iapply (wp_head c a2 h2 a3 h3 a4 h4 i 1 hr qt tb htb b Y) $$ H
  iintro H
  iapply (show WP c (tail1 c) Q ⊢ _ from Entails.refl _)
  iapply Hk
  iexact H

end Point

end Cert.FlashProof
-- ==== Proof.Tails.lean ====
/-
The two points of the body run to their ends: the exchange of signals and the first copies along `z`; then the two
finished rows, gathered, computed and sent along `g`.
-/
module

public import proofs.«01_k».proof.Proof.Point

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

theorem bigSepL_zip {I : Type} (l : List I) (Φ Ψ : I → sProp 𝕄) : iprop(bigSepL l Φ ∗ bigSepL l Ψ) ⊢ bigSepL l fun i => iprop(Φ i ∗ Ψ i) := by
  induction l with
  | nil => rw [bigSepL_nil, bigSepL_nil, bigSepL_nil]; exact BI.emp_sep.1
  | cons i l ih =>
    rw [bigSepL_cons', bigSepL_cons', bigSepL_cons']
    iintro ⟨⟨H1, H2⟩, H3, H4⟩
    isplitl [H1 H3]; · isplitl [H1] <;> iassumption
    iapply ih; isplitl [H2] <;> iassumption

theorem bigSepL_unzip {I : Type} (l : List I) (Φ Ψ : I → sProp 𝕄) : (bigSepL l fun i => iprop(Φ i ∗ Ψ i)) ⊢ iprop(bigSepL l Φ ∗ bigSepL l Ψ) := by
  induction l with
  | nil => rw [bigSepL_nil, bigSepL_nil, bigSepL_nil]; exact BI.emp_sep.2
  | cons i l ih =>
    rw [bigSepL_cons', bigSepL_cons', bigSepL_cons']
    iintro ⟨⟨H1, H2⟩, H3⟩
    ihave H := ih $$ H3
    icases H with ⟨H3, H4⟩
    isplitl [H1 H3]; · isplitl [H1] <;> iassumption
    isplitl [H2] <;> iassumption

theorem wp_done (c : Dev nD) {Q : PUnit → sProp 𝕄} : Q ⟨⟩ ⊢ WP c (.ret ⟨⟩) Q := by
  unfold WP
  rw [wp_ret]
  exact fupd_intro

section Tails
variable (X : Cont F) (K : GSem nD τ sig → ℕ) (c : Dev nD)

/-- The place for row `r` on peer `k`, and that peer's arrival cell reached. -/
def halfR (r : Fin 2) (k : Peer) : sProp 𝕄 := iprop(slot c r k ∗ reached ER (cell (pe c k) (rcv r k)) 0)

/-- The tokens of row `r`'s copy to peer `k`. -/
def sendTok (r : Fin 2) (k : Peer) : sProp 𝕄 :=
  iprop((inv X K (cell c (snd r k)) ∗ inv X K (cell (pe c k) (rcv r k)) ∗ reached ER (cell c (snd r k)) 0)
    ∗ dutyTok ER (cell c (snd r k)) 0 (.inl 0) ∗ dutyTok ER (cell (pe c k) (rcv r k)) 0 (.inl 0))

/-- What the waits for a copy take but for the departure's credit. -/
def waitTok (r : Fin 2) (k : Peer) : sProp 𝕄 :=
  iprop((inv X K (cell c (snd r k)) ∗ inv X K (cell c (rcv r k)))
    ∗ cred (tallyAt (cell c (rcv r k)) () (NN k)) ∗ atPos ER (cell c (snd r k)) 0 ∅ 0 ∗ atPos ER (cell c (rcv r k)) 0 ∅ 0)

/-- A copy's cells after their round. -/
def doneAt (r : Fin 2) (k : Peer) : sProp 𝕄 := iprop(atPos ER (cell c (snd r k)) 1 ∅ 0 ∗ atPos ER (cell c (rcv r k)) 1 ∅ 0)

theorem mk_sendRes (r : Fin 2) (l : List Peer) :
    iprop(bigSepL l (sendTok X K c r) ∗ bigSepL l (halfR (F := F) c r) ∗ bigSepL l (sendPay X c r)) ⊢ bigSepL l (sendRes X K c r) := by
  iintro ⟨H1, H2, H3⟩
  ihave H := (bigSepL_zip l (halfR (F := F) c r) (sendPay X c r)) $$ [H2 H3]
  · isplitl [H2] <;> iassumption
  ihave H := (bigSepL_zip l (sendTok X K c r) _) $$ [H1 H]
  · isplitl [H1] <;> iassumption
  iapply (bigSepL_mono (l := l) (Ψ := sendRes X K c r) fun k _ => ?_) $$ H
  unfold sendTok halfR sendRes
  iintro ⟨⟨⟨#I1, #I2, #R1⟩, T1, T2⟩, ⟨Hs, #R2⟩, Hp⟩
  isplitr
  · isplitr; · iexact I1
    isplitr; · iexact I2
    isplitr; · iexact R1
    iexact R2
  isplitl [Hp]; · iexact Hp
  isplitl [Hs]; · iexact Hs
  isplitl [T1] <;> iassumption

theorem mk_waitRes (r : Fin 2) (l : List Peer) :
    iprop(bigSepL l (waitTok X K c r) ∗ bigSepL l fun k => cred (tallyAt (cell c (snd r k)) () (NN k))) ⊢ bigSepL l (waitRes X K c r) := by
  refine (bigSepL_zip l _ _).trans (bigSepL_mono fun k _ => ?_)
  unfold waitTok waitRes
  iintro ⟨⟨HI, C2, A1, A2⟩, C1⟩
  isplitl [HI]; · iexact HI
  isplitl [C1]; · iexact C1
  isplitl [C2]; · iexact C2
  isplitl [A1] <;> iassumption

theorem of_waitOut (r : Fin 2) (l : List Peer) :
    bigSepL l (waitOut X c r) ⊢ iprop((bigSepL l (sendPay X c r) ∗ bigSepL l (recvPay X c r)) ∗ bigSepL l (doneAt (F := F) c r)) := by
  unfold waitOut
  iintro H
  ihave H := (bigSepL_unzip l _ _) $$ H
  icases H with ⟨H, H3⟩
  isplitl [H]; · iapply (bigSepL_unzip l _ _); iexact H
  iexact H3

/-- A row dealt to its copies, and back. -/
theorem red_deal (r : Fin 2) : (owns (c : Thread nD τ) (redRow r) fullShare (X.red c r) : sProp 𝕄)
    ⊢ iprop(owns (c : Thread nD τ) (redRow r) (shareDrop fullShare 3) (X.red c r) ∗ bigSepL zl (sendPay X c r)) := by
  refine (owns_toks_split c (redRow r) fullShare 3 (X.red c r)).trans ?_
  rw [bigSep_univ_eq_bigSepL [0, 1, 2] (by decide) (by decide)]
  exact Entails.refl _
theorem red_join (r : Fin 2) : iprop(owns (c : Thread nD τ) (redRow r) (shareDrop fullShare 3) (X.red c r) ∗ bigSepL zl (sendPay X c r))
    ⊢ (owns (c : Thread nD τ) (redRow r) fullShare (X.red c r) : sProp 𝕄) := by
  refine BIBase.Entails.trans ?_ (owns_toks_join c (redRow r) fullShare 3 (X.red c r))
  rw [bigSep_univ_eq_bigSepL [0, 1, 2] (by decide) (by decide)]
  exact Entails.refl _
theorem nrm_deal (r : Fin 2) : (owns (c : Thread nD τ) (nrmRow r) fullShare (X.nrm c r) : sProp 𝕄)
    ⊢ iprop(owns (c : Thread nD τ) (nrmRow r) (shareDrop fullShare 7) (X.nrm c r) ∗ bigSepL gl (sendPay X c r)) := by
  refine (owns_toks_split c (nrmRow r) fullShare 7 (X.nrm c r)).trans ?_
  rw [bigSep_univ_eq_bigSepL [0, 1, 2, 3, 4, 5, 6] (by decide) (by decide)]
  exact Entails.refl _
theorem nrm_join (r : Fin 2) : iprop(owns (c : Thread nD τ) (nrmRow r) (shareDrop fullShare 7) (X.nrm c r) ∗ bigSepL gl (sendPay X c r))
    ⊢ (owns (c : Thread nD τ) (nrmRow r) fullShare (X.nrm c r) : sProp 𝕄) := by
  refine BIBase.Entails.trans ?_ (owns_toks_join c (nrmRow r) fullShare 7 (X.nrm c r))
  rw [bigSep_univ_eq_bigSepL [0, 1, 2, 3, 4, 5, 6] (by decide) (by decide)]
  exact Entails.refl _

/-! ## The order of the payments -/

theorem lt_g (n : ℕ) (hn : n < 3) (l : List (GSem nD τ sig × ℕ)) (hl : ∀ y ∈ l, ∃ (r : Fin 2) (j : Fin 7), y = cpE c r (.inr j)) :
    ∀ y ∈ l, y.1.1.2 = .tc ∧ n < lv y.1 () := by
  intro y hy
  obtain ⟨r, j, rfl⟩ := hl y hy
  exact ⟨rfl, by rw [lv_cell]; exact hn⟩
theorem inl_gl (j : Fin 3) : (.inl j : Peer) ∉ gl := by simp [gl]
theorem inr_zl (j : Fin 7) : (.inr j : Peer) ∉ zl := by simp [zl]
theorem mem_g {r : Fin 2} {y : GSem nD τ sig × ℕ} (h : y ∈ gl.map (cpE c r)) : ∃ (r : Fin 2) (j : Fin 7), y = cpE c r (.inr j) := by
  obtain ⟨k, hk, rfl⟩ := List.mem_map.mp h
  rcases k with j | j
  · exact absurd hk (inl_gl j)
  · exact ⟨r, j, rfl⟩
theorem bar_rest : ∀ y ∈ zl.map (cpE c 0) ++ owed1 c, y.1.1.2 = .tc ∧ lvK (ckOf (sm bar)) < lv y.1 () := by
  have h : ∀ (r : Fin 2) (k : Peer), (cpE c r k).1.1.2 = .tc ∧ lvK (ckOf (sm bar)) < lv (cpE c r k).1 () := by
    intro r k
    refine ⟨rfl, ?_⟩
    rw [lv_cell, ckOf_sm]
    rcases k with j | j
    · exact (by decide : 1 < 2)
    · exact (by decide : 1 < 3)
  intro y hy
  unfold owed1 at hy
  simp only [List.mem_append, List.mem_map] at hy
  rcases hy with ⟨k, -, rfl⟩ | ⟨k, -, rfl⟩ | ⟨k, -, rfl⟩ | ⟨k, -, rfl⟩ | hy
  · exact h _ _
  · exact h _ _
  · exact h _ _
  · exact h _ _
  · exact absurd hy List.not_mem_nil
theorem lv_z (r : Fin 2) {k : Peer} (h : k ∈ zl) : lvK (some (some (true, r, k))) < 3 := by
  rcases k with j | j
  · exact (by decide : 2 < 3)
  · exact absurd h (inr_zl j)

/-! ## The tails -/

/-- The first point's exchange. -/
theorem wp_tail0 {Q : PUnit → sProp 𝕄} :
    iprop(Ow c (owed0 c) ∗ levAts L lv ∗ bigSepL (zl ++ gl) (sigRes X K c)
        ∗ (inv X K (cell c bar) ∗ cred (tallyAt (cell c bar) () 10) ∗ atPos ER (cell c bar) 0 ∅ 0)
        ∗ bigSepL zl (sendTok X K c 0) ∗ owns (c : Thread nD τ) (redRow 0) fullShare (X.red c 0))
      ⊢ iprop(((Ow c (owed1 c) ∗ atPos ER (cell c bar) 1 ∅ 0 ∗ (bigSepL zl (halfR (F := F) c 1) ∗ bigSepL gl (halfR (F := F) c 0) ∗ bigSepL gl (halfR (F := F) c 1))
          ∗ (bigSepL zl fun k => cred (tallyAt (cell c (snd 0 k)) () (NN k))) ∗ owns (c : Thread nD τ) (redRow 0) (shareDrop fullShare 3) (X.red c 0)) -∗ Q ⟨⟩)
        -∗ WP c (tail0 c) Q) := by
  unfold tail0 owed0
  iintro ⟨HO, #Hlev, Hsig, ⟨#HI, Hc, Ha⟩, Htok, HR⟩ Hk
  iapply (wp_sigs X K c (zl ++ gl) _ _) $$ [HO Hsig]
  · isplitl [HO] <;> iassumption
  iintro HO
  iapply (wp_bar X K c _ (bar_rest c)) $$ [HO Hc Ha]
  · isplitl [HO]; · iexact HO
    isplitr; · iexact HI
    isplitl [Hc]; · iexact Hc
    isplitl [Ha]; · iexact Ha
    iexact Hlev
  iintro ⟨HO, Ha, Hb⟩
  ihave Hb := (show bigSepL (zl ++ gl) (barPay (F := F) c) ⊢ bigSepL (zl ++ gl) (fun k => iprop(halfR (F := F) c 0 k ∗ halfR c 1 k)) from Entails.refl _) $$ Hb
  ihave Hb := (bigSepL_unzip (zl ++ gl) _ _) $$ Hb
  rw [bigSepL_append, bigSepL_append]
  icases Hb with ⟨⟨Hz0, Hg0⟩, Hz1, Hg1⟩
  ihave HR := (red_deal X c 0) $$ HR
  icases HR with ⟨HR, Hp⟩
  ihave Hs := (mk_sendRes X K c 0 zl) $$ [Htok Hz0 Hp]
  · isplitl [Htok]; · iexact Htok
    isplitl [Hz0] <;> iassumption
  iapply (wp_sends X K c 0 _ _ rfl zl (owed1 c) _) $$ [HO Hs]
  · isplitl [HO] <;> iassumption
  iintro ⟨HO, Hcr⟩
  iapply (wp_done c)
  iapply Hk
  isplitl [HO]; · iexact HO
  isplitl [Ha]; · iexact Ha
  isplitl [Hz1 Hg0 Hg1]
  · isplitl [Hz1]; · iexact Hz1
    isplitl [Hg0] <;> iassumption
  isplitl [Hcr]; · iexact Hcr
  iexact HR

/-- The second point's gathering and copies. -/
theorem wp_tail1 {Q : PUnit → sProp 𝕄} (m : S16x1024.Idx → Elt F .f32) (hX : ∀ r, X.nrm c r = fin4 X c r m) (Y₀ Y₁ Z₀ Z₁ : S1x1024.Idx → Elt F .f32) :
    iprop(Ow c (owed1 c) ∗ levAts L lv
        ∗ (bigSepL zl (halfR (F := F) c 1) ∗ bigSepL gl (halfR (F := F) c 0) ∗ bigSepL gl (halfR (F := F) c 1))
        ∗ (bigSepL zl (sendTok X K c 1) ∗ bigSepL gl (sendTok X K c 0) ∗ bigSepL gl (sendTok X K c 1))
        ∗ (bigSepL zl fun k => cred (tallyAt (cell c (snd 0 k)) () (NN k)))
        ∗ (bigSepL zl (waitTok X K c 0) ∗ bigSepL zl (waitTok X K c 1) ∗ bigSepL gl (waitTok X K c 0) ∗ bigSepL gl (waitTok X K c 1))
        ∗ (owns (c : Thread nD τ) (redRow 0) (shareDrop fullShare 3) (X.red c 0) ∗ owns (c : Thread nD τ) (redRow 1) fullShare (X.red c 1))
        ∗ owns (c : Thread nD τ) mM fullShare m
        ∗ (owns (c : Thread nD τ) (nrmRow 0) fullShare Y₀ ∗ owns (c : Thread nD τ) (nrmRow 1) fullShare Y₁)
        ∗ (owns (c : Thread nD τ) (outRow _ (rb_add_lt c 0)) fullShare Z₀ ∗ owns (c : Thread nD τ) (outRow _ (rb_add_lt c 1)) fullShare Z₁))
      ⊢ iprop(((Ow c [] ∗ ((bigSepL zl (doneAt (F := F) c 0) ∗ bigSepL gl (doneAt (F := F) c 0)) ∗ (bigSepL zl (doneAt (F := F) c 1) ∗ bigSepL gl (doneAt (F := F) c 1)))
          ∗ (owns (c : Thread nD τ) (redRow 0) fullShare (X.red c 0) ∗ owns (c : Thread nD τ) (redRow 1) fullShare (X.red c 1))
          ∗ owns (c : Thread nD τ) mM fullShare m
          ∗ (owns (c : Thread nD τ) (nrmRow 0) fullShare (X.nrm c 0) ∗ owns (c : Thread nD τ) (nrmRow 1) fullShare (X.nrm c 1))
          ∗ (owns (c : Thread nD τ) (outRow _ (rb_add_lt c 0)) fullShare (X.nrm c 0) ∗ owns (c : Thread nD τ) (outRow _ (rb_add_lt c 1)) fullShare (X.nrm c 1))
          ∗ (bigSepL zl (recvPay X c 0) ∗ bigSepL zl (recvPay X c 1)) ∗ (bigSepL gl (recvPay X c 0) ∗ bigSepL gl (recvPay X c 1))) -∗ Q ⟨⟩)
        -∗ WP c (tail1 c) Q) := by
  unfold tail1 owed1
  iintro ⟨HO, #Hlev, ⟨Hz1, Hg0, Hg1⟩, ⟨Tz1, Tg0, Tg1⟩, Cz0, ⟨Wz0, Wz1, Wg0, Wg1⟩, ⟨HR0, HR1⟩, HM, ⟨HN0, HN1⟩, ⟨HU0, HU1⟩⟩ Hk
  -- row 1 along `z`
  ihave HR1 := (red_deal X c 1) $$ HR1
  icases HR1 with ⟨HR1, Hp⟩
  ihave Hs := (mk_sendRes X K c 1 zl) $$ [Tz1 Hz1 Hp]
  · isplitl [Tz1]; · iexact Tz1
    isplitl [Hz1] <;> iassumption
  iapply (wp_sends X K c 1 _ _ (o3_eq c 1) zl _ _) $$ [HO Hs]
  · isplitl [HO] <;> iassumption
  iintro ⟨HO, Cz1⟩
  -- row 0 arrives, is finished and sent along `g`
  ihave Hw := (mk_waitRes X K c 0 zl) $$ [Wz0 Cz0]
  · isplitl [Wz0] <;> iassumption
  iapply (wp_waits X K c 0 _ _ (gl.map (cpE c 0) ++ (gl.map (cpE c 1) ++ [])) zl
    (fun k hk y hy => lt_g c _ (lv_z 0 hk) _ (fun y hy => by
      rw [List.append_nil] at hy
      rcases List.mem_append.mp hy with h | h <;> exact mem_g c h) y hy) _) $$ [HO Hw]
  · isplitl [HO]; · iexact HO
    isplitr; · iexact Hlev
    iexact Hw
  iintro ⟨HO, Hout⟩
  ihave Hout := (of_waitOut X c 0 zl) $$ Hout
  icases Hout with ⟨⟨Sz0, Lz0⟩, Dz0⟩
  iapply (wp_comp X c 0 _ rfl _ _ (o2_eq c 0) (shareDrop fullShare 3) m (hX 0) Y₀ Z₀ _) $$ [HR0 Lz0 HM HN0 HU0]
  · isplitl [HR0]; · iexact HR0
    isplitl [Lz0]; · iexact Lz0
    isplitl [HM]; · iexact HM
    isplitl [HN0] <;> iassumption
  iintro ⟨HR0, Lz0, HM, HN0, HU0⟩
  ihave HN0 := (nrm_deal X c 0) $$ HN0
  icases HN0 with ⟨HN0, Hp⟩
  ihave Hs := (mk_sendRes X K c 0 gl) $$ [Tg0 Hg0 Hp]
  · isplitl [Tg0]; · iexact Tg0
    isplitl [Hg0] <;> iassumption
  iapply (wp_sends X K c 0 _ _ (o3_eq c 0) gl _ _) $$ [HO Hs]
  · isplitl [HO] <;> iassumption
  iintro ⟨HO, Cg0⟩
  -- row 1 arrives, is finished and sent along `g`
  ihave Hw := (mk_waitRes X K c 1 zl) $$ [Wz1 Cz1]
  · isplitl [Wz1] <;> iassumption
  iapply (wp_waits X K c 1 _ _ (gl.map (cpE c 1) ++ []) zl
    (fun k hk y hy => lt_g c _ (lv_z 1 hk) _ (fun y hy => by
      rw [List.append_nil] at hy
      exact mem_g c hy) y hy) _) $$ [HO Hw]
  · isplitl [HO]; · iexact HO
    isplitr; · iexact Hlev
    iexact Hw
  iintro ⟨HO, Hout⟩
  ihave Hout := (of_waitOut X c 1 zl) $$ Hout
  icases Hout with ⟨⟨Sz1, Lz1⟩, Dz1⟩
  iapply (wp_comp X c 1 _ rfl _ _ (o2_eq c 1) (shareDrop fullShare 3) m (hX 1) Y₁ Z₁ _) $$ [HR1 Lz1 HM HN1 HU1]
  · isplitl [HR1]; · iexact HR1
    isplitl [Lz1]; · iexact Lz1
    isplitl [HM]; · iexact HM
    isplitl [HN1] <;> iassumption
  iintro ⟨HR1, Lz1, HM, HN1, HU1⟩
  ihave HN1 := (nrm_deal X c 1) $$ HN1
  icases HN1 with ⟨HN1, Hp⟩
  ihave Hs := (mk_sendRes X K c 1 gl) $$ [Tg1 Hg1 Hp]
  · isplitl [Tg1]; · iexact Tg1
    isplitl [Hg1] <;> iassumption
  iapply (wp_sends X K c 1 _ _ (o3_eq c 1) gl [] _) $$ [HO Hs]
  · isplitl [HO] <;> iassumption
  iintro ⟨HO, Cg1⟩
  -- the rows of the other `g`
  ihave Hw := (mk_waitRes X K c 0 gl) $$ [Wg0 Cg0]
  · isplitl [Wg0] <;> iassumption
  iapply (wp_waits X K c 0 _ _ [] gl (fun k hk y hy => absurd hy List.not_mem_nil) _) $$ [HO Hw]
  · isplitl [HO]; · iexact HO
    isplitr; · iexact Hlev
    iexact Hw
  iintro ⟨HO, Hout⟩
  ihave Hout := (of_waitOut X c 0 gl) $$ Hout
  icases Hout with ⟨⟨Sg0, Lg0⟩, Dg0⟩
  ihave Hw := (mk_waitRes X K c 1 gl) $$ [Wg1 Cg1]
  · isplitl [Wg1] <;> iassumption
  iapply (wp_waits X K c 1 _ _ [] gl (fun k hk y hy => absurd hy List.not_mem_nil) _) $$ [HO Hw]
  · isplitl [HO]; · iexact HO
    isplitr; · iexact Hlev
    iexact Hw
  iintro ⟨HO, Hout⟩
  ihave Hout := (of_waitOut X c 1 gl) $$ Hout
  icases Hout with ⟨⟨Sg1, Lg1⟩, Dg1⟩
  iapply (wp_done c)
  iapply Hk
  isplitl [HO]; · iexact HO
  isplitl [Dz0 Dg0 Dz1 Dg1]
  · isplitl [Dz0 Dg0]
    · isplitl [Dz0] <;> iassumption
    isplitl [Dz1] <;> iassumption
  isplitl [HR0 Sz0 HR1 Sz1]
  · isplitl [HR0 Sz0]
    · iapply (red_join X c 0); isplitl [HR0] <;> iassumption
    iapply (red_join X c 1); isplitl [HR1] <;> iassumption
  isplitl [HM]; · iexact HM
  isplitl [HN0 Sg0 HN1 Sg1]
  · isplitl [HN0 Sg0]
    · iapply (nrm_join X c 0); isplitl [HN0] <;> iassumption
    iapply (nrm_join X c 1); isplitl [HN1] <;> iassumption
  isplitl [HU0 HU1]
  · isplitl [HU0] <;> iassumption
  isplitl [Lz0 Lz1]
  · isplitl [Lz0] <;> iassumption
  isplitl [Lg0] <;> iassumption

end Tails

end Cert.FlashProof
-- ==== Proof.Windows.lean ====
/-
The blocks a point reads and the loop that brings them: which transfers each iteration starts and waits for, at the
table's word of device `c`.
-/
module

public import proofs.«01_k».proof.Proof.Tails
public import proofs.«01_k».proof.Proof.Gen.KernelIdeal.Launch

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-! ## The table -/

/-- The table's contents on device `c`. -/
def tab (c : Dev nD) : pre0.Contents (Elt F) := fun | 0 => fun _ => word c

theorem ok_tab (c : Dev nD) : ok0 (F := F) (tab c) := by
  have h0 : ∀ c : Dev nD, ∀ i : Fin 2, ∀ a, ((![(Scalar.addi (word c) (BitVec.ofNat 32 i.val)).toNat, 0, 0] : Fin 3 → ℕ) a + 1) * S1x16x64.size a ≤ S16x16x64.size a := by decide
  have h1 : ∀ c : Dev nD, ∀ i : Fin 2, ∀ a, ((![(Scalar.addi (word c) (BitVec.ofNat 32 i.val)).toNat, 0, 0, 0] : Fin 4 → ℕ) a + 1) * S1x16x64x1024.size a ≤ S16x16x64x1024.size a := by decide
  exact ⟨fun i => ⟨h0 c (i 0), .inl rfl⟩, fun i => ⟨h1 c (i 0), .inl rfl⟩, fun i => ⟨h1 c (i 0), .inl rfl⟩⟩

/-- The table as the loop is entered with it. -/
abbrev adm (c : Dev nD) : (pcfg0 (F := F)).Adm := ⟨tab c, ok_tab c⟩

/-- The loop on device `c`. -/
abbrev lp (c : Dev nD) : Pipeline.Cfg sig Λ₀ := cfg0 (F := F) (adm c)

theorem word_inj (c : Dev nD) : (Scalar.addi (word c) (BitVec.ofNat 32 1)).toNat ≠ (Scalar.addi (word c) (BitVec.ofNat 32 0)).toNat := by
  revert c; decide

/-- Window `w`. -/
abbrev wn (c : Dev nD) (w : Fin 5) : Pipeline.Window sig grid0 := (lp (F := F) c).win w

theorem moves0 (c : Dev nD) : (wn (F := F) c 0).index t0_1 ≠ (wn (F := F) c 0).index t0_0 := fun h => word_inj c (congrFun h (0 : Fin 3))
theorem moves1 (c : Dev nD) : (wn (F := F) c 1).index t0_1 ≠ (wn (F := F) c 1).index t0_0 := fun h => word_inj c (congrFun h (0 : Fin 4))
theorem moves2 (c : Dev nD) : (wn (F := F) c 2).index t0_1 ≠ (wn (F := F) c 2).index t0_0 := fun h => word_inj c (congrFun h (0 : Fin 4))

/-- A window that is an input and moves is fetched at both points. -/
theorem fetch_moving (c : Dev nD) (w : Fin 5) (hi : (wn (F := F) c w).isOut = false) (hm : (wn (F := F) c w).index t0_1 ≠ (wn (F := F) c w).index t0_0)
    (t : Fin grid0.N) : (wn (F := F) c w).fetch t = true := by
  unfold Pipeline.Window.fetch
  rw [hi]
  rcases fin_N0 t with h | h <;> subst h
  · rfl
  · have h : ∃ h : 0 < t0_1.val, (wn (F := F) c w).index t0_1 ≠ (wn (F := F) c w).index ⟨t0_1.val - 1, Nat.lt_of_le_of_lt (Nat.sub_le _ _) t0_1.isLt⟩ := ⟨by decide, hm⟩
    simp only [Bool.not_false, Bool.true_and, Bool.or_eq_true]
    exact .inr (decide_eq_true h)

theorem fetch0 (c : Dev nD) (t : Fin grid0.N) : (wn (F := F) c 0).fetch t = true := fetch_moving c 0 rfl (moves0 c) t
theorem fetch1 (c : Dev nD) (t : Fin grid0.N) : (wn (F := F) c 1).fetch t = true := fetch_moving c 1 rfl (moves1 c) t
theorem fetch2 (c : Dev nD) (t : Fin grid0.N) : (wn (F := F) c 2).fetch t = true := fetch_moving c 2 rfl (moves2 c) t
theorem fetch3_0 (c : Dev nD) : (wn (F := F) c 3).fetch t0_0 = true := rfl
theorem fetch3_1 (c : Dev nD) : (wn (F := F) c 3).fetch t0_1 = false := by
  have h : ¬ ∃ h : 0 < t0_1.val, (wn (F := F) c 3).index t0_1 ≠ (wn (F := F) c 3).index ⟨t0_1.val - 1, Nat.lt_of_le_of_lt (Nat.sub_le _ _) t0_1.isLt⟩ := by
    rintro ⟨_, h⟩; exact h rfl
  unfold Pipeline.Window.fetch
  rw [decide_eq_false h]; rfl
theorem fetch4 (c : Dev nD) (t : Fin grid0.N) : (wn (F := F) c 4).fetch t = false := rfl
theorem flush4_0 (c : Dev nD) : (wn (F := F) c 4).flush t0_0 = false := by
  have h : ¬ ∃ h : t0_0.val + 1 < grid0.N, (wn (F := F) c 4).index ⟨t0_0.val + 1, h⟩ ≠ (wn (F := F) c 4).index t0_0 := by
    rintro ⟨_, h⟩; exact h rfl
  unfold Pipeline.Window.flush
  rw [decide_eq_false h]; rfl
theorem flush4_1 (c : Dev nD) : (wn (F := F) c 4).flush t0_1 = true := rfl
theorem flush0 (c : Dev nD) (t : Fin grid0.N) : (wn (F := F) c 0).flush t = false := rfl
theorem flush1 (c : Dev nD) (t : Fin grid0.N) : (wn (F := F) c 1).flush t = false := rfl
theorem flush2 (c : Dev nD) (t : Fin grid0.N) : (wn (F := F) c 2).flush t = false := rfl
theorem flush3 (c : Dev nD) (t : Fin grid0.N) : (wn (F := F) c 3).flush t = false := rfl

section Iter
variable (c : Dev nD)

variable (F) in
/-- The labels of the loop's program. -/
abbrev PS : Labels := Pipeline.Sig Λ₀ (Fin 1) fun q => (pcfgs (F := F) q).Adm

abbrev PP (α : Type) := Prog (TpuEff nD τ sig (Elt F) (PS F) .tc) α

abbrev goto (n : ℕ) : PP (F := F) PUnit :=
  .op (.call (Pipeline.pipe (0 : Fin 1)) (adm c, n)) fun _ => .ret ⟨⟩

/-- The loop's four iterations: each point's blocks are sent for one iteration before its body runs, and the last point's
    result is written back. -/
def it0 : PP (F := F) PUnit :=
  .op ((lp (F := F) c).startIn 0 t0_0) fun _ => .op ((lp (F := F) c).startIn 1 t0_0) fun _ => .op ((lp (F := F) c).startIn 2 t0_0) fun _ => goto (F := F) c 1

def it1 : PP (F := F) PUnit :=
  .op ((lp (F := F) c).startIn 3 t0_0) fun _ =>
  .op ((lp (F := F) c).startIn 0 t0_1) fun _ => .op ((lp (F := F) c).startIn 1 t0_1) fun _ => .op ((lp (F := F) c).startIn 2 t0_1) fun _ =>
  .op ((lp (F := F) c).waitIn 0 t0_0) fun _ => .op ((lp (F := F) c).waitIn 1 t0_0) fun _ => .op ((lp (F := F) c).waitIn 2 t0_0) fun _ =>
  .op ((lp (F := F) c).waitIn 3 t0_0) fun _ =>
  .op (.call (Pipeline.kernel (0 : Fin 1)) ((lp (F := F) c).bodyArgs t0_0 ((lp (F := F) c).slots t0_0))) fun _ => goto (F := F) c 2

def it2 : PP (F := F) PUnit :=
  .op ((lp (F := F) c).waitIn 0 t0_1) fun _ => .op ((lp (F := F) c).waitIn 1 t0_1) fun _ => .op ((lp (F := F) c).waitIn 2 t0_1) fun _ =>
  .op (.call (Pipeline.kernel (0 : Fin 1)) ((lp (F := F) c).bodyArgs t0_1 ((lp (F := F) c).slots t0_1))) fun _ =>
  .op ((lp (F := F) c).startOut 4 t0_1) fun _ => .op ((lp (F := F) c).waitOut 4 t0_1) fun _ => goto (F := F) c 3

theorem iters : (lp (F := F) c).iter (A := fun q : Fin 1 => (pcfgs (F := F) q).Adm) (0 : Fin 1) (adm c) 0 = it0 (F := F) c
    ∧ (lp (F := F) c).iter (A := fun q : Fin 1 => (pcfgs (F := F) q).Adm) (0 : Fin 1) (adm c) 1 = it1 (F := F) c
    ∧ (lp (F := F) c).iter (A := fun q : Fin 1 => (pcfgs (F := F) q).Adm) (0 : Fin 1) (adm c) 2 = it2 (F := F) c
    ∧ (lp (F := F) c).iter (A := fun q : Fin 1 => (pcfgs (F := F) q).Adm) (0 : Fin 1) (adm c) 3 = (.ret ⟨⟩ : PP (F := F) PUnit) := by
  have hp : (lp (F := F) c).prologue = 1 := if_pos (decide_eq_true ⟨(0 : Fin 5), rfl⟩)
  have he : (lp (F := F) c).epilogue = 1 := if_pos (decide_eq_true ⟨(4 : Fin 5), rfl⟩)
  have hc : (lp (F := F) c).tripCount = 4 := by unfold Pipeline.Cfg.tripCount; rw [hp, he]; rfl
  have h5 : List.finRange (lp (F := F) c).W = [(0 : Fin 5), 1, 2, 3, 4] := rfl
  have s0 : ((lp (F := F) c).win (0 : Fin 5)).single = false := rfl
  have s1 : ((lp (F := F) c).win (1 : Fin 5)).single = false := rfl
  have s2 : ((lp (F := F) c).win (2 : Fin 5)).single = false := rfl
  have s3 : ((lp (F := F) c).win (3 : Fin 5)).single = true := rfl
  have s4 : ((lp (F := F) c).win (4 : Fin 5)).single = true := rfl
  have f0 : ∀ t, ((lp (F := F) c).win (0 : Fin 5)).fetch t = true := fetch0 c
  have f1 : ∀ t, ((lp (F := F) c).win (1 : Fin 5)).fetch t = true := fetch1 c
  have f2 : ∀ t, ((lp (F := F) c).win (2 : Fin 5)).fetch t = true := fetch2 c
  have f4 : ∀ t, ((lp (F := F) c).win (4 : Fin 5)).fetch t = false := fetch4 c
  have f30 : ((lp (F := F) c).win (3 : Fin 5)).fetch t0_0 = true := fetch3_0 c
  have f31 : ((lp (F := F) c).win (3 : Fin 5)).fetch t0_1 = false := fetch3_1 c
  have g0 : ∀ t, ((lp (F := F) c).win (0 : Fin 5)).flush t = false := flush0 c
  have g1 : ∀ t, ((lp (F := F) c).win (1 : Fin 5)).flush t = false := flush1 c
  have g2 : ∀ t, ((lp (F := F) c).win (2 : Fin 5)).flush t = false := flush2 c
  have g3 : ∀ t, ((lp (F := F) c).win (3 : Fin 5)).flush t = false := flush3 c
  have g40 : ((lp (F := F) c).win (4 : Fin 5)).flush t0_0 = false := flush4_0 c
  have g41 : ((lp (F := F) c).win (4 : Fin 5)).flush t0_1 = true := flush4_1 c
  refine ⟨?_, ?_, ?_, ?_⟩
  · have e0 : (lp (F := F) c).point 0 0 = some t0_0 := rfl
    have e1 : (lp (F := F) c).point 0 1 = none := rfl
    have e2 : (lp (F := F) c).point 0 (1 + 1) = none := rfl
    simp only [Pipeline.Cfg.iter, Pipeline.Cfg.atPoint, hp, e0, e1, e2, hc, Pipeline.Cfg.eachWin, h5, List.foldr, s0, s1, s2, s3, s4,
      f0, f1, f2, f30, f4, Bool.not_true, Bool.not_false, Bool.true_and, Bool.false_and, if_true, Bool.false_eq_true, if_false]
    rfl
  · have e0 : (lp (F := F) c).point 1 0 = some t0_1 := rfl
    have e1 : (lp (F := F) c).point 1 1 = some t0_0 := rfl
    have e2 : (lp (F := F) c).point 1 (1 + 1) = none := rfl
    simp only [Pipeline.Cfg.iter, Pipeline.Cfg.atPoint, hp, e0, e1, e2, hc, Pipeline.Cfg.eachWin, h5, List.foldr, s0, s1, s2, s3, s4,
      f0, f1, f2, f30, f31, f4, g0, g1, g2, g3, g40, Bool.not_true, Bool.not_false, Bool.true_and, Bool.and_false, Bool.false_and, if_true, Bool.false_eq_true, if_false]
    rfl
  · have e0 : (lp (F := F) c).point 2 0 = none := rfl
    have e1 : (lp (F := F) c).point 2 1 = some t0_1 := rfl
    have e2 : (lp (F := F) c).point 2 (1 + 1) = some t0_0 := rfl
    simp only [Pipeline.Cfg.iter, Pipeline.Cfg.atPoint, hp, e0, e1, e2, hc, Pipeline.Cfg.eachWin, h5, List.foldr, s0, s1, s2, s3, s4,
      f0, f1, f2, f30, f31, f4, g0, g1, g2, g3, g40, g41, Bool.not_true, Bool.not_false, Bool.true_and, Bool.and_false, Bool.false_and, if_true, Bool.false_eq_true, if_false]
    rfl
  · have e0 : (lp (F := F) c).point 3 0 = none := rfl
    have e1 : (lp (F := F) c).point 3 1 = none := rfl
    have e2 : (lp (F := F) c).point 3 (1 + 1) = some t0_1 := rfl
    simp only [Pipeline.Cfg.iter, Pipeline.Cfg.atPoint, hp, e0, e1, e2, hc, Pipeline.Cfg.eachWin, h5, List.foldr, s0, s1, s2, s3, s4,
      f0, f1, f2, f30, f31, f4, g0, g1, g2, g3, g40, g41, Bool.not_true, Bool.not_false, Bool.true_and, Bool.and_false, Bool.false_and, if_true, Bool.false_eq_true, if_false]
    rfl

/-- The buffers of a point: the moving windows' alternate, the still ones have one each. -/
def sl (b : Fin 2) : (w : Fin 5) → Fin (spec0 w).nbuf := fun | 0 => b | 1 => b | 2 => b | 3 => (0 : Fin 1) | 4 => (0 : Fin 1)

theorem slots_0 : (lp (F := F) c).slots t0_0 = sl 0 := by
  funext w; fin_cases w <;> rfl

theorem slot_moving (w : Fin 5) (hi : (wn (F := F) c w).isOut = false) (hf : ∀ t, (wn (F := F) c w).fetch t = true) (hn : (wn (F := F) c w).nbuf = 2) :
    ((wn (F := F) c w).slot t0_1.val t0_1.isLt).val = 1 := by
  have e : (wn (F := F) c w).slot t0_1.val t0_1.isLt = if (if (wn (F := F) c w).isOut then (wn (F := F) c w).flush t0_0 else (wn (F := F) c w).fetch t0_1) = true
      then ⟨(0 + 1) % (wn (F := F) c w).nbuf, Nat.mod_lt _ (by rw [hn]; decide)⟩ else ⟨0, by rw [hn]; decide⟩ := rfl
  rw [e, hi, if_neg (c := false = true) (by decide), hf, if_pos rfl]
  show (0 + 1) % _ = 1
  rw [hn]

theorem slots_1 : (lp (F := F) c).slots t0_1 = sl 1 := by
  funext w; fin_cases w
  · exact Fin.ext (slot_moving c 0 rfl (fetch0 c) rfl)
  · exact Fin.ext (slot_moving c 1 rfl (fetch1 c) rfl)
  · exact Fin.ext (slot_moving c 2 rfl (fetch2 c) rfl)
  · exact Subsingleton.elim (α := Fin 1) _ _
  · exact Subsingleton.elim (α := Fin 1) _ _

end Iter

/-! ## A transfer on the device, and the wait for it -/

section Move
variable (c : Dev nD) (v : Option (Variants.lift 𝒱₀).V)

/-- Running a piece of the program on device `c`, under a bound. -/
abbrev WL {α : Type} (p : PP (F := F) α) (Q : α → sProp 𝕄) : sProp 𝕄 :=
  wp frame (wpE (Pipeline.defs (pcfgs (F := F)) (defs₀ (F := F))) (Variants.lift 𝒱₀) (c : Thread nD τ) v) Set.univ p Q

/-- A transfer under way that will leave `X` in its destination and give its source back. -/
def Fl {cs cd : Space} {s : Shape} {e : EltTy} (sm : DmaSem sig) (src : Memref sig .tc cs s e) (dst : Memref sig .tc cd s e)
    (q : PosShare TreeShare) (X : s.Idx → Elt F e) : sProp 𝕄 :=
  iprop(∃ fs fd, ⌜src.view.read (Elt F) fs = X ∧ dst.view.read (Elt F) fd = X⌝ ∗ Flight (ECt (F := F)) (c : Thread nD τ) (.dma sm) () (dst.view.amount (.dma sm))
    iprop((dst.view.loc (c : Thread nD τ) ↦[dst.view.set]{fullShare} fd) ∗ (src.view.loc (c : Thread nD τ) ↦[src.view.set]{q} fs)))

theorem wp_move {α : Type} {Q : α → sProp 𝕄} {cs cd : Space} {s : Shape} {e : EltTy} {sm : DmaSem sig} {src : Memref sig .tc cs s e} {dst : Memref sig .tc cd s e}
    {h1 : src.view.WordExact} {h2 : dst.view.WordExact} {h3 : DmaTarget.Typed (nD := nD) (p := (Proc.tc : Proc τ)) cs (.dma sm) (.here dst)}
    (q : PosShare TreeShare) (X Y : s.Idx → Elt F e) (hN : 0 < dst.view.amount (.dma sm)) (k : PUnit → PP (F := F) α) :
    iprop(owns (c : Thread nD τ) src q X ∗ owns (c : Thread nD τ) dst fullShare Y ∗ semVal ((c : Thread nD τ), SemLoc.dma sm) 0)
      ⊢ iprop((Fl c sm src dst q X -∗ WL c v (k ⟨⟩) Q) -∗ WL c v (.op (.enqueueDma src (.here dst) (.dma sm) h1 h2 h3) k) Q) := by
  unfold owns
  iintro ⟨⟨%fs, %hs, Hs⟩, ⟨%fd, -, Hd⟩, Hv⟩ Hk
  iapply (wp_dmaLocal (ECt (F := F)) (Variants.lift 𝒱₀) (c : Thread nD τ) v (src := src) (dst := dst) () (dst.view.amount (.dma sm)) rfl hN (Finset.Subset.refl _)) $$ [Hs Hd Hv]
  · isplitl [Hs]; · iexact Hs
    isplitl [Hd] <;> iassumption
  iintro HF
  iapply Hk
  unfold Fl
  iexists fs
  iexists _
  isplitr
  rotate_left
  · iexact HF
  · ipureintro
    exact ⟨hs, (View.read_write_univ _ _).trans hs⟩

theorem wp_landed {α : Type} {Q : α → sProp 𝕄} {cs cd : Space} {s : Shape} {e : EltTy} {sm : DmaSem sig} {src : Memref sig .tc cs s e} {dst : Memref sig .tc cd s e}
    {h1 : src.view.WordExact} {h2 : dst.view.WordExact}
    (q : PosShare TreeShare) (X : s.Idx → Elt F e) (l : List (GSem nD τ sig × ℕ)) (hl : ∀ x ∈ l, x.1.1.2 = .tc ∧ lvK (ckOf (SemLoc.dma sm)) < lv x.1 ()) (k : PUnit → PP (F := F) α) :
    iprop(Fl c sm src dst q X ∗ Ow c l ∗ levAts L lv)
      ⊢ iprop(((owns (c : Thread nD τ) src q X ∗ owns (c : Thread nD τ) dst fullShare X ∗ semVal ((c : Thread nD τ), SemLoc.dma sm) 0 ∗ Ow c l) -∗ WL c v (k ⟨⟩) Q)
        -∗ WL c v (.op (.waitDma2 sm src dst h1 h2) k) Q) := by
  unfold Fl Ow
  iintro ⟨⟨%fs, %fd, %h, HF⟩, ⟨%W, HO⟩, #Hla⟩ Hk
  obtain ⟨rfl, hd⟩ := h
  ihave Hmw := (mayWait_list (F := F) c (.dma sm) l hl) $$ Hla
  iapply (wp_waitLocalO (ECt (F := F)) (Variants.lift 𝒱₀) (c : Thread nD τ) v (srcw := src) (dstw := dst) () (N := dst.view.amount (.dma sm)) rfl) $$ [HF HO Hmw]
  · isplitl [HF]; · iexact HF
    isplitl [HO] <;> iassumption
  iintro ⟨⟨Hd, Hs⟩, Hv, HO⟩
  iapply Hk
  isplitl [Hs]; · iapply (owns_intro (c : Thread nD τ) src q fs); iexact Hs
  isplitl [Hd]
  · rw [← hd]; iapply (owns_intro (c : Thread nD τ) dst fullShare fd); iexact Hd
  isplitl [Hv]; · iexact Hv
  iexists _; iexact HO

end Move

end Cert.FlashProof
-- ==== Proof.Loop.lean ====
/-
The loop of device `c`, run: the blocks of the two points brought into the staging buffers, the body run at each point,
the result written back.
-/
module

public import proofs.«01_k».proof.Proof.Windows

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-! ## A memref and its parts -/

section Parts
variable (c : Dev nD) {cs : Space} {s : Shape} {e : EltTy} (m : Memref sig .tc cs s e) (q : PosShare TreeShare)

/-- A slice taken out of an owned memref, and put back. -/
theorem owns_carve (r : Rect s) (hr : ∀ a, r.stride a = 1) (Z : s.Idx → Elt F e) :
    (owns (c : Thread nD τ) m q Z : sProp 𝕄)
      ⊢ iprop(owns (c : Thread nD τ) (m.slice r hr) q (fun j => Z (r.emb j))
        ∗ (owns (c : Thread nD τ) (m.slice r hr) q (fun j => Z (r.emb j)) -∗ owns (c : Thread nD τ) m q Z)) := by
  have hs : (m.slice r hr).view.set ⊆ m.view.set := View.set_slice_subset _ _
  conv_lhs => unfold owns
  iintro ⟨%f, %hf, H⟩
  subst hf
  ihave H' := (pointsTo_split_subset (Lvl := ℕ) hs).1 $$ H
  icases H' with ⟨H0, H1⟩
  isplitl [H0]
  · iapply (owns_intro (c : Thread nD τ) (m.slice r hr) q f); iexact H0
  iintro H0
  iapply (owns_intro (c : Thread nD τ) m q f)
  iapply (pointsTo_split_subset (Lvl := ℕ) hs).2
  isplitl [H0]
  · iapply (owns_at c (m.slice r hr) q f); iexact H0
  iexact H1

/-- The slice of all of a memref is the memref. -/
theorem owns_slice_all (hb : ∀ a, 0 + s.size a ≤ s.size a) (X : s.Idx → Elt F e) :
    (owns (c : Thread nD τ) (m.slice (Rect.unit (s := s) (fun _ => 0) s.size hb) (fun _ => rfl)) q X : sProp 𝕄) ⊣⊢ owns (c : Thread nD τ) m q X := by
  have he : ∀ j : s.Idx, (Rect.unit (s := s) (fun _ => 0) s.size hb).emb j = j := fun j => by
    funext a; apply Fin.ext; show 0 + 1 * (j a).val = _; omega
  have hset : (m.slice (Rect.unit (s := s) (fun _ => 0) s.size hb) (fun _ => rfl)).view.set = m.view.set := by
    refine Finset.Subset.antisymm (View.set_slice_subset _ _) fun i hi => ?_
    rw [View.set, Finset.mem_map] at hi ⊢
    obtain ⟨x, hx, rfl⟩ := hi
    exact ⟨x, Finset.mem_univ _, congrArg m.view.emb (he x)⟩
  have hread : ∀ f : m.view.ty.Contents (Elt F), (m.slice (Rect.unit (s := s) (fun _ => 0) s.size hb) (fun _ => rfl)).view.read (Elt F) f = m.view.read (Elt F) f := fun f => by
    funext j
    show m.view.read (Elt F) f ((Rect.unit (s := s) (fun _ => 0) s.size hb).emb j) = _
    rw [he]
  constructor
  · unfold owns
    iintro ⟨%f, %hf, H⟩
    iexists f
    isplitr; · ipureintro; exact (hread f).symm.trans hf
    rw [← hset]; iexact H
  · unfold owns
    iintro ⟨%f, %hf, H⟩
    iexists f
    isplitr; · ipureintro; exact (hread f).trans hf
    rw [← hset]; iexact H

end Parts

section Loop
variable (c : Dev nD) (v : Option (Variants.lift 𝒱₀).V)

/-- A block of an array, a staging buffer for it and the buffer's counter at rest. -/
def cellAt (w : Fin 5) (t : Fin grid0.N) (b : Fin 2) (q : PosShare TreeShare)
    (X Y : ((wn (F := F) c w).xblock (grid0.coords t)).Idx → Elt F (wn (F := F) c w).elt) : sProp 𝕄 :=
  iprop(owns (c : Thread nD τ) ((wn (F := F) c w).blk t) q X ∗ owns (c : Thread nD τ) ((wn (F := F) c w).stg t (sl b w)) fullShare Y
    ∗ semVal ((c : Thread nD τ), SemLoc.dma ((wn (F := F) c w).sem (sl b w))) 0)

/-- A block on its way to a staging buffer. -/
abbrev flyAt (w : Fin 5) (t : Fin grid0.N) (b : Fin 2) (q : PosShare TreeShare)
    (X : ((wn (F := F) c w).xblock (grid0.coords t)).Idx → Elt F (wn (F := F) c w).elt) : sProp 𝕄 :=
  Fl c ((wn (F := F) c w).sem (sl b w)) ((wn (F := F) c w).blk t) ((wn (F := F) c w).stg t (sl b w)) q X

theorem stg_pos (w : Fin 5) (t : Fin grid0.N) (b : Fin 2) :
    0 < ((wn (F := F) c w).stg t (sl b w)).view.amount (.dma ((wn (F := F) c w).sem (sl b w))) := by
  exact View.amount_pos _ _ (block_pos0 w)

theorem wp_start {α : Type} {Q : α → sProp 𝕄} (w : Fin 5) (t : Fin grid0.N) (b : Fin 2) (q : PosShare TreeShare)
    (X Y : ((wn (F := F) c w).xblock (grid0.coords t)).Idx → Elt F (wn (F := F) c w).elt) {h1 h2 h3} (k : PUnit → PP (F := F) α) :
    cellAt c w t b q X Y
      ⊢ iprop((flyAt c w t b q X -∗ WL c v (k ⟨⟩) Q)
        -∗ WL c v (.op (.enqueueDma ((wn (F := F) c w).blk t) (.here ((wn (F := F) c w).stg t (sl b w))) (.dma ((wn (F := F) c w).sem (sl b w))) h1 h2 h3) k) Q) := by
  unfold cellAt
  exact wp_move c v q X Y (stg_pos c w t b) k

theorem wp_wait {α : Type} {Q : α → sProp 𝕄} (w : Fin 5) (t : Fin grid0.N) (b : Fin 2) (q : PosShare TreeShare)
    (X : ((wn (F := F) c w).xblock (grid0.coords t)).Idx → Elt F (wn (F := F) c w).elt) {h1 h2} (l : List (GSem nD τ sig × ℕ))
    (hl : ∀ x ∈ l, x.1.1.2 = .tc ∧ lvK (ckOf (SemLoc.dma ((wn (F := F) c w).sem (sl b w)))) < lv x.1 ()) (k : PUnit → PP (F := F) α) :
    iprop(flyAt c w t b q X ∗ Ow c l ∗ levAts L lv)
      ⊢ iprop(((cellAt c w t b q X X ∗ Ow c l) -∗ WL c v (k ⟨⟩) Q)
        -∗ WL c v (.op (.waitDma2 ((wn (F := F) c w).sem (sl b w)) ((wn (F := F) c w).blk t) ((wn (F := F) c w).stg t (sl b w)) h1 h2) k) Q) := by
  unfold cellAt
  iintro H Hk
  iapply (wp_landed c v q X l hl k) $$ H
  iintro ⟨H1, H2, H3, HO⟩
  iapply Hk
  isplitr [HO]
  · isplitl [H1]; · iexact H1
    isplitl [H2] <;> iassumption
  iexact HO

/-- The steps of the loop, on given staging buffers. -/
abbrev stOp (w : Fin 5) (t : Fin grid0.N) (s : (w : Fin 5) → Fin (spec0 w).nbuf) : TpuEff nD τ sig (Elt F) (PS F) .tc PUnit :=
  .enqueueDma ((wn (F := F) c w).blk t) (.here ((wn (F := F) c w).stg t (s w))) (.dma ((wn (F := F) c w).sem (s w)))
    ((wn (F := F) c w).wordExact_blk t) ((wn (F := F) c w).wordExact_stg t _) ⟨Or.inl rfl, trivial⟩

abbrev wtOp (w : Fin 5) (t : Fin grid0.N) (s : (w : Fin 5) → Fin (spec0 w).nbuf) : TpuEff nD τ sig (Elt F) (PS F) .tc PUnit :=
  .waitDma2 ((wn (F := F) c w).sem (s w)) ((wn (F := F) c w).blk t) ((wn (F := F) c w).stg t (s w))
    ((wn (F := F) c w).wordExact_blk t) ((wn (F := F) c w).wordExact_stg t _)

abbrev soOp (w : Fin 5) (t : Fin grid0.N) (s : (w : Fin 5) → Fin (spec0 w).nbuf) : TpuEff nD τ sig (Elt F) (PS F) .tc PUnit :=
  .enqueueDma ((wn (F := F) c w).stg t (s w)) (.here ((wn (F := F) c w).blk t)) (.dma ((wn (F := F) c w).sem (s w)))
    ((wn (F := F) c w).wordExact_stg t _) ((wn (F := F) c w).wordExact_blk t) ⟨Or.inl rfl, trivial⟩

abbrev woOp (w : Fin 5) (t : Fin grid0.N) (s : (w : Fin 5) → Fin (spec0 w).nbuf) : TpuEff nD τ sig (Elt F) (PS F) .tc PUnit :=
  .waitDma2 ((wn (F := F) c w).sem (s w)) ((wn (F := F) c w).stg t (s w)) ((wn (F := F) c w).blk t)
    ((wn (F := F) c w).wordExact_stg t _) ((wn (F := F) c w).wordExact_blk t)

section Eqs
variable (w : Fin 5) (t : Fin grid0.N) (b : Fin 2) (hs : (lp (F := F) c).slots t = sl b)
include hs

theorem startIn_eq : (lp (F := F) c).startIn (A := fun q : Fin 1 => (pcfgs (F := F) q).Adm) (P := Fin 1) w t = stOp c w t (sl b) := by rw [← hs]; rfl
theorem waitIn_eq : (lp (F := F) c).waitIn (A := fun q : Fin 1 => (pcfgs (F := F) q).Adm) (P := Fin 1) w t = wtOp c w t (sl b) := by rw [← hs]; rfl
theorem startOut_eq : (lp (F := F) c).startOut (A := fun q : Fin 1 => (pcfgs (F := F) q).Adm) (P := Fin 1) w t = soOp c w t (sl b) := by rw [← hs]; rfl
theorem waitOut_eq : (lp (F := F) c).waitOut (A := fun q : Fin 1 => (pcfgs (F := F) q).Adm) (P := Fin 1) w t = woOp c w t (sl b) := by rw [← hs]; rfl
end Eqs

/-- Entering an iteration of the loop. -/
theorem wp_goto (m n : ℕ) (hv : ∀ u ∈ v, (Variants.lift 𝒱₀).lt (.inr m) u) {Q : PUnit → sProp 𝕄} :
    WL c (some (.inr m)) ((lp (F := F) c).iter (A := fun q : Fin 1 => (pcfgs (F := F) q).Adm) (0 : Fin 1) (adm c) n) (fun x => WL c v (.ret ⟨⟩) Q) ⊢ WL c v (goto (F := F) c n) Q :=
  wp_call (defs := Pipeline.defs (pcfgs (F := F)) (defs₀ (F := F))) (Variants.lift 𝒱₀) (c : Thread nD τ) v Set.univ (ℓ := Pipeline.pipe (0 : Fin 1)) (a := (adm c, n)) (.inr m) hv

theorem wl_ret {Q : PUnit → sProp 𝕄} : Q ⟨⟩ ⊢ WL (F := F) c v (.ret ⟨⟩) Q := by
  unfold WL
  rw [wp_ret]
  exact fupd_intro

/-- The staging buffers of the moving windows. -/
abbrev sQ (b : Fin 2) : Memref sig .tc .vmem S1x16x64 .f32 := spec0_0.stage b
abbrev sK (b : Fin 2) : Memref sig .tc .vmem S1x16x64x1024 .f32 := spec0_1.stage b
abbrev sV (b : Fin 2) : Memref sig .tc .vmem S1x16x64x1024 .f32 := spec0_2.stage b

/-- The body at a point, on the point's staging buffers. -/
abbrev bodyAt (t : Fin grid0.N) (b : Fin 2) : Prog (TpuEff nD τ sig (Elt F) Λ₀ .tc) PUnit :=
  body (sQ b) (hstage0_0 b) (sK b) (hstage0_1 b) (sV b) (hstage0_2 b) (grid0.coords t)

/-- Calling the body. -/
theorem wp_kcall (m : ℕ) (hv : v = some (.inr m)) (t : Fin grid0.N) (b : Fin 2) {Q : PUnit → sProp 𝕄} (k : PUnit → PP (F := F) PUnit) :
    WP c (bodyAt t b) (fun x => WL c v (k x) Q) ⊢ WL c v (.op (.call (Pipeline.kernel (0 : Fin 1)) ((lp (F := F) c).bodyArgs t (sl b))) k) Q := by
  subst hv
  refine BIBase.Entails.trans ?_ (wp_call (defs := Pipeline.defs (pcfgs (F := F)) (defs₀ (F := F))) (Variants.lift 𝒱₀) (c : Thread nD τ) _ Set.univ
    (ℓ := Pipeline.kernel (0 : Fin 1)) (a := (lp (F := F) c).bodyArgs t (sl b)) (.inl none) (by rintro u hu; cases hu; exact Sum.Lex.sep _ _))
  rw [Pipeline.defs_kernel]
  exact Pipeline.wp_liftProg _ (Pipeline.defs_kernel _ _) 𝒱₀ (c : Thread nD τ) Set.univ none _ _

theorem ck_staging (w : Fin 5) (b : Fin 2) : ckOf (SemLoc.dma ((wn (F := F) c w).sem (sl b w))) = none := by
  fin_cases w <;> fin_cases b <;> rfl

/-- A wait for a block is admissible whatever a device owes. -/
theorem low_owed (w : Fin 5) (b : Fin 2) (l : List (GSem nD τ sig × ℕ)) (hl : l = owed0 c ∨ l = owed1 c ∨ l = []) :
    ∀ x ∈ l, x.1.1.2 = .tc ∧ lvK (ckOf (SemLoc.dma ((wn (F := F) c w).sem (sl b w)))) < lv x.1 () := by
  rw [ck_staging]
  have hr : ∀ (r : Fin 2) (k : Peer), (cpE c r k).1.1.2 = .tc ∧ lvK none < lv (cpE c r k).1 () := fun r k => by
    refine ⟨rfl, ?_⟩
    rw [lv_cell]; rcases k with k | k
    · exact (by decide : 0 < 2)
    · exact (by decide : 0 < 3)
  have h1 : ∀ x ∈ owed1 c, x.1.1.2 = .tc ∧ lvK none < lv x.1 () := fun x hx => by
    unfold owed1 at hx
    simp only [List.mem_append, List.mem_map, List.not_mem_nil, _root_.or_false] at hx
    rcases hx with ⟨k, -, rfl⟩ | ⟨k, -, rfl⟩ | ⟨k, -, rfl⟩ <;> exact hr _ _
  rcases hl with rfl | rfl | rfl
  · intro x hx
    unfold owed0 at hx
    rw [List.mem_append, List.mem_append] at hx
    rcases hx with hx | hx | hx
    · obtain ⟨k, -, rfl⟩ := List.mem_map.1 hx
      refine ⟨rfl, ?_⟩
      rw [lv_cell]; exact (by decide : 0 < 1)
    · obtain ⟨k, -, rfl⟩ := List.mem_map.1 hx
      exact hr _ _
    · exact h1 x hx
  · exact h1
  · intro x hx; cases hx

section Run
variable (qs : Fin 3 → Fin 2 → PosShare TreeShare) (qm : PosShare TreeShare) (Y B : Fin 2 → Blocks F)
  (qt : PosShare TreeShare) (tb : Buf (Elt F) ((c : Thread nD τ).loc main_v24))

/-- The moving windows' blocks at a point, their buffers holding `Z`. -/
def blocksAt (t : Fin grid0.N) (i : Fin 2) (Z : Blocks F) : sProp 𝕄 :=
  iprop(cellAt c 0 t i (qs 0 i) (B i).q Z.q ∗ cellAt c 1 t i (qs 1 i) (B i).kt Z.kt ∗ cellAt c 2 t i (qs 2 i) (B i).vt Z.vt)

/-- The moving windows' blocks at a point, on their way. -/
def flying (t : Fin grid0.N) (i : Fin 2) : sProp 𝕄 :=
  iprop(flyAt c 0 t i (qs 0 i) (B i).q ∗ flyAt c 1 t i (qs 1 i) (B i).kt ∗ flyAt c 2 t i (qs 2 i) (B i).vt)

/-- What a body at a point is asked to do. -/
def BodyAt (t : Fin grid0.N) (i : Fin 2) (l l' : List (GSem nD τ sig × ℕ)) (R R' : sProp 𝕄) : Prop :=
  ∀ Q : PUnit → sProp 𝕄, iprop(inputs c (sQ i) (sK i) (sV i) qt tb (B i) ∗ Ow c l ∗ R)
    ⊢ iprop(((inputs c (sQ i) (sK i) (sV i) qt tb (B i) ∗ Ow c l' ∗ R') -∗ Q ⟨⟩) -∗ WP c (bodyAt t i) Q)

/-- A body run between the landing of its blocks and whatever follows. -/
theorem wp_point (m : ℕ) (hv : v = some (.inr m)) (t : Fin grid0.N) (i : Fin 2) (l l' : List (GSem nD τ sig × ℕ)) (R R' : sProp 𝕄)
    (hb : BodyAt c B qt tb t i l l' R R') {Q : PUnit → sProp 𝕄} (k : PUnit → PP (F := F) PUnit) :
    iprop(blocksAt c qs B t i (B i) ∗ owns (c : Thread nD τ) mM fullShare (B i).m ∗ ((c : Thread nD τ).loc main_v24 ↦{qt} tb) ∗ Ow c l ∗ R)
      ⊢ iprop(((blocksAt c qs B t i (B i) ∗ owns (c : Thread nD τ) mM fullShare (B i).m ∗ ((c : Thread nD τ).loc main_v24 ↦{qt} tb) ∗ Ow c l' ∗ R') -∗ WL c v (k ⟨⟩) Q)
        -∗ WL c v (.op (.call (Pipeline.kernel (0 : Fin 1)) ((lp (F := F) c).bodyArgs t (sl i))) k) Q) := by
  have h0 : (owns (c : Thread nD τ) ((wn (F := F) c 0).stg t (sl i 0)) fullShare (B i).q : sProp 𝕄) ⊣⊢ owns (c : Thread nD τ) (sQ i) fullShare (B i).q :=
    owns_slice_all c (sQ i) fullShare (fun a => (Nat.zero_add _).le) (B i).q
  have h1 : (owns (c : Thread nD τ) ((wn (F := F) c 1).stg t (sl i 1)) fullShare (B i).kt : sProp 𝕄) ⊣⊢ owns (c : Thread nD τ) (sK i) fullShare (B i).kt :=
    owns_slice_all c (sK i) fullShare (fun a => (Nat.zero_add _).le) (B i).kt
  have h2 : (owns (c : Thread nD τ) ((wn (F := F) c 2).stg t (sl i 2)) fullShare (B i).vt : sProp 𝕄) ⊣⊢ owns (c : Thread nD τ) (sV i) fullShare (B i).vt :=
    owns_slice_all c (sV i) fullShare (fun a => (Nat.zero_add _).le) (B i).vt
  unfold blocksAt cellAt
  iintro ⟨⟨⟨a0, s0, v0⟩, ⟨a1, s1, v1⟩, ⟨a2, s2, v2⟩⟩, HM, HT, HO, HR⟩ Hk
  iapply (wp_kcall c v m hv t i k)
  ihave s0 := h0.1 $$ s0
  ihave s1 := h1.1 $$ s1
  ihave s2 := h2.1 $$ s2
  iapply (hb _) $$ [s0 s1 s2 HM HT HO HR]
  · isplitr [HO HR]
    · unfold inputs
      isplitl [HT]; · iexact HT
      isplitl [s1]; · iexact s1
      isplitl [s2]; · iexact s2
      isplitl [HM]; · iexact HM
      iexact s0
    isplitl [HO] <;> iassumption
  unfold inputs
  iintro ⟨⟨HT, s1, s2, HM, s0⟩, HO, HR⟩
  iapply Hk
  isplitr [HM HT HO HR]
  · isplitl [a0 s0 v0]
    · isplitl [a0]; · iexact a0
      isplitl [s0]; · iapply h0.2; iexact s0
      iexact v0
    isplitl [a1 s1 v1]
    · isplitl [a1]; · iexact a1
      isplitl [s1]; · iapply h1.2; iexact s1
      iexact v1
    isplitl [a2]; · iexact a2
    isplitl [s2]; · iapply h2.2; iexact s2
    iexact v2
  isplitl [HM]; · iexact HM
  isplitl [HT]; · iexact HT
  isplitl [HO] <;> iassumption

/-- Sending for a point's blocks. -/
theorem wp_start3 (t : Fin grid0.N) (i : Fin 2) (hs : (lp (F := F) c).slots t = sl i) {Q : PUnit → sProp 𝕄} (Z : Blocks F) (p : PP (F := F) PUnit) :
    blocksAt c qs B t i Z
      ⊢ iprop((flying c qs B t i -∗ WL c v p Q)
        -∗ WL c v (.op ((lp (F := F) c).startIn 0 t) fun _ => .op ((lp (F := F) c).startIn 1 t) fun _ => .op ((lp (F := F) c).startIn 2 t) fun _ => p) Q) := by
  unfold blocksAt flying
  rw [startIn_eq c 0 t i hs, startIn_eq c 1 t i hs, startIn_eq c 2 t i hs]
  iintro ⟨H0, H1, H2⟩ Hk
  iapply (wp_start c v 0 t i (qs 0 i) (B i).q Z.q) $$ H0; iintro H0
  iapply (wp_start c v 1 t i (qs 1 i) (B i).kt Z.kt) $$ H1; iintro H1
  iapply (wp_start c v 2 t i (qs 2 i) (B i).vt Z.vt) $$ H2; iintro H2
  iapply Hk
  isplitl [H0]; · iexact H0
  isplitl [H1] <;> iassumption

/-- Waiting for a point's blocks. -/
theorem wp_wait3 (t : Fin grid0.N) (i : Fin 2) (hs : (lp (F := F) c).slots t = sl i) (l : List (GSem nD τ sig × ℕ)) (hl : l = owed0 c ∨ l = owed1 c ∨ l = [])
    {Q : PUnit → sProp 𝕄} (p : PP (F := F) PUnit) :
    iprop(flying c qs B t i ∗ Ow c l ∗ levAts L lv)
      ⊢ iprop(((blocksAt c qs B t i (B i) ∗ Ow c l) -∗ WL c v p Q)
        -∗ WL c v (.op ((lp (F := F) c).waitIn 0 t) fun _ => .op ((lp (F := F) c).waitIn 1 t) fun _ => .op ((lp (F := F) c).waitIn 2 t) fun _ => p) Q) := by
  unfold blocksAt flying
  rw [waitIn_eq c 0 t i hs, waitIn_eq c 1 t i hs, waitIn_eq c 2 t i hs]
  iintro ⟨⟨H0, H1, H2⟩, HO, #Hla⟩ Hk
  iapply (wp_wait c v 0 t i (qs 0 i) (B i).q l (low_owed c 0 i l hl)) $$ [H0 HO]
  · isplitl [H0]; · iexact H0
    isplitl [HO] <;> iassumption
  iintro ⟨H0, HO⟩
  iapply (wp_wait c v 1 t i (qs 1 i) (B i).kt l (low_owed c 1 i l hl)) $$ [H1 HO]
  · isplitl [H1]; · iexact H1
    isplitl [HO] <;> iassumption
  iintro ⟨H1, HO⟩
  iapply (wp_wait c v 2 t i (qs 2 i) (B i).vt l (low_owed c 2 i l hl)) $$ [H2 HO]
  · isplitl [H2]; · iexact H2
    isplitl [HO] <;> iassumption
  iintro ⟨H2, HO⟩
  iapply Hk
  isplitr [HO]
  · isplitl [H0]; · iexact H0
    isplitl [H1] <;> iassumption
  iexact HO

/-- The mask's block, its buffer holding `Z`. -/
def maskAt (m Z : S16x1024.Idx → Elt F .f32) : sProp 𝕄 :=
  iprop(owns (c : Thread nD τ) ((wn (F := F) c 3).blk t0_0) qm m ∗ owns (c : Thread nD τ) mM fullShare Z ∗ semVal ((c : Thread nD τ), SemLoc.dma ((wn (F := F) c 3).sem (sl 0 3))) 0)

/-- The result's place in the array and its buffer's counter. -/
def outAt4 (Z : S16x1024.Idx → Elt F .f32) : sProp 𝕄 :=
  iprop(owns (c : Thread nD τ) ((wn (F := F) c 4).blk t0_1) fullShare Z ∗ semVal ((c : Thread nD τ), SemLoc.dma ((wn (F := F) c 4).sem (sl 1 4))) 0)

theorem mM_all (m : S16x1024.Idx → Elt F .f32) :
    (owns (c : Thread nD τ) ((wn (F := F) c 3).stg t0_0 (sl 0 3)) fullShare m : sProp 𝕄) ⊣⊢ owns (c : Thread nD τ) mM fullShare m :=
  owns_slice_all c mM fullShare (fun a => (Nat.zero_add _).le) m

theorem outM_all (O : S16x1024.Idx → Elt F .f32) :
    (owns (c : Thread nD τ) ((wn (F := F) c 4).stg t0_1 (sl 1 4)) fullShare O : sProp 𝕄) ⊣⊢ owns (c : Thread nD τ) outM fullShare O :=
  owns_slice_all c outM fullShare (fun a => (Nat.zero_add _).le) O

/-- The loop's last iterations, from the second point's body. -/
theorem wp_it2 (R1 R2 : sProp 𝕄) (m : ℕ) (hv : v = some (.inr (m + 1))) (O Z : S16x1024.Idx → Elt F .f32)
    (hb1 : BodyAt c B qt tb t0_1 1 (owed1 c) [] R1 iprop(owns (c : Thread nD τ) outM fullShare O ∗ R2)) {Q : PUnit → sProp 𝕄} :
    iprop(flying c qs B t0_1 1 ∗ owns (c : Thread nD τ) mM fullShare (B 1).m ∗ ((c : Thread nD τ).loc main_v24 ↦{qt} tb) ∗ Ow c (owed1 c) ∗ levAts L lv ∗ R1 ∗ outAt4 c Z)
      ⊢ iprop(((blocksAt c qs B t0_1 1 (B 1) ∗ owns (c : Thread nD τ) mM fullShare (B 1).m ∗ ((c : Thread nD τ).loc main_v24 ↦{qt} tb) ∗ Ow c [] ∗ R2
          ∗ outAt4 c O ∗ owns (c : Thread nD τ) outM fullShare O) -∗ Q ⟨⟩)
        -∗ WL c v (it2 (F := F) c) Q) := by
  unfold it2
  iintro ⟨HF, HM, HT, HO, #Hla, HR, H4⟩ Hk
  iapply (wp_wait3 c v qs B t0_1 1 (slots_1 c) (owed1 c) (.inr (.inl rfl))) $$ [HF HO]
  · isplitl [HF]; · iexact HF
    isplitl [HO] <;> iassumption
  iintro ⟨HB, HO⟩
  rw [slots_1 c]
  iapply (wp_point c v qs B qt tb (m + 1) hv t0_1 1 (owed1 c) [] R1 _ hb1 (Q := Q)) $$ [HB HM HT HO HR]
  · isplitl [HB]; · iexact HB
    isplitl [HM]; · iexact HM
    isplitl [HT]; · iexact HT
    isplitl [HO] <;> iassumption
  iintro ⟨HB, HM, HT, HO, HX, HR⟩
  unfold outAt4
  rw [startOut_eq c 4 t0_1 1 (slots_1 c), waitOut_eq c 4 t0_1 1 (slots_1 c)]
  icases H4 with ⟨Ha, Hv⟩
  ihave HX := (outM_all c O).2 $$ HX
  iapply (wp_move c v fullShare O Z (View.amount_pos _ _ (block_pos0 4))) $$ [HX Ha Hv]
  · isplitl [HX]; · iexact HX
    isplitl [Ha] <;> iassumption
  iintro HF
  iapply (wp_landed c v fullShare O [] (fun x hx => by cases hx)) $$ [HF HO]
  · isplitl [HF]; · iexact HF
    isplitl [HO]; · iexact HO
    iexact Hla
  iintro ⟨HX, Ha, Hv, HO⟩
  iapply (wp_goto c v m 3 (fun u hu => by subst hv; cases hu; exact Sum.Lex.inr (Nat.lt_succ_self _)))
  rw [(iters c).2.2.2]
  iapply (wl_ret c)
  iapply (wl_ret c)
  iapply Hk
  isplitl [HB]; · iexact HB
  isplitl [HM]; · iexact HM
  isplitl [HT]; · iexact HT
  isplitl [HO]; · iexact HO
  isplitl [HR]; · iexact HR
  isplitl [Ha Hv]
  · isplitl [Ha] <;> iassumption
  iapply (outM_all c O).1; iexact HX

set_option maxHeartbeats 1000000 in
/-- The loop. -/
theorem wp_loop (R0 R1 R2 : sProp 𝕄) (m : ℕ) (hv : v = some (.inr (m + 4))) (O Z : S16x1024.Idx → Elt F .f32) (ZM : S16x1024.Idx → Elt F .f32) (hm : (B 1).m = (B 0).m)
    (hb0 : BodyAt c B qt tb t0_0 0 (owed0 c) (owed1 c) R0 R1)
    (hb1 : BodyAt c B qt tb t0_1 1 (owed1 c) [] R1 iprop(owns (c : Thread nD τ) outM fullShare O ∗ R2)) {Q : PUnit → sProp 𝕄} :
    iprop(blocksAt c qs B t0_0 0 (Y 0) ∗ blocksAt c qs B t0_1 1 (Y 1) ∗ maskAt c qm (B 0).m ZM ∗ outAt4 c Z
        ∗ ((c : Thread nD τ).loc main_v24 ↦{qt} tb) ∗ Ow c (owed0 c) ∗ levAts L lv ∗ R0)
      ⊢ iprop(((blocksAt c qs B t0_0 0 (B 0) ∗ blocksAt c qs B t0_1 1 (B 1) ∗ maskAt c qm (B 0).m (B 0).m ∗ outAt4 c O ∗ owns (c : Thread nD τ) outM fullShare O
          ∗ ((c : Thread nD τ).loc main_v24 ↦{qt} tb) ∗ Ow c [] ∗ R2) -∗ Q ⟨⟩)
        -∗ WL c v (goto (F := F) c 0) Q) := by
  subst hv
  have hlt : ∀ n : ℕ, ∀ u ∈ (some (.inr (n + 1)) : Option (Variants.lift 𝒱₀).V), (Variants.lift 𝒱₀).lt (.inr n) u := fun n u hu => by
    cases hu; exact Sum.Lex.inr (Nat.lt_succ_self _)
  iintro ⟨HB0, HB1, HM, H4, HT, HO, #Hla, HR⟩ Hk
  iapply (wp_goto c _ (m + 3) 0 (hlt _))
  rw [(iters c).1]
  unfold it0
  iapply (wp_start3 c _ qs B t0_0 0 (slots_0 c) (Y 0)) $$ HB0; iintro HF0
  iapply (wp_goto c _ (m + 2) 1 (hlt _))
  rw [(iters c).2.1]
  unfold it1
  unfold maskAt
  icases HM with ⟨Ha, Hs, Hv⟩
  ihave Hs := (mM_all c ZM).2 $$ Hs
  rw [startIn_eq c 3 t0_0 0 (slots_0 c), waitIn_eq c 3 t0_0 0 (slots_0 c)]
  iapply (wp_move c _ qm (B 0).m ZM (stg_pos c 3 t0_0 0)) $$ [Ha Hs Hv]
  · isplitl [Ha]; · iexact Ha
    isplitl [Hs] <;> iassumption
  iintro HFM
  iapply (wp_start3 c _ qs B t0_1 1 (slots_1 c) (Y 1)) $$ HB1; iintro HF1
  iapply (wp_wait3 c _ qs B t0_0 0 (slots_0 c) (owed0 c) (.inl rfl)) $$ [HF0 HO]
  · isplitl [HF0]; · iexact HF0
    isplitl [HO] <;> iassumption
  iintro ⟨HB0, HO⟩
  iapply (wp_landed c _ qm (B 0).m (owed0 c) (low_owed c 3 0 (owed0 c) (.inl rfl))) $$ [HFM HO]
  · isplitl [HFM]; · iexact HFM
    isplitl [HO] <;> iassumption
  iintro ⟨Ha, Hs, Hv, HO⟩
  ihave Hs := (mM_all c (B 0).m).1 $$ Hs
  rw [slots_0 c]
  iapply (wp_point c _ qs B qt tb (m + 2) rfl t0_0 0 (owed0 c) (owed1 c) R0 _ hb0) $$ [HB0 Hs HT HO HR]
  · isplitl [HB0]; · iexact HB0
    isplitl [Hs]; · iexact Hs
    isplitl [HT]; · iexact HT
    isplitl [HO] <;> iassumption
  iintro ⟨HB0, Hs, HT, HO, HR⟩
  rw [← hm]
  iapply (wp_goto c _ (m + 1) 2 (hlt _))
  rw [(iters c).2.2.1]
  iapply (wp_it2 c _ qs B qt tb R1 R2 m rfl O Z hb1) $$ [HF1 Hs HT HO HR H4]
  · isplitl [HF1]; · iexact HF1
    isplitl [Hs]; · iexact Hs
    isplitl [HT]; · iexact HT
    isplitl [HO]; · iexact HO
    isplitr [HR H4]; · iexact Hla
    isplitl [HR] <;> iassumption
  iintro ⟨HB1, Hs, HT, HO, HR, H4, HX⟩
  iapply (wl_ret c)
  iapply (wl_ret c)
  iapply (wl_ret c)
  iapply Hk
  isplitl [HB0]; · iexact HB0
  isplitl [HB1]; · iexact HB1
  isplitl [Ha Hs Hv]
  · isplitl [Ha]; · iexact Ha
    isplitl [Hs] <;> iassumption
  isplitl [H4]; · iexact H4
  isplitl [HX]; · iexact HX
  isplitl [HT]; · iexact HT
  isplitl [HO] <;> iassumption

end Run

end Loop

end Cert.FlashProof
-- ==== Proof.Rows.lean ====
/-
Buffers dealt into rows and put back.
-/
module

public import proofs.«01_k».proof.Proof.Loop
public import Idealize.ShloMosaic.Lib.ValueIdxCore

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

section Rows
variable (c : Dev nD) {n w : ℕ} (m : Memref sig .tc .vmem ⟨2, ![n, w]⟩ .f32) {T : Type} [Fintype T] (ρ : T ≃ Fin n)

theorem inb_row (i : Fin n) : ∀ a, (![i.val, 0] : Fin 2 → ℕ) a + (⟨2, ![1, w]⟩ : Shape).size a ≤ (⟨2, ![n, w]⟩ : Shape).size a := by
  intro a
  match a with
  | ⟨0, _⟩ => show i.val + 1 ≤ n; omega
  | ⟨1, _⟩ => show 0 + w ≤ w; omega

/-- Row `i`. -/
abbrev rowR (w : ℕ) (i : Fin n) : Rect ⟨2, ![n, w]⟩ := Rect.unit (s := ⟨2, ![n, w]⟩) ![i.val, 0] (⟨2, ![1, w]⟩ : Shape).size (inb_row i)

theorem mem_row (i : Fin n) (x : (⟨2, ![n, w]⟩ : Shape).Idx) : x ∈ (rowR w i).set ↔ x 0 = i := by
  rw [Rect.mem_set_unit]
  constructor
  · intro h
    have := h 0
    apply Fin.ext
    have h1 : i.val ≤ (x 0).val := this.1
    have h2 : (x 0).val < i.val + 1 := this.2
    omega
  · rintro rfl a
    match a with
    | ⟨0, _⟩ => exact ⟨le_rfl, Nat.lt_succ_self _⟩
    | ⟨1, _⟩ => exact ⟨Nat.zero_le _, by show (x 1).val < 0 + w; have := (x 1).isLt; have h : (x 1).val < w := this; omega⟩

theorem row_emb (i : Fin n) (j : (⟨2, ![1, w]⟩ : Shape).Idx) : (rowR w i).emb j = ix2 i (j 1) := by
  funext a
  match a with
  | ⟨0, _⟩ =>
    apply Fin.ext; show i.val + 1 * (j 0).val = i.val
    have : (j 0).val < 1 := (j 0).isLt
    omega
  | ⟨1, _⟩ => apply Fin.ext; show 0 + 1 * (j 1).val = (j 1).val; omega

theorem rows_disjoint (t t' : T) (h : t ≠ t') : Disjoint (rowR w (ρ t)).set (rowR w (ρ t')).set := by
  rw [Finset.disjoint_left]
  intro x hx hx'
  rw [mem_row] at hx hx'
  exact h (ρ.injective (hx.symm.trans hx'))

theorem rows_cover : (Finset.univ : Finset T).biUnion (fun t => (rowR w (ρ t)).set) = Finset.univ := by
  ext x
  simp only [Finset.mem_biUnion, Finset.mem_univ, true_and, iff_true]
  exact ⟨ρ.symm (x 0), (mem_row _ _).mpr (ρ.apply_symm_apply _).symm⟩

theorem row_eta (j : (⟨2, ![1, w]⟩ : Shape).Idx) : ix2 0 (j 1) = j := by
  funext a
  match a with
  | ⟨0, _⟩ => apply Fin.ext; show 0 = (j 0).val; have : (j 0).val < 1 := (j 0).isLt; omega
  | ⟨1, _⟩ => rfl

/-- A matrix dealt into its rows. -/
theorem rows_deal (X : (⟨2, ![n, w]⟩ : Shape).Idx → Elt F .f32) :
    (owns (c : Thread nD τ) m fullShare X : sProp 𝕄)
      ⊢ bigSep Finset.univ fun t => owns (c : Thread nD τ) (m.slice (rowR w (ρ t)) (fun _ => rfl)) fullShare (fun j => X (ix2 (ρ t) (j 1))) := by
  refine (owns_rects (c : Thread nD τ) m fullShare (fun t => rowR w (ρ t)) (fun _ _ => rfl) (rows_disjoint ρ) (rows_cover ρ) X).trans
    (bigSep_mono fun t _ => ?_)
  simp only [row_emb]
  exact Entails.refl _

/-- A matrix put together from its rows. -/
theorem rows_join (Y : T → (⟨2, ![1, w]⟩ : Shape).Idx → Elt F .f32) :
    (bigSep Finset.univ fun t => (owns (c : Thread nD τ) (m.slice (rowR w (ρ t)) (fun _ => rfl)) fullShare (Y t) : sProp 𝕄))
      ⊢ owns (c : Thread nD τ) m fullShare (fun x => Y (ρ.symm (x 0)) (ix2 0 (x 1))) := by
  classical
  refine BIBase.Entails.trans (bigSep_mono fun t _ => ?_)
    (owns_of_rects (c : Thread nD τ) m fullShare (fun t => rowR w (ρ t)) (fun _ _ => rfl) (rows_disjoint ρ) (rows_cover ρ) _)
  have h : Y t = fun j => Y (ρ.symm ((rowR w (ρ t)).emb j 0)) (ix2 0 ((rowR w (ρ t)).emb j 1)) := by
    funext j
    simp only [row_emb]
    show Y t j = Y (ρ.symm (ρ t)) (ix2 0 (j 1))
    rw [ρ.symm_apply_apply]
    exact congrArg (Y t) (row_eta j).symm
  rw [← h]
  exact Entails.refl _

end Rows

/-! ## The rows of the kernel's buffers -/

section Kernel
variable (c : Dev nD)

theorem red_rows (X : S2x1152.Idx → Elt F .f32) : (owns (c : Thread nD τ) redM fullShare X : sProp 𝕄)
    ⊢ iprop(owns (c : Thread nD τ) (redRow 0) fullShare (fun j => X (ix2 0 (j 1))) ∗ owns (c : Thread nD τ) (redRow 1) fullShare (fun j => X (ix2 1 (j 1)))) := by
  refine (rows_deal c redM (Equiv.refl (Fin 2)) X).trans ?_
  rw [bigSep_univ_eq_bigSepL [0, 1] (by decide) (by decide)]
  exact Entails.refl _

theorem red_unrows (Y : Fin 2 → S1x1152.Idx → Elt F .f32) :
    iprop(owns (c : Thread nD τ) (redRow 0) fullShare (Y 0) ∗ owns (c : Thread nD τ) (redRow 1) fullShare (Y 1))
      ⊢ (owns (c : Thread nD τ) redM fullShare (fun x => Y (x 0) (ix2 0 (x 1))) : sProp 𝕄) := by
  refine BIBase.Entails.trans ?_ (rows_join c redM (Equiv.refl (Fin 2)) Y)
  rw [bigSep_univ_eq_bigSepL [0, 1] (by decide) (by decide)]
  exact Entails.refl _

theorem nrm_rows (X : S2x1024.Idx → Elt F .f32) : (owns (c : Thread nD τ) nrmM fullShare X : sProp 𝕄)
    ⊢ iprop(owns (c : Thread nD τ) (nrmRow 0) fullShare (fun j => X (ix2 0 (j 1))) ∗ owns (c : Thread nD τ) (nrmRow 1) fullShare (fun j => X (ix2 1 (j 1)))) := by
  refine (rows_deal c nrmM (Equiv.refl (Fin 2)) X).trans ?_
  rw [bigSep_univ_eq_bigSepL [0, 1] (by decide) (by decide)]
  exact Entails.refl _

theorem nrm_unrows (Y : Fin 2 → S1x1024.Idx → Elt F .f32) :
    iprop(owns (c : Thread nD τ) (nrmRow 0) fullShare (Y 0) ∗ owns (c : Thread nD τ) (nrmRow 1) fullShare (Y 1))
      ⊢ (owns (c : Thread nD τ) nrmM fullShare (fun x => Y (x 0) (ix2 0 (x 1))) : sProp 𝕄) := by
  refine BIBase.Entails.trans ?_ (rows_join c nrmM (Equiv.refl (Fin 2)) Y)
  rw [bigSep_univ_eq_bigSepL [0, 1] (by decide) (by decide)]
  exact Entails.refl _

/-! The places that the copies land in. -/

/-- Whose rows a row of the result is: the device's own, or those of the device that sends by copy `j`. -/
def who (c : Dev nD) : Option (Fin 7) → Dev nD
  | none => c
  | some j => qe c (.inr j)

theorem row_lt (t : Option (Fin 7) × Fin 2) : rb (who c t.1) + t.2.val < 16 := rb_add_lt _ _

theorem rows_onto : ∀ (c : Dev nD) (i : Fin 16), ∃ t : Option (Fin 7) × Fin 2, rb (who c t.1) + t.2.val = i.val := by decide

/-- The rows of the result, by whose they are. -/
def rowEquiv : Option (Fin 7) × Fin 2 ≃ Fin 16 :=
  Equiv.ofBijective (fun t => (⟨rb (who c t.1) + t.2.val, row_lt c t⟩ : Fin 16))
    ((Fintype.bijective_iff_surjective_and_card _).mpr ⟨fun i => (rows_onto c i).imp fun t h => Fin.ext h, by decide⟩)

theorem rowEquiv_val (t : Option (Fin 7) × Fin 2) : (rowEquiv c t).val = rb (who c t.1) + t.2.val := rfl

/-- The place that device `c` keeps for row `r`'s copy of number `k`. -/
def place (r : Fin 2) (k : Peer) : sProp 𝕄 := iprop(∃ Y, owns (c : Thread nD τ) (dstRow r (qe c k) k) fullShare Y)

theorem place_slot (r : Fin 2) (k : Peer) : place (F := F) c r k = slot (qe c k) r k := by
  unfold place slot
  rw [pe_qe]

theorem place_slot' (r : Fin 2) (n : Peer) : place (F := F) c r (prev n) = slot (pe c n) r (prev n) := by
  rw [place_slot]; unfold qe; rw [prev_prev]

theorem cz_deal (r : Fin 2) (X : S3x1152.Idx → Elt F .f32) : (owns (c : Thread nD τ) (czM r) fullShare X : sProp 𝕄)
    ⊢ bigSep Finset.univ fun j : Fin 3 => place c r (.inl j) := by
  refine (rows_deal c (czM r) (Equiv.refl (Fin 3)) X).trans (bigSep_mono fun j _ => ?_)
  exact (show (owns (c : Thread nD τ) (czRow r j) fullShare (fun i : S1x1152.Idx => X (ix2 j (i 1))) : sProp 𝕄) ⊢ place c r (.inl j) from by
    unfold place
    iintro H
    iexists _
    iexact H)

theorem cz_join (r : Fin 2) (Y : Fin 3 → S1x1152.Idx → Elt F .f32) :
    (bigSep Finset.univ fun j : Fin 3 => (owns (c : Thread nD τ) (czRow r j) fullShare (Y j) : sProp 𝕄))
      ⊢ owns (c : Thread nD τ) (czM r) fullShare (fun x => Y (x 0) (ix2 0 (x 1))) :=
  rows_join c (czM r) (Equiv.refl (Fin 3)) Y

/-- The own rows of the result at contents `Z`. -/
def ownRows (Z : Fin 2 → S1x1024.Idx → Elt F .f32) : sProp 𝕄 :=
  iprop(owns (c : Thread nD τ) (outRow _ (rb_add_lt c 0)) fullShare (Z 0) ∗ owns (c : Thread nD τ) (outRow _ (rb_add_lt c 1)) fullShare (Z 1))

/-- A sum over all rows of the result: the device's own, then each sender's. -/
theorem rows_sum (Φ : Option (Fin 7) × Fin 2 → sProp 𝕄) : bigSep Finset.univ Φ
    = iprop((bigSepL [0, 1, 2, 3, 4, 5, 6] (fun j => Φ (some j, 0)) ∗ bigSepL [0, 1, 2, 3, 4, 5, 6] (fun j => Φ (some j, 1))) ∗ (Φ (none, 0) ∗ Φ (none, 1))) := by
  rw [bigSep_univ_eq_bigSepL (([0, 1, 2, 3, 4, 5, 6].map (fun j => (some j, 0)) ++ [0, 1, 2, 3, 4, 5, 6].map (fun j => (some j, 1))) ++ [(none, 0), (none, 1)])
    (by decide) (by decide), bigSepL_append, bigSepL_append, bigSepL_map, bigSepL_map]
  rfl

theorem out_deal (X : S16x1024.Idx → Elt F .f32) : (owns (c : Thread nD τ) outM fullShare X : sProp 𝕄)
    ⊢ iprop((bigSepL gl (place c 0) ∗ bigSepL gl (place c 1)) ∗ ∃ Z, ownRows c Z) := by
  refine (rows_deal c outM (rowEquiv c) X).trans ?_
  rw [rows_sum]
  have h : ∀ (r : Fin 2) (j : Fin 7), (owns (c : Thread nD τ) (outM.slice (rowR 1024 (rowEquiv c (some j, r))) (fun _ => rfl)) fullShare
      (fun i => X (ix2 (rowEquiv c (some j, r)) (i 1))) : sProp 𝕄) ⊢ place c r (.inr j) := fun r j =>
    (show (owns (c : Thread nD τ) (dstRow r (qe c (.inr j)) (.inr j)) fullShare (fun i : S1x1024.Idx => X (ix2 (rowEquiv c (some j, r)) (i 1))) : sProp 𝕄) ⊢ place c r (.inr j) from by
      unfold place
      iintro H
      iexists _
      iexact H)
  have hl : ∀ r : Fin 2, (bigSepL [0, 1, 2, 3, 4, 5, 6] fun j : Fin 7 => (owns (c : Thread nD τ) (outM.slice (rowR 1024 (rowEquiv c (some j, r))) (fun _ => rfl)) fullShare
      (fun i => X (ix2 (rowEquiv c (some j, r)) (i 1))) : sProp 𝕄)) ⊢ bigSepL gl (place c r) := fun r => bigSepL_mono fun j _ => h r j
  have ho : ∀ r : Fin 2, (owns (c : Thread nD τ) (outM.slice (rowR 1024 (rowEquiv c (none, r))) (fun _ => rfl)) fullShare
      (fun i => X (ix2 (rowEquiv c (none, r)) (i 1))) : sProp 𝕄) ⊢ owns (c : Thread nD τ) (outRow _ (rb_add_lt c r)) fullShare
      (fun i : S1x1024.Idx => X (ix2 (rowEquiv c (none, r)) (i 1))) := fun r => Entails.refl _
  iintro ⟨⟨H0, H1⟩, Ho⟩
  isplitl [H0 H1]
  · isplitl [H0]
    · iapply (hl 0); iexact H0
    · iapply (hl 1); iexact H1
  iexists (fun (r : Fin 2) (i : S1x1024.Idx) => X (ix2 (rowEquiv c (none, r)) (i 1)))
  unfold ownRows
  icases Ho with ⟨Ho0, Ho1⟩
  isplitl [Ho0]
  · iapply (ho 0); iexact Ho0
  · iapply (ho 1); iexact Ho1

/-- The whole result's staging buffer, once every row is written. -/
def outC (X : Cont F) : S16x1024.Idx → Elt F .f32 :=
  fun x => X.nrm (who c ((rowEquiv c).symm (x 0)).1) ((rowEquiv c).symm (x 0)).2 (ix2 0 (x 1))

theorem out_join (X : Cont F) :
    iprop((bigSepL gl (recvPay X c 0) ∗ bigSepL gl (recvPay X c 1)) ∗ ownRows c (X.nrm c))
      ⊢ (owns (c : Thread nD τ) outM fullShare (outC c X) : sProp 𝕄) := by
  refine BIBase.Entails.trans ?_ (rows_join c outM (rowEquiv c) fun t => X.nrm (who c t.1) t.2)
  rw [rows_sum]
  exact Entails.refl _

/-- The scratch buffers, at some contents. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The rows that a device keeps for itself, at some contents. -/
def keeps : sProp 𝕄 :=
  iprop(∃ (R : Fin 2 → S1x1152.Idx → Elt F .f32) (N Z : Fin 2 → S1x1024.Idx → Elt F .f32),
    (owns (c : Thread nD τ) (redRow 0) fullShare (R 0) ∗ owns (c : Thread nD τ) (redRow 1) fullShare (R 1))
    ∗ (owns (c : Thread nD τ) (nrmRow 0) fullShare (N 0) ∗ owns (c : Thread nD τ) (nrmRow 1) fullShare (N 1)) ∗ ownRows c Z)

theorem zl_sum (Φ : Peer → sProp 𝕄) : bigSepL zl Φ = bigSep Finset.univ fun j : Fin 3 => Φ (.inl j) := by
  rw [bigSep_univ_eq_bigSepL [0, 1, 2] (by decide) (by decide)]; rfl

/-- The scratch buffers and the result's staging buffer, dealt into the rows kept and the places for the peers' copies. -/
theorem scratch_deal (X : S16x1024.Idx → Elt F .f32) :
    iprop(scratch (F := F) c ∗ owns (c : Thread nD τ) outM fullShare X) ⊢ iprop(keeps c ∗ bigSepL (zl ++ gl) (place c 0) ∗ bigSepL (zl ++ gl) (place c 1)) := by
  unfold scratch keeps
  rw [bigSepL_append, bigSepL_append, zl_sum, zl_sum]
  iintro ⟨⟨⟨%f0, H0⟩, ⟨%f1, H1⟩, ⟨%f2, H2⟩, ⟨%f3, H3⟩⟩, HO⟩
  ihave H0 := (show _ ⊢ (owns (c : Thread nD τ) redM fullShare f0 : sProp 𝕄) from Entails.of_eq (owns_whole (c : Thread nD τ) cc0_scratch0 fullShare f0).symm) $$ H0
  ihave H1 := (show _ ⊢ (owns (c : Thread nD τ) nrmM fullShare f1 : sProp 𝕄) from Entails.of_eq (owns_whole (c : Thread nD τ) cc0_scratch1 fullShare f1).symm) $$ H1
  ihave H2 := (show _ ⊢ (owns (c : Thread nD τ) (czM 0) fullShare f2 : sProp 𝕄) from Entails.of_eq (owns_whole (c : Thread nD τ) cc0_scratch2 fullShare f2).symm) $$ H2
  ihave H3 := (show _ ⊢ (owns (c : Thread nD τ) (czM 1) fullShare f3 : sProp 𝕄) from Entails.of_eq (owns_whole (c : Thread nD τ) cc0_scratch3 fullShare f3).symm) $$ H3
  ihave H0 := (red_rows c f0) $$ H0
  ihave H1 := (nrm_rows c f1) $$ H1
  ihave H2 := (cz_deal c 0 f2) $$ H2
  ihave H3 := (cz_deal c 1 f3) $$ H3
  ihave HO := (out_deal c X) $$ HO
  icases HO with ⟨⟨P0, P1⟩, ⟨%Z, HZ⟩⟩
  isplitl [H0 H1 HZ]
  · iexists (fun (r : Fin 2) (j : S1x1152.Idx) => f0 (ix2 r (j 1)))
    iexists (fun (r : Fin 2) (j : S1x1024.Idx) => f1 (ix2 r (j 1)))
    iexists Z
    isplitl [H0]; · iexact H0
    isplitl [H1] <;> iassumption
  isplitl [H2 P0]
  · isplitl [H2] <;> iassumption
  isplitl [H3] <;> iassumption

/-- The scratch buffers, put back. -/
theorem scratch_join (X : Cont F) :
    iprop((owns (c : Thread nD τ) (redRow 0) fullShare (X.red c 0) ∗ owns (c : Thread nD τ) (redRow 1) fullShare (X.red c 1))
        ∗ (owns (c : Thread nD τ) (nrmRow 0) fullShare (X.nrm c 0) ∗ owns (c : Thread nD τ) (nrmRow 1) fullShare (X.nrm c 1))
        ∗ (bigSepL zl (recvPay X c 0) ∗ bigSepL zl (recvPay X c 1)))
      ⊢ scratch (F := F) c := by
  unfold scratch
  rw [zl_sum, zl_sum]
  iintro ⟨H0, H1, H2, H3⟩
  ihave H0 := (red_unrows c (X.red c)) $$ H0
  ihave H1 := (nrm_unrows c (X.nrm c)) $$ H1
  ihave H2 := (show (bigSep Finset.univ fun j : Fin 3 => recvPay X c 0 (.inl j)) ⊢ _ from cz_join c 0 fun j => X.red (qe c (.inl j)) 0) $$ H2
  ihave H3 := (show (bigSep Finset.univ fun j : Fin 3 => recvPay X c 1 (.inl j)) ⊢ _ from cz_join c 1 fun j => X.red (qe c (.inl j)) 1) $$ H3
  isplitl [H0]
  · iexists _; iapply (Entails.of_eq (owns_whole (c : Thread nD τ) cc0_scratch0 fullShare _)); iexact H0
  isplitl [H1]
  · iexists _; iapply (Entails.of_eq (owns_whole (c : Thread nD τ) cc0_scratch1 fullShare _)); iexact H1
  isplitl [H2]
  · iexists _; iapply (Entails.of_eq (owns_whole (c : Thread nD τ) cc0_scratch2 fullShare _)); iexact H2
  · iexists _; iapply (Entails.of_eq (owns_whole (c : Thread nD τ) cc0_scratch3 fullShare _)); iexact H3

end Kernel

end Cert.FlashProof
-- ==== Proof.Bodies.lean ====
/-
The body at the two points, between what a device holds before the loop and after it.
-/
module

public import proofs.«01_k».proof.Proof.Rows

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

section Bodies
variable (X : Cont F) (K : GSem nD τ sig → ℕ) (c : Dev nD)

/-- What the second point's body takes and the first's does not touch. -/
def later (Y1 : S1x1152.Idx → Elt F .f32) (N Z : Fin 2 → S1x1024.Idx → Elt F .f32) : sProp 𝕄 :=
  iprop((bigSepL zl (sendTok X K c 1) ∗ bigSepL gl (sendTok X K c 0) ∗ bigSepL gl (sendTok X K c 1))
    ∗ (bigSepL zl (waitTok X K c 0) ∗ bigSepL zl (waitTok X K c 1) ∗ bigSepL gl (waitTok X K c 0) ∗ bigSepL gl (waitTok X K c 1))
    ∗ owns (c : Thread nD τ) (redRow 1) fullShare Y1
    ∗ (owns (c : Thread nD τ) (nrmRow 0) fullShare (N 0) ∗ owns (c : Thread nD τ) (nrmRow 1) fullShare (N 1)) ∗ ownRows c Z)

/-- Before the first point. -/
def before (Y0 Y1 : S1x1152.Idx → Elt F .f32) (N Z : Fin 2 → S1x1024.Idx → Elt F .f32) : sProp 𝕄 :=
  iprop(levAts L lv ∗ bigSepL (zl ++ gl) (sigRes X K c)
    ∗ (inv X K (cell c bar) ∗ cred (tallyAt (cell c bar) () 10) ∗ atPos ER (cell c bar) 0 ∅ 0)
    ∗ bigSepL zl (sendTok X K c 0) ∗ owns (c : Thread nD τ) (redRow 0) fullShare Y0 ∗ later X K c Y1 N Z)

/-- Between the points. -/
def between (Y1 : S1x1152.Idx → Elt F .f32) (N Z : Fin 2 → S1x1024.Idx → Elt F .f32) : sProp 𝕄 :=
  iprop(levAts L lv ∗ atPos ER (cell c bar) 1 ∅ 0
    ∗ (bigSepL zl (halfR (F := F) c 1) ∗ bigSepL gl (halfR (F := F) c 0) ∗ bigSepL gl (halfR (F := F) c 1))
    ∗ (bigSepL zl fun k => cred (tallyAt (cell c (snd 0 k)) () (NN k)))
    ∗ owns (c : Thread nD τ) (redRow 0) (shareDrop fullShare 3) (X.red c 0) ∗ later X K c Y1 N Z)

/-- The places of a device's own cells, past their round. -/
def allDone : sProp 𝕄 :=
  iprop(atPos ER (cell c bar) 1 ∅ 0 ∗ ((bigSepL zl (doneAt (F := F) c 0) ∗ bigSepL gl (doneAt (F := F) c 0)) ∗ (bigSepL zl (doneAt (F := F) c 1) ∗ bigSepL gl (doneAt (F := F) c 1))))

variable (B : Fin 2 → Blocks F) (qt : PosShare TreeShare) (tb : Buf (Elt F) ((c : Thread nD τ).loc main_v24)) (htb : ∀ j, tb j = word c)
  (hred : ∀ i, X.red c i = (B i).row)

theorem conds : (k0_cond1 (grid0.coords t0_0) = 1#1 ∧ ¬ k0_cond2 (grid0.coords t0_0) = 1#1 ∧ k0_off1 (grid0.coords t0_0) = ![(0 : Fin 2).val, 0])
    ∧ (¬ k0_cond1 (grid0.coords t0_1) = 1#1 ∧ k0_cond2 (grid0.coords t0_1) = 1#1 ∧ k0_off1 (grid0.coords t0_1) = ![(1 : Fin 2).val, 0]) := by
  decide

include htb hred

theorem body_first (Y0 Y1 : S1x1152.Idx → Elt F .f32) (N Z : Fin 2 → S1x1024.Idx → Elt F .f32) :
    BodyAt c B qt tb t0_0 0 (owed0 c) (owed1 c) (before X K c Y0 Y1 N Z) (between X K c Y1 N Z) := by
  intro Q
  unfold before between
  iintro ⟨HI, HO, #Hla, Hs, Hb, Ht, HR, HL⟩ Hk
  iapply (wp_body0 c (sQ 0) (hstage0_0 0) (sK 0) (hstage0_1 0) (sV 0) (hstage0_2 0) (grid0.coords t0_0) conds.1.1 conds.1.2.1 conds.1.2.2 qt tb htb (B 0) Y0) $$ [HI HR]
  · isplitl [HI] <;> iassumption
  rw [← hred 0]
  iintro ⟨HI, HR⟩
  iapply (wp_tail0 X K c) $$ [HO Hs Hb Ht HR]
  · isplitl [HO]; · iexact HO
    isplitr; · iexact Hla
    isplitl [Hs]; · iexact Hs
    isplitl [Hb]; · iexact Hb
    isplitl [Ht] <;> iassumption
  iintro ⟨HO, Hp, Hh, Hc, HR⟩
  iapply Hk
  isplitl [HI]; · iexact HI
  isplitl [HO]; · iexact HO
  isplitr; · iexact Hla
  isplitl [Hp]; · iexact Hp
  isplitl [Hh]; · iexact Hh
  isplitl [Hc]; · iexact Hc
  isplitl [HR] <;> iassumption

theorem body_second (hm : ∀ r, X.nrm c r = fin4 X c r (B 1).m) (Y1 : S1x1152.Idx → Elt F .f32) (N Z : Fin 2 → S1x1024.Idx → Elt F .f32) :
    BodyAt c B qt tb t0_1 1 (owed1 c) [] (between X K c Y1 N Z) iprop(owns (c : Thread nD τ) outM fullShare (outC c X) ∗ allDone (F := F) c ∗ scratch (F := F) c) := by
  intro Q
  unfold between later ownRows
  iintro ⟨HI, HO, #Hla, Hp, Hh, Hc, HR0, Ht, Hw, HR1, HN, HZ⟩ Hk
  iapply (wp_body1 c (sQ 1) (hstage0_0 1) (sK 1) (hstage0_1 1) (sV 1) (hstage0_2 1) (grid0.coords t0_1) conds.2.1 conds.2.2.1 conds.2.2.2 qt tb htb (B 1) Y1) $$ [HI HR1]
  · isplitl [HI] <;> iassumption
  rw [← hred 1]
  unfold inputs
  iintro ⟨⟨HT, H3, H4, HM, H2⟩, HR1⟩
  iapply (wp_tail1 X K c (B 1).m hm (N 0) (N 1) (Z 0) (Z 1)) $$ [HO Hh Hc Ht Hw HR0 HR1 HM HN HZ]
  · isplitl [HO]; · iexact HO
    isplitr; · iexact Hla
    isplitl [Hh]; · iexact Hh
    isplitl [Ht]; · iexact Ht
    isplitl [Hc]; · iexact Hc
    isplitl [Hw]; · iexact Hw
    isplitl [HR0 HR1]
    · isplitl [HR0] <;> iassumption
    isplitl [HM]; · iexact HM
    isplitl [HN] <;> iassumption
  iintro ⟨HO, Hd, HR, HM, HN, HZ, Hz, Hg⟩
  iapply Hk
  isplitl [HT H3 H4 HM H2]
  · isplitl [HT]; · iexact HT
    isplitl [H3]; · iexact H3
    isplitl [H4]; · iexact H4
    isplitl [HM] <;> iassumption
  isplitl [HO]; · iexact HO
  isplitl [HZ Hg]
  · iapply (out_join c X)
    isplitl [Hg]; · iexact Hg
    unfold ownRows
    iexact HZ
  isplitl [Hp Hd]
  · unfold allDone
    isplitl [Hp] <;> iassumption
  iapply (scratch_join c X)
  isplitl [HR]; · iexact HR
  isplitl [HN] <;> iassumption

end Bodies

end Cert.FlashProof
-- ==== Proof.Enter.lean ====
/-
The arrays and the staging buffers of the call, dealt into what the loop takes and put back.
-/
module

public import proofs.«01_k».proof.Proof.Bodies

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

/-- The slice of all of a memref is the memref. -/
theorem owns_slice_whole (c : Dev nD) {cs : Space} {s : Shape} {e : EltTy} (m : Memref sig .tc cs s e) (q : PosShare TreeShare) {off : Fin s.rank → ℕ} (ho : off = fun _ => 0)
    (hb : ∀ a, off a + s.size a ≤ s.size a) (X : s.Idx → Elt F e) :
    (owns (c : Thread nD τ) (m.slice (Rect.unit (s := s) off s.size hb) (fun _ => rfl)) q X : sProp 𝕄) ⊣⊢ owns (c : Thread nD τ) m q X := by
  subst ho
  exact owns_slice_all c m q hb X
theorem off3 (c : Dev nD) (t) : (fun a => (wn (F := F) c 3).kind.off ((wn (F := F) c 3).index t a) ((wn (F := F) c 3).size a)) = fun _ => 0 := by
  funext a
  match a with
  | ⟨0, _⟩ => rfl
  | ⟨1, _⟩ => rfl
theorem off4 (c : Dev nD) (t) : (fun a => (wn (F := F) c 4).kind.off ((wn (F := F) c 4).index t a) ((wn (F := F) c 4).size a)) = fun _ => 0 := by
  funext a
  match a with
  | ⟨0, _⟩ => rfl
  | ⟨1, _⟩ => rfl

/-- Two blocks of a memref, each at a share of its own, and the memref again when both are back. -/
theorem two_blocks (c : Dev nD) {cs : Space} {s : Shape} {e : EltTy} (m : Memref sig .tc cs s e) (Z : s.Idx → Elt F e) (r0 r1 : Rect s)
    (h0 : ∀ a, r0.stride a = 1) (h1 : ∀ a, r1.stride a = 1) :
    (owns (c : Thread nD τ) m fullShare Z : sProp 𝕄)
      ⊢ iprop((owns (c : Thread nD τ) (m.slice r0 h0) (shareTok fullShare 2 0) (fun j => Z (r0.emb j)) ∗ owns (c : Thread nD τ) (m.slice r1 h1) (shareTok fullShare 2 1) (fun j => Z (r1.emb j)))
        ∗ ((owns (c : Thread nD τ) (m.slice r0 h0) (shareTok fullShare 2 0) (fun j => Z (r0.emb j)) ∗ owns (c : Thread nD τ) (m.slice r1 h1) (shareTok fullShare 2 1) (fun j => Z (r1.emb j)))
          -∗ owns (c : Thread nD τ) m fullShare Z)) := by
  have hs := owns_toks_split c m fullShare 2 Z
  have hj := owns_toks_join c m fullShare 2 Z
  have two : ∀ Φ : Fin 2 → sProp 𝕄, bigSep Finset.univ Φ = iprop(Φ 0 ∗ Φ 1) := fun Φ => bigSep_fin_two Φ
  rw [two] at hs hj
  iintro H
  ihave H := hs $$ H
  icases H with ⟨Hd, H0, H1⟩
  ihave H0 := (owns_carve c m (shareTok fullShare 2 0) r0 h0 Z) $$ H0
  ihave H1 := (owns_carve c m (shareTok fullShare 2 1) r1 h1 Z) $$ H1
  icases H0 with ⟨H0, W0⟩
  icases H1 with ⟨H1, W1⟩
  isplitl [H0 H1]
  · isplitl [H0] <;> iassumption
  iintro ⟨H0, H1⟩
  iapply hj
  isplitl [Hd]; · iexact Hd
  isplitl [W0 H0]
  · iapply W0; iexact H0
  iapply W1; iexact H1

section Call
variable (c : Dev nD) (Q : S16x16x64.Idx → Elt F .f32) (KT VT : S16x16x64x1024.Idx → Elt F .f32) (M : S16x1024.Idx → Elt F .f32)

/-- The grid's points. -/
abbrev tt : Fin 2 → Fin grid0.N
  | 0 => t0_0
  | 1 => t0_1

/-- The blocks of the arrays that the loop brings in at point `i`. -/
def blocks (i : Fin 2) : Blocks F where
  q := fun j => Q (((wn (F := F) c 0).rect (tt i)).emb j)
  kt := fun j => KT (((wn (F := F) c 1).rect (tt i)).emb j)
  vt := fun j => VT (((wn (F := F) c 2).rect (tt i)).emb j)
  m := M

/-- The arrays of the call, the result's at contents `O`. -/
def arrays (O : S16x1024.Idx → Elt F .f32) : sProp 𝕄 :=
  iprop(owns (c : Thread nD τ) (Memref.whole main_v3) fullShare Q ∗ owns (c : Thread nD τ) (Memref.whole main_v1) fullShare KT
    ∗ owns (c : Thread nD τ) (Memref.whole main_v2) fullShare VT ∗ owns (c : Thread nD τ) (Memref.whole main_v12) fullShare M
    ∗ owns (c : Thread nD τ) (Memref.whole main_v25) fullShare O)

/-- The shares at which the blocks are lent. -/
abbrev shs (_ : Fin 3) (i : Fin 2) : PosShare TreeShare := shareTok fullShare 2 i

/-- The staging buffers of the moving windows for point `i`, holding `Z`. -/
def stQKV (i : Fin 2) (Z : Blocks F) : sProp 𝕄 :=
  iprop(owns (c : Thread nD τ) (sQ i) fullShare Z.q ∗ owns (c : Thread nD τ) (sK i) fullShare Z.kt ∗ owns (c : Thread nD τ) (sV i) fullShare Z.vt)

/-- The counter of buffer `s` of window `w`, at rest. -/
abbrev rest0 (w : Fin 5) (s : Fin (spec0 w).nbuf) : sProp 𝕄 := semVal ((c : Thread nD τ), SemLoc.dma ((wn (F := F) c w).sem s)) 0

/-- The counters of the buffers for point `i`. -/
def cellsQKV (i : Fin 2) : sProp 𝕄 := iprop(rest0 (F := F) c 0 i ∗ rest0 (F := F) c 1 i ∗ rest0 (F := F) c 2 i)

/-- The blocks of point `i`, in the arrays. -/
def inQKV (i : Fin 2) (B : Blocks F) : sProp 𝕄 :=
  iprop(owns (c : Thread nD τ) ((wn (F := F) c 0).blk (tt i)) (shareTok fullShare 2 i) B.q ∗ owns (c : Thread nD τ) ((wn (F := F) c 1).blk (tt i)) (shareTok fullShare 2 i) B.kt
    ∗ owns (c : Thread nD τ) ((wn (F := F) c 2).blk (tt i)) (shareTok fullShare 2 i) B.vt)

theorem blocksAt_eq (i : Fin 2) (B : Fin 2 → Blocks F) (Z : Blocks F) : blocksAt c shs B (tt i) i Z ⊣⊢ iprop(inQKV c i (B i) ∗ stQKV c i Z ∗ cellsQKV (F := F) c i) := by
  have h0 : (owns (c : Thread nD τ) ((wn (F := F) c 0).stg (tt i) (sl i 0)) fullShare Z.q : sProp 𝕄) ⊣⊢ owns (c : Thread nD τ) (sQ i) fullShare Z.q :=
    owns_slice_all c (sQ i) fullShare (fun a => (Nat.zero_add _).le) Z.q
  have h1 : (owns (c : Thread nD τ) ((wn (F := F) c 1).stg (tt i) (sl i 1)) fullShare Z.kt : sProp 𝕄) ⊣⊢ owns (c : Thread nD τ) (sK i) fullShare Z.kt :=
    owns_slice_all c (sK i) fullShare (fun a => (Nat.zero_add _).le) Z.kt
  have h2 : (owns (c : Thread nD τ) ((wn (F := F) c 2).stg (tt i) (sl i 2)) fullShare Z.vt : sProp 𝕄) ⊣⊢ owns (c : Thread nD τ) (sV i) fullShare Z.vt :=
    owns_slice_all c (sV i) fullShare (fun a => (Nat.zero_add _).le) Z.vt
  unfold blocksAt cellAt inQKV stQKV cellsQKV
  constructor
  · iintro ⟨⟨a0, s0, v0⟩, ⟨a1, s1, v1⟩, ⟨a2, s2, v2⟩⟩
    isplitl [a0 a1 a2]
    · isplitl [a0]; · iexact a0
      isplitl [a1] <;> iassumption
    isplitl [s0 s1 s2]
    · isplitl [s0]; · iapply h0.1; iexact s0
      isplitl [s1]; · iapply h1.1; iexact s1
      iapply h2.1; iexact s2
    isplitl [v0]; · iexact v0
    isplitl [v1]; · iexact v1
    iexact v2
  · iintro ⟨⟨a0, a1, a2⟩, ⟨s0, s1, s2⟩, ⟨v0, v1, v2⟩⟩
    isplitl [a0 s0 v0]
    · isplitl [a0]; · iexact a0
      isplitl [s0]; · iapply h0.2; iexact s0
      iexact v0
    isplitl [a1 s1 v1]
    · isplitl [a1]; · iexact a1
      isplitl [s1]; · iapply h1.2; iexact s1
      iexact v1
    isplitl [a2]; · iexact a2
    isplitl [s2]; · iapply h2.2; iexact s2
    iexact v2

/-- The staging buffers, at some contents. -/
def staged : sProp 𝕄 :=
  iprop((∃ Y, stQKV (F := F) c 0 Y) ∗ (∃ Y, stQKV (F := F) c 1 Y) ∗ (∃ Z, owns (c : Thread nD τ) mM fullShare Z) ∗ (∃ Z, owns (c : Thread nD τ) outM fullShare Z))

/-- The counters of the staging buffers. -/
def cells8 : sProp 𝕄 := iprop(cellsQKV (F := F) c 0 ∗ cellsQKV (F := F) c 1 ∗ rest0 (F := F) c 3 (0 : Fin 1) ∗ rest0 (F := F) c 4 (0 : Fin 1))

/-- The arrays, the staging buffers and their counters, as the loop takes them; and as it leaves them, put back. -/
theorem enter (O : S16x1024.Idx → Elt F .f32) : iprop(arrays c Q KT VT M O ∗ staged (F := F) c ∗ cells8 (F := F) c)
    ⊢ iprop(∃ (Y : Fin 2 → Blocks F) (ZM ZO : S16x1024.Idx → Elt F .f32),
      (blocksAt c shs (blocks c Q KT VT M) t0_0 0 (Y 0) ∗ blocksAt c shs (blocks c Q KT VT M) t0_1 1 (Y 1) ∗ maskAt c fullShare M ZM ∗ outAt4 c O
        ∗ owns (c : Thread nD τ) outM fullShare ZO)
      ∗ ∀ O', (blocksAt c shs (blocks c Q KT VT M) t0_0 0 (blocks c Q KT VT M 0) ∗ blocksAt c shs (blocks c Q KT VT M) t0_1 1 (blocks c Q KT VT M 1)
          ∗ maskAt c fullShare M M ∗ outAt4 c O' ∗ owns (c : Thread nD τ) outM fullShare O')
        -∗ arrays c Q KT VT M O' ∗ staged (F := F) c ∗ cells8 (F := F) c) := by
  have eM : (owns (c : Thread nD τ) ((wn (F := F) c 3).blk t0_0) fullShare M : sProp 𝕄) ⊣⊢ owns (c : Thread nD τ) (Memref.whole main_v12) fullShare M :=
    owns_slice_whole c (Memref.whole main_v12) fullShare (off3 c t0_0) _ M
  have eO : ∀ O : S16x1024.Idx → Elt F .f32, (owns (c : Thread nD τ) ((wn (F := F) c 4).blk t0_1) fullShare O : sProp 𝕄) ⊣⊢ owns (c : Thread nD τ) (Memref.whole main_v25) fullShare O :=
    fun O => owns_slice_whole c (Memref.whole main_v25) fullShare (off4 c t0_1) _ O
  have hQ := two_blocks c (Memref.whole main_v3) Q ((wn (F := F) c 0).rect t0_0) ((wn (F := F) c 0).rect t0_1) (fun _ => rfl) (fun _ => rfl)
  have hK := two_blocks c (Memref.whole main_v1) KT ((wn (F := F) c 1).rect t0_0) ((wn (F := F) c 1).rect t0_1) (fun _ => rfl) (fun _ => rfl)
  have hV := two_blocks c (Memref.whole main_v2) VT ((wn (F := F) c 2).rect t0_0) ((wn (F := F) c 2).rect t0_1) (fun _ => rfl) (fun _ => rfl)
  have b0 := fun Z => blocksAt_eq c 0 (blocks c Q KT VT M) Z
  have b1 := fun Z => blocksAt_eq c 1 (blocks c Q KT VT M) Z
  unfold arrays staged cells8
  iintro ⟨⟨HQ, HK, HV, HM, HO⟩, ⟨⟨%Y0, S0⟩, ⟨%Y1, S1⟩, ⟨%ZM, SM⟩, ⟨%ZO, SO⟩⟩, ⟨C0, C1, C3, C4⟩⟩
  ihave HQ := hQ $$ HQ
  ihave HK := hK $$ HK
  ihave HV := hV $$ HV
  icases HQ with ⟨⟨Q0, Q1⟩, WQ⟩
  icases HK with ⟨⟨K0, K1⟩, WK⟩
  icases HV with ⟨⟨V0, V1⟩, WV⟩
  iexists (fun | 0 => Y0 | 1 => Y1 : Fin 2 → Blocks F)
  iexists ZM
  iexists ZO
  isplitl [Q0 K0 V0 S0 C0 Q1 K1 V1 S1 C1 HM SM C3 HO SO C4]
  · isplitl [Q0 K0 V0 S0 C0]
    · iapply (b0 Y0).2
      isplitl [Q0 K0 V0]
      · unfold inQKV blocks
        isplitl [Q0]; · iexact Q0
        isplitl [K0]; · iexact K0
        iexact V0
      isplitl [S0] <;> iassumption
    isplitl [Q1 K1 V1 S1 C1]
    · iapply (b1 Y1).2
      isplitl [Q1 K1 V1]
      · unfold inQKV blocks
        isplitl [Q1]; · iexact Q1
        isplitl [K1]; · iexact K1
        iexact V1
      isplitl [S1] <;> iassumption
    isplitl [HM SM C3]
    · unfold maskAt
      isplitl [HM]; · iapply eM.2; iexact HM
      isplitl [SM]; · iexact SM
      iexact C3
    isplitl [HO C4]
    · unfold outAt4
      isplitl [HO]; · iapply (eO O).2; iexact HO
      iexact C4
    iexact SO
  iintro %O' ⟨H0, H1, HM, HO, SO⟩
  ihave H0 := (b0 _).1 $$ H0
  ihave H1 := (b1 _).1 $$ H1
  unfold maskAt outAt4
  icases H0 with ⟨I0, S0, C0⟩
  icases H1 with ⟨I1, S1, C1⟩
  unfold inQKV blocks
  icases I0 with ⟨Q0, K0, V0⟩
  icases I1 with ⟨Q1, K1, V1⟩
  icases HM with ⟨HM, SM, C3⟩
  icases HO with ⟨HO, C4⟩
  isplitl [WQ Q0 Q1 WK K0 K1 WV V0 V1 HM HO]
  · isplitl [WQ Q0 Q1]
    · iapply WQ
      isplitl [Q0]; · iexact Q0
      iexact Q1
    isplitl [WK K0 K1]
    · iapply WK
      isplitl [K0]; · iexact K0
      iexact K1
    isplitl [WV V0 V1]
    · iapply WV
      isplitl [V0]; · iexact V0
      iexact V1
    isplitl [HM]; · iapply eM.1; iexact HM
    iapply (eO O').1; iexact HO
  isplitl [S0 S1 SM SO]
  · isplitl [S0]; · iexists _; iexact S0
    isplitl [S1]; · iexists _; iexact S1
    isplitl [SM]; · iexists _; iexact SM
    iexists _; iexact SO
  isplitl [C0]; · iexact C0
  isplitl [C1]; · iexact C1
  isplitl [C3]; · iexact C3
  iexact C4

end Call

end Cert.FlashProof
-- ==== Proof.Arm.lean ====
/-
The tokens that a device starts with, and the opening and closing of its cells around the call.
-/
module

public import proofs.«01_k».proof.Proof.Enter

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

/-! ## Lists of copies -/

theorem bigSepL_upd {I : Type} {P : sProp 𝕄} [BI.Persistent P] (l : List I) {Φ Ψ : I → sProp 𝕄}
    (h : ∀ i, iprop(P ∗ Φ i) ⊢ iprop(|={Set.univ}=> Ψ i)) : iprop(P ∗ bigSepL l Φ) ⊢ iprop(|={Set.univ}=> bigSepL l Ψ) := by
  induction l with
  | nil =>
    rw [show bigSepL ([] : List I) Φ = bigSepL [] Ψ from rfl]
    iintro ⟨-, H⟩
    imodintro
    iexact H
  | cons i l ih =>
    rw [bigSepL_cons', bigSepL_cons']
    iintro ⟨#HP, Hi, Hl⟩
    imod (h i) $$ [Hi] with Hi
    · isplitr; · iexact HP
      iexact Hi
    imod ih $$ [Hl] with Hl
    · isplitr; · iexact HP
      iexact Hl
    imodintro
    isplitl [Hi] <;> iassumption

/-- All peers, in the order in which they are served. -/
abbrev pl : List Peer := zl ++ gl

theorem pl_sum (Φ : Peer → sProp 𝕄) : bigSepL pl Φ = bigSep Finset.univ Φ := (bigSep_univ_eq_bigSepL pl univ_peer nodup_peer Φ).symm

/-- The pairing of a copy with the one that answers it. -/
def prevEquiv : Peer ≃ Peer := ⟨prev, prev, prev_prev, prev_prev⟩

theorem pl_prev (Φ : Peer → sProp 𝕄) : bigSepL pl Φ = bigSepL pl fun n => Φ (prev n) := by
  rw [pl_sum, pl_sum]
  exact bigSep_univ_equiv prevEquiv Φ

section Arm
variable (X : Cont F) (K : GSem nD τ sig → ℕ) (c : Dev nD)

/-- What every device knows: the cells' invariants, and the barriers' first round. -/
def records : sProp 𝕄 :=
  iprop((bigSep Finset.univ fun p : Dev nD × CK => inv X K (cell p.1 p.2)) ∗ bigSep Finset.univ fun d : Dev nD => reached ER (cell d bar) 0)

instance records_persistent : BI.Persistent (records X K) := by unfold records; infer_instance

theorem records_inv (d : Dev nD) (k : CK) : records X K ⊢ inv X K (cell d k) := by
  unfold records
  iintro ⟨H, -⟩
  iapply (show (bigSep Finset.univ fun p : Dev nD × CK => inv X K (cell p.1 p.2)) ⊢ inv X K (cell d k) from
    bigSep_elim (Φ := fun p : Dev nD × CK => inv X K (cell p.1 p.2)) (Finset.mem_univ (d, k)))
  iexact H

theorem records_bar (d : Dev nD) : records X K ⊢ reached ER (cell d bar) 0 := by
  unfold records
  iintro ⟨-, H⟩
  iapply (show (bigSep Finset.univ fun d : Dev nD => (reached ER (cell d bar) 0 : sProp 𝕄)) ⊢ reached ER (cell d bar) 0 from
    bigSep_elim (Φ := fun d : Dev nD => (reached ER (cell d bar) 0 : sProp 𝕄)) (Finset.mem_univ d))
  iexact H

/-- The tokens of row `r`'s copies of number `k`, out and in. -/
def tok (r : Fin 2) (k : Peer) : sProp 𝕄 :=
  iprop((openTok ER (cell c (snd r k)) ∗ openTok ER (cell c (rcv r k)))
    ∗ (dutyTok ER (cell c (snd r k)) 0 (.inl 0) ∗ dutyTok ER (cell (pe c k) (rcv r k)) 0 (.inl 0)) ∗ cred (tallyAt (cell c (rcv r k)) () (NN k)))

/-- The token of the signal to peer `n`. -/
def sigTok (n : Peer) : sProp 𝕄 := dutyTok ER (cell (pe c n) bar) 0 (prev n)

/-- What a device starts with. -/
def start : sProp 𝕄 :=
  iprop(bigSepL pl (sigTok (F := F) c) ∗ (bigSepL pl (tok (F := F) c 0) ∗ bigSepL pl (tok (F := F) c 1))
    ∗ cred (tallyAt (cell c bar) () 10) ∗ atPos ER (cell c bar) 0 ∅ 0)

/-- The counters of a copy's two cells, at rest. -/
def sems (r : Fin 2) (k : Peer) : sProp 𝕄 := iprop(semVal (cell c (snd r k)) 0 ∗ semVal (cell c (rcv r k)) 0)

/-- A copy's cells opened. -/
def armed (r : Fin 2) (k : Peer) : sProp 𝕄 :=
  iprop((sendTok X K c r k ∗ waitTok X K c r k) ∗ reached ER (cell c (rcv r k)) 0)

theorem arm_one (r : Fin 2) (k : Peer) : iprop(records X K ∗ tok (F := F) c r k ∗ sems (F := F) c r k) ⊢ iprop(|={Set.univ}=> armed X K c r k) := by
  unfold tok sems armed sendTok waitTok
  iintro ⟨#HI, ⟨⟨o1, o2⟩, ⟨d1, d2⟩, hc⟩, ⟨v1, v2⟩⟩
  ihave #I1 := (records_inv X K c (snd r k)) $$ HI
  ihave #I2 := (records_inv X K c (rcv r k)) $$ HI
  ihave #I3 := (records_inv X K (pe c k) (rcv r k)) $$ HI
  imod (cell_open ER (Sch X) (Set.mem_univ (K (cell c (snd r k))))) $$ [o1 v1] with ⟨a1, #r1⟩
  · isplitr; · iexact I1
    isplitl [o1] <;> iassumption
  imod (cell_open ER (Sch X) (Set.mem_univ (K (cell c (rcv r k))))) $$ [o2 v2] with ⟨a2, #r2⟩
  · isplitr; · iexact I2
    isplitl [o2] <;> iassumption
  imodintro
  isplitl [d1 d2 hc a1 a2]
  · isplitl [d1 d2]
    · isplitr
      · isplitr; · iexact I1
        isplitr; · iexact I3
        iexact r1
      isplitl [d1] <;> iassumption
    isplitr
    · isplitr; · iexact I1
      iexact I2
    isplitl [hc]; · iexact hc
    isplitl [a1] <;> iassumption
  iexact r2

theorem disarm_one (r : Fin 2) (k : Peer) : iprop(records X K ∗ doneAt (F := F) c r k) ⊢ iprop(|={Set.univ}=> sems (F := F) c r k) := by
  unfold doneAt sems
  iintro ⟨#HI, a1, a2⟩
  ihave #I1 := (records_inv X K c (snd r k)) $$ HI
  ihave #I2 := (records_inv X K c (rcv r k)) $$ HI
  imod (cell_close ER (Sch X) (Set.mem_univ (K (cell c (snd r k)))) (fun h => h) (R := 1) (fun n hn => duties_later X _ n hn)) $$ [a1] with v1
  · isplitr; · iexact I1
    iexact a1
  imod (cell_close ER (Sch X) (Set.mem_univ (K (cell c (rcv r k)))) (fun h => h) (R := 1) (fun n hn => duties_later X _ n hn)) $$ [a2] with v2
  · isplitr; · iexact I2
    iexact a2
  imodintro
  isplitl [v1] <;> iassumption

/-- The copies' cells opened. -/
theorem arm_row (r : Fin 2) : iprop(records X K ∗ bigSepL pl (tok (F := F) c r) ∗ bigSepL pl (sems (F := F) c r))
    ⊢ iprop(|={Set.univ}=> ((bigSepL pl (sendTok X K c r) ∗ bigSepL pl (waitTok X K c r)) ∗ bigSepL pl fun k => reached ER (cell c (rcv r k)) 0)) := by
  iintro ⟨#HI, Ht, Hs⟩
  ihave H := (bigSepL_zip pl (tok (F := F) c r) (sems (F := F) c r)) $$ [Ht Hs]
  · isplitl [Ht] <;> iassumption
  imod (bigSepL_upd pl (fun k => arm_one X K c r k)) $$ [H] with H
  · isplitr; · iexact HI
    iexact H
  imodintro
  unfold armed
  ihave H := (bigSepL_unzip pl (fun k => iprop(sendTok X K c r k ∗ waitTok X K c r k)) (fun k => reached ER (cell c (rcv r k)) 0)) $$ H
  icases H with ⟨H, HR⟩
  isplitl [H]
  · iapply (bigSepL_unzip pl (sendTok X K c r) (waitTok X K c r)); iexact H
  iexact HR

/-- The signals' parts, from the tokens and the places. -/
theorem sig_ready : iprop(records X K ∗ bigSepL pl (sigTok (F := F) c)
      ∗ (bigSepL pl (place (F := F) c 0) ∗ bigSepL pl (place (F := F) c 1))
      ∗ ((bigSepL pl fun k => reached ER (cell c (rcv 0 k)) 0) ∗ bigSepL pl fun k => reached ER (cell c (rcv 1 k)) 0))
    ⊢ iprop(|={Set.univ}=> bigSepL pl (sigRes X K c)) := by
  rw [pl_prev (place (F := F) c 0), pl_prev (place (F := F) c 1), pl_prev (fun k => reached ER (cell c (rcv 0 k)) 0), pl_prev (fun k => reached ER (cell c (rcv 1 k)) 0)]
  iintro ⟨#HI, Ht, ⟨P0, P1⟩, ⟨R0, R1⟩⟩
  ihave H0 := (bigSepL_zip pl _ _) $$ [P0 R0]
  · isplitl [P0] <;> iassumption
  ihave H1 := (bigSepL_zip pl _ _) $$ [P1 R1]
  · isplitl [P1] <;> iassumption
  ihave H := (bigSepL_zip pl _ _) $$ [H0 H1]
  · isplitl [H0] <;> iassumption
  ihave H := (bigSepL_zip pl _ _) $$ [Ht H]
  · isplitl [Ht] <;> iassumption
  iapply (bigSepL_upd (P := records X K) pl fun n => ?_)
  rotate_left 1
  · isplitr; · iexact HI
    iexact H
  unfold sigTok sigRes barPay
  rw [pe_prev_pe, ← place_slot', ← place_slot']
  iintro ⟨#HI, Ht, ⟨P0, R0⟩, ⟨P1, R1⟩⟩
  imodintro
  isplitr; · iapply (records_inv X K (pe c n) bar); iexact HI
  isplitr; · iapply (records_bar X K (pe c n)); iexact HI
  isplitl [Ht]; · iexact Ht
  isplitl [P0 R0]
  · isplitl [P0] <;> iassumption
  isplitl [P1] <;> iassumption

/-- What the loop takes for the exchange, from what the device starts with. -/
theorem arm : iprop(records X K ∗ levAts L lv ∗ start (F := F) c ∗ (bigSepL pl (sems (F := F) c 0) ∗ bigSepL pl (sems (F := F) c 1))
      ∗ keeps (F := F) c ∗ bigSepL pl (place (F := F) c 0) ∗ bigSepL pl (place (F := F) c 1))
    ⊢ iprop(|={Set.univ}=> ∃ Y0 Y1 N Z, before X K c Y0 Y1 N Z) := by
  have hs : ∀ Φ : Peer → sProp 𝕄, bigSepL pl Φ ⊢ iprop(bigSepL zl Φ ∗ bigSepL gl Φ) := fun Φ => by rw [bigSepL_append]
  unfold start keeps before later
  iintro ⟨#HI, #Hla, ⟨Hsig, ⟨T0, T1⟩, ⟨Hb, Ha⟩⟩, ⟨S0, S1⟩, ⟨%R, %N, %Z, ⟨R0, R1⟩, HN, HZ⟩, P0, P1⟩
  imod (arm_row X K c 0) $$ [T0 S0] with ⟨⟨D0, W0⟩, Q0⟩
  · isplitr; · iexact HI
    isplitl [T0] <;> iassumption
  imod (arm_row X K c 1) $$ [T1 S1] with ⟨⟨D1, W1⟩, Q1⟩
  · isplitr; · iexact HI
    isplitl [T1] <;> iassumption
  imod (sig_ready X K c) $$ [Hsig P0 P1 Q0 Q1] with Hs
  · isplitr; · iexact HI
    isplitl [Hsig]; · iexact Hsig
    isplitl [P0 P1]
    · isplitl [P0] <;> iassumption
    isplitl [Q0] <;> iassumption
  imodintro
  iexists (R 0), (R 1), N, Z
  ihave D0 := (hs (sendTok X K c 0)) $$ D0
  ihave D1 := (hs (sendTok X K c 1)) $$ D1
  ihave W0 := (hs (waitTok X K c 0)) $$ W0
  ihave W1 := (hs (waitTok X K c 1)) $$ W1
  icases D0 with ⟨Dz0, Dg0⟩
  icases D1 with ⟨Dz1, Dg1⟩
  icases W0 with ⟨Wz0, Wg0⟩
  icases W1 with ⟨Wz1, Wg1⟩
  isplitr; · iexact Hla
  isplitl [Hs]; · iexact Hs
  isplitl [Hb Ha]
  · isplitr; · iapply (records_inv X K c bar); iexact HI
    isplitl [Hb] <;> iassumption
  isplitl [Dz0]; · iexact Dz0
  isplitl [R0]; · iexact R0
  isplitl [Dz1 Dg0 Dg1]
  · isplitl [Dz1]; · iexact Dz1
    isplitl [Dg0] <;> iassumption
  isplitl [Wz0 Wz1 Wg0 Wg1]
  · isplitl [Wz0]; · iexact Wz0
    isplitl [Wz1]; · iexact Wz1
    isplitl [Wg0] <;> iassumption
  isplitl [R1]; · iexact R1
  isplitl [HN] <;> iassumption

/-- The cells closed after the exchange. -/
theorem disarm : iprop(records X K ∗ allDone (F := F) c)
    ⊢ iprop(|={Set.univ}=> (semVal (cell c bar) 0 ∗ bigSepL pl (sems (F := F) c 0) ∗ bigSepL pl (sems (F := F) c 1))) := by
  have hrow : ∀ r : Fin 2, iprop(records X K ∗ (bigSepL zl (doneAt (F := F) c r) ∗ bigSepL gl (doneAt (F := F) c r))) ⊢ iprop(|={Set.univ}=> bigSepL pl (sems (F := F) c r)) := fun r => by
    rw [← bigSepL_append]
    exact bigSepL_upd pl fun k => disarm_one X K c r k
  unfold allDone
  iintro ⟨#HI, Ha, H0, H1⟩
  imod (hrow 0) $$ [H0] with H0
  · isplitr; · iexact HI
    iexact H0
  imod (hrow 1) $$ [H1] with H1
  · isplitr; · iexact HI
    iexact H1
  ihave #Ib := (records_inv X K c bar) $$ HI
  imod (cell_close ER (Sch X) (Set.mem_univ (K (cell c bar))) (fun h => h) (R := 1) (fun n hn => duties_later X _ n hn)) $$ [Ha] with v
  · isplitr; · iexact Ib
    iexact Ha
  imodintro
  isplitl [v]; · iexact v
  isplitl [H0] <;> iassumption

end Arm

end Cert.FlashProof
-- ==== Proof.Call.lean ====
/-
The call on a device, from its arrays and its part of the exchange to its result.
-/
module

public import proofs.«01_k».proof.Proof.Arm
public import proofs.«01_k».proof.Proof.Enter

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

section Call

variable (c : Dev nD)

/-- The kinds of a copy's cells, as one index. -/
abbrev CI := Bool × Fin 2 × Peer

theorem own_cells : Pipeline.OwnSemFacts spec0 (fun k : CI => sm (some k)) where
  isScoped := by decide
  inj := fun a b h => Option.some.inj (sm_inj h)
  disj := fun k w s h => by
    have h1 : ∀ k : CI, 8 ≤ locN (sm (some k)) := by decide
    have h2 : ∀ (w : Fin 5) (s : Fin (spec0 w).nbuf), locN (.dma ((spec0 w).sem s)) < 8 := by decide
    have := h1 k; have := h2 w s; rw [← h] at this; omega

theorem two (Φ : Fin 2 → sProp 𝕄) : bigSep Finset.univ Φ = iprop(Φ 0 ∗ Φ 1) := bigSep_fin_two Φ
theorem one (Φ : Fin 1 → sProp 𝕄) : bigSep Finset.univ Φ = Φ 0 := by
  rw [bigSep_univ_eq_bigSepL [0] (by decide) (by decide)]
  rfl

/-- The counters of a kernel's copies, by rows and peers. -/
theorem own_sems : (Pipeline.ownSems0 (fun k : CI => sm (some k)) c : sProp 𝕄) ⊣⊢ iprop(bigSepL pl (sems (F := F) c 0) ∗ bigSepL pl (sems (F := F) c 1)) := by
  have hb : ∀ Φ : Bool → sProp 𝕄, bigSep Finset.univ Φ = iprop(Φ false ∗ Φ true) := fun Φ => by
    rw [bigSep_univ_eq_bigSepL [false, true] (by decide) (by decide)]; rfl
  have hs : ∀ r : Fin 2, bigSepL pl (sems (F := F) c r) = iprop(bigSep Finset.univ (fun k : Peer => (semVal (cell c (snd r k)) 0 : sProp 𝕄)) ∗ bigSep Finset.univ fun k : Peer => semVal (cell c (rcv r k)) 0) := fun r => by
    rw [pl_sum, ← bigSep_sep']; rfl
  have h : (Pipeline.ownSems0 (fun k : CI => sm (some k)) c : sProp 𝕄)
      = iprop((bigSep Finset.univ (fun k : Peer => (semVal (cell c (snd 0 k)) 0 : sProp 𝕄)) ∗ bigSep Finset.univ (fun k : Peer => (semVal (cell c (snd 1 k)) 0 : sProp 𝕄)))
        ∗ (bigSep Finset.univ (fun k : Peer => (semVal (cell c (rcv 0 k)) 0 : sProp 𝕄)) ∗ bigSep Finset.univ (fun k : Peer => (semVal (cell c (rcv 1 k)) 0 : sProp 𝕄)))) := by
    unfold Pipeline.ownSems0
    rw [bigSep_univ_prod, hb, bigSep_univ_prod, bigSep_univ_prod, two, two]
  rw [h, hs, hs]
  constructor
  · iintro ⟨⟨a, b⟩, d, e⟩
    isplitl [a d]
    · isplitl [a] <;> iassumption
    isplitl [b] <;> iassumption
  · iintro ⟨⟨a, d⟩, b, e⟩
    isplitl [a b]
    · isplitl [a] <;> iassumption
    isplitl [d] <;> iassumption

/-- The counters that nobody uses. -/
def idle : sProp 𝕄 :=
  Pipeline.idleSems0 (Pipeline.pin (pcfgs (F := F)) fun | 0 => adm c) (cellOf_inj _) 0 own_cells c

/-- The counters of the call, dealt. -/
theorem sems_split : (scopedSems0 (c : Thread nD τ) : sProp 𝕄)
    ⊣⊢ iprop((cells8 (F := F) c ∗ (bigSepL pl (sems (F := F) c 0) ∗ bigSepL pl (sems (F := F) c 1))) ∗ idle (F := F) c) := by
  have h := Pipeline.scopedSems0_split (Ix := Unit) (Val := Elt F) (Name := ℕ) (U := UU) (Lvl := ℕ) (Pipeline.pin (pcfgs (F := F)) fun | 0 => adm c) (cellOf_inj _) 0 winFacts0.to₀ own_cells c
  have hc : (Pipeline.cellsSems0 (Pipeline.pin (pcfgs (F := F)) fun | 0 => adm c) 0 c : sProp 𝕄)
      = iprop((rest0 (F := F) c 0 (0 : Fin 2) ∗ rest0 (F := F) c 0 (1 : Fin 2)) ∗ (rest0 (F := F) c 1 (0 : Fin 2) ∗ rest0 (F := F) c 1 (1 : Fin 2)) ∗ (rest0 (F := F) c 2 (0 : Fin 2) ∗ rest0 (F := F) c 2 (1 : Fin 2))
        ∗ rest0 (F := F) c 3 (0 : Fin 1) ∗ rest0 (F := F) c 4 (0 : Fin 1)) := by
    refine (bigSep_W0 _).trans ?_
    exact congr (congrArg _ (two _)) (congr (congrArg _ (two _)) (congr (congrArg _ (two _)) (congr (congrArg _ (one _)) (one _))))
  rw [h, hc]
  have ho := own_sems (F := F) c
  unfold cells8 cellsQKV idle
  constructor
  · iintro ⟨⟨⟨⟨a0, a1⟩, ⟨b0, b1⟩, ⟨d0, d1⟩, e, f⟩, O⟩, I⟩
    isplitr [I]
    · isplitr [O]
      · isplitl [a0 b0 d0]
        · isplitl [a0]; · iexact a0
          isplitl [b0] <;> iassumption
        isplitl [a1 b1 d1]
        · isplitl [a1]; · iexact a1
          isplitl [b1] <;> iassumption
        isplitl [e] <;> iassumption
      iapply ho.1; iexact O
    iexact I
  · iintro ⟨⟨⟨⟨a0, b0, d0⟩, ⟨a1, b1, d1⟩, e, f⟩, O⟩, I⟩
    isplitr [I]
    · isplitr [O]
      · isplitl [a0 a1]
        · isplitl [a0] <;> iassumption
        isplitl [b0 b1]
        · isplitl [b0] <;> iassumption
        isplitl [d0 d1]
        · isplitl [d0] <;> iassumption
        isplitl [e] <;> iassumption
      iapply ho.2; iexact O
    iexact I

/-- The buffers of the call, dealt. -/
theorem bufs_split : (scopedBufs (c : Thread nD τ) : sProp 𝕄) ⊣⊢ iprop(staged (F := F) c ∗ scratch (F := F) c) := by
  have h := Pipeline.scopedBufs_split (nD := nD) (τ := τ) (Ix := Unit) (Val := Elt F) (Name := ℕ) (U := UU) (Lvl := ℕ) (Pipeline.pin (pcfgs (F := F)) fun | 0 => adm c) 0 winFacts0.to₀.stage_scoped winFacts0.to₀.stage_inj stage_whole0 c
  have hr : (Pipeline.scopedRest spec0 c : sProp 𝕄) = scratch (F := F) c := scopedRest0_eq c
  have hc : (Pipeline.Dat.staging (Pipeline.pin (pcfgs (F := F)) (fun | 0 => adm c) 0) c : sProp 𝕄)
      = iprop(((∃ Y, owns (c : Thread nD τ) (sQ 0) fullShare Y) ∗ (∃ Y, owns (c : Thread nD τ) (sQ 1) fullShare Y))
        ∗ ((∃ Y, owns (c : Thread nD τ) (sK 0) fullShare Y) ∗ (∃ Y, owns (c : Thread nD τ) (sK 1) fullShare Y))
        ∗ ((∃ Y, owns (c : Thread nD τ) (sV 0) fullShare Y) ∗ (∃ Y, owns (c : Thread nD τ) (sV 1) fullShare Y))
        ∗ (∃ Y, owns (c : Thread nD τ) mM fullShare Y) ∗ (∃ Y, owns (c : Thread nD τ) outM fullShare Y)) := by
    refine (bigSep_W0 _).trans ?_
    exact congr (congrArg _ (two _)) (congr (congrArg _ (two _)) (congr (congrArg _ (two _)) (congr (congrArg _ (one _)) (one _))))
  rw [h, hc, show (Pipeline.scopedRest ((Pipeline.pin (pcfgs (F := F)) (fun | 0 => adm c) 0)).spec c : sProp 𝕄) = scratch (F := F) c from hr]
  unfold staged stQKV
  constructor
  · iintro ⟨⟨⟨⟨%q0, a0⟩, %q1, a1⟩, ⟨⟨%k0, b0⟩, %k1, b1⟩, ⟨⟨%v0, d0⟩, %v1, d1⟩, ⟨%Z, e⟩, f⟩, S⟩
    isplitr [S]
    · isplitl [a0 b0 d0]
      · iexists ({ q := q0, kt := k0, vt := v0, m := Z } : Blocks F)
        isplitl [a0]; · iexact a0
        isplitl [b0] <;> iassumption
      isplitl [a1 b1 d1]
      · iexists ({ q := q1, kt := k1, vt := v1, m := Z } : Blocks F)
        isplitl [a1]; · iexact a1
        isplitl [b1] <;> iassumption
      isplitl [e]; · iexists Z; iexact e
      iexact f
    iexact S
  · iintro ⟨⟨⟨%Y0, a0, b0, d0⟩, ⟨%Y1, a1, b1, d1⟩, e, f⟩, S⟩
    isplitr [S]
    · isplitl [a0 a1]
      · isplitl [a0]; · iexists Y0.q; iexact a0
        iexists Y1.q; iexact a1
      isplitl [b0 b1]
      · isplitl [b0]; · iexists Y0.kt; iexact b0
        iexists Y1.kt; iexact b1
      isplitl [d0 d1]
      · isplitl [d0]; · iexists Y0.vt; iexact d0
        iexists Y1.vt; iexact d1
      isplitl [e] <;> iassumption
    iexact S

variable (X : Cont F) (K : GSem nD τ sig → ℕ)
variable (Q : S16x16x64.Idx → Elt F .f32) (KT VT : S16x16x64x1024.Idx → Elt F .f32) (M : S16x1024.Idx → Elt F .f32)

set_option maxRecDepth 20000 in
/-- The call on a device. -/
theorem wp_region (hred : ∀ i, X.red c i = (blocks c Q KT VT M i).row) (hm : ∀ r, X.nrm c r = fin4 X c r M) (O : S16x1024.Idx → Elt F .f32)
    {β : Type} {k : PUnit → PP (F := F) β} {Ψ : β → sProp 𝕄} :
    iprop(((boundary (c : Thread nD τ) ∗ arrays c Q KT VT M (outC c X) ∗ ((c : Thread nD τ).loc main_v24 ↦{fullShare} (fun _ => word c)) ∗ semVal (cell c bar) 0 ∗ Ow c [])
          -∗ WL c none (k ⟨⟩) Ψ)
        ∗ boundary (c : Thread nD τ) ∗ arrays c Q KT VT M O ∗ ((c : Thread nD τ).loc main_v24 ↦{fullShare} (fun _ => word c)) ∗ Ow c (owed0 c) ∗ levAts L lv ∗ records X K ∗ start (F := F) c)
      ⊢ WL c none (.op (.customCall (Pipeline.entry (0 : Fin 1)) ()) k) Ψ := by
  have hpf : ((c : Thread nD τ).loc main_v24 ↦{fullShare} (fun _ => word c) : sProp 𝕄) ⊣⊢ Pipeline.prefHeld pre0 c (fun _ => fullShare) (tab (F := F) c) := by
    unfold Pipeline.prefHeld
    rw [show (bigSep Finset.univ fun k : Fin 1 => ((c : Thread nD τ).loc (pre0.ref k) ↦{fullShare} tab (F := F) c k : sProp 𝕄)) = _ from one _]
    exact ⟨Entails.refl _, Entails.refl _⟩
  have hss : iprop((cells8 (F := F) c ∗ (bigSepL pl (sems (F := F) c 0) ∗ bigSepL pl (sems (F := F) c 1))) ∗ idle (F := F) c) ⊢ (scopedSems0 (c : Thread nD τ) : sProp 𝕄) := by
    have h := sems_split (F := F) c
    exact h.2
  have hbb : iprop(staged (F := F) c ∗ scratch (F := F) c) ⊢ (scopedBufs (c : Thread nD τ) : sProp 𝕄) := (bufs_split c).2
  unfold boundary
  iintro ⟨Hk, ⟨Hb, Hs, Hi⟩, Ha, Ht, HO, #Hla, #HI, Hst⟩
  iapply (wp_customCall (Variants.lift 𝒱₀) (c : Thread nD τ) none Set.univ (ℓ := Pipeline.entry (0 : Fin 1)) (a := ()) (k := k) (Q := Ψ) (Sum.inr (0 + 4)) (fun _ h => nomatch h)) $$ Hb
  iintro Hb
  rw [Pipeline.defs_tc_entry]
  unfold Pipeline.prun
  ihave Ht := hpf.1 $$ Ht
  iapply (Pipeline.Prefetch.wp_readAll (Variants.lift 𝒱₀) _ Set.univ pre0 c (fun _ => fullShare) (tab (F := F) c) _) $$ Ht
  iintro Ht
  iapply (wp_assume (Variants.lift 𝒱₀) _ _ Set.univ (ok_tab c))
  ihave Hs := (sems_split c).1 $$ Hs
  ihave Hb := (bufs_split c).1 $$ Hb
  icases Hs with ⟨⟨H8, Hsm⟩, Hidle⟩
  icases Hb with ⟨Hg, Hsc⟩
  ihave He := (enter c Q KT VT M O) $$ [Ha Hg H8]
  · isplitl [Ha]; · iexact Ha
    isplitl [Hg] <;> iassumption
  icases He with ⟨%Y, %ZM, %ZO, ⟨B0, B1, Hm, H4, Ho⟩, Hback⟩
  ihave Hd := (scratch_deal c ZO) $$ [Hsc Ho]
  · isplitl [Hsc] <;> iassumption
  icases Hd with ⟨Hkeep, P0, P1⟩
  iapply (fupd_wp frame (wpE (Pipeline.defs (pcfgs (F := F)) defs₀) (Variants.lift 𝒱₀) (c : Thread nD τ) _) Set.univ _ _)
  imod (arm X K c) $$ [Hst Hsm Hkeep P0 P1] with ⟨%Y0, %Y1, %N, %Z, Hbef⟩
  · isplitr; · iexact HI
    isplitr; · iexact Hla
    isplitl [Hst]; · iexact Hst
    isplitl [Hsm]; · iexact Hsm
    isplitl [Hkeep]; · iexact Hkeep
    isplitl [P0] <;> iassumption
  imodintro
  ihave Ht := hpf.2 $$ Ht
  iapply (wp_fupd frame (wpE (Pipeline.defs (pcfgs (F := F)) defs₀) (Variants.lift 𝒱₀) (c : Thread nD τ) _) Set.univ _ _)
  iapply (wp_loop c _ shs fullShare Y (blocks c Q KT VT M) fullShare (fun _ => word c) _ _ _ 0 rfl (outC c X) O ZM rfl
    (body_first X K c (blocks c Q KT VT M) fullShare (fun _ => word c) (fun _ => rfl) hred Y0 Y1 N Z)
    (body_second X K c (blocks c Q KT VT M) fullShare (fun _ => word c) (fun _ => rfl) hred hm Y1 N Z)) $$ [B0 B1 Hm H4 Ht HO Hbef]
  · isplitl [B0]; · iexact B0
    isplitl [B1]; · iexact B1
    isplitl [Hm]; · iexact Hm
    isplitl [H4]; · iexact H4
    isplitl [Ht]; · iexact Ht
    isplitl [HO]; · iexact HO
    isplitr; · iexact Hla
    iexact Hbef
  iintro ⟨B0, B1, Hm, H4, Ho, Ht, HO, Hdone, Hsc⟩
  imod (disarm X K c) $$ [Hdone] with ⟨Hbar, Hsm⟩
  · isplitr; · iexact HI
    iexact Hdone
  ihave Hback := Hback $$ %(outC c X) [B0 B1 Hm H4 Ho]
  · isplitl [B0]; · iexact B0
    isplitl [B1]; · iexact B1
    isplitl [Hm]; · iexact Hm
    isplitl [H4] <;> iassumption
  icases Hback with ⟨Ha, Hg, H8⟩
  rw [kernelExitSpec_apply]
  imodintro
  ihave Hs := hss $$ [H8 Hsm Hidle]
  · isplitl [H8 Hsm]
    · isplitl [H8]; · iexact H8
      iexact Hsm
    iexact Hidle
  ihave Hb := hbb $$ [Hg Hsc]
  · isplitl [Hg] <;> iassumption
  isplitl [Hs]; · iexact Hs
  iintro Hs
  isplitl [Hb]; · iexact Hb
  iintro Hb
  iapply Hk
  isplitl [Hb Hs Hi]
  · isplitl [Hb]; · iexact Hb
    isplitl [Hs]; · iexact Hs
    iexact Hi
  isplitl [Ha]; · iexact Ha
  isplitl [Ht]; · iexact Ht
  isplitl [Hbar] <;> iassumption

end Call

end Cert.FlashProof
-- ==== Proof.Segs.lean ====
/-
The call as a segment of the program, between the host operations.
-/
module

public import proofs.«01_k».proof.Proof.Call
public import proofs.«01_k».proof.Proof.Gen.KernelIdeal.Regions

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

section Main

variable (m : (ℓ : Loc nD τ sig) → Buf (Elt F) ℓ) (c : Dev nD)

/-- The host operations leave the first of the device's two batches in the table. -/
theorem table_eq : V3 m c main_v24 = fun _ => word c := by
  have h : V3 m c main_v24 = broadcastInDim S1 ![] bcast_S_S1 (muli (addi (muli (Host.remui (Host.divui (constantI S_ 32 (Dev.word c)) (constantI S_ 32 16#32)) (constantI S_ 32 2#32)) (constantI S_ 32 4#32))
      (Host.remui (Host.divui (constantI S_ 32 (Dev.word c)) (constantI S_ 32 4#32)) (constantI S_ 32 4#32))) (constantI S_ 32 2#32) : (⟨S_, .i32⟩ : BufTy).Contents (Elt F)) := by
    simp only [V3, StableHlo.after_cons, StableHlo.after_nil, hostOps0_2]
    rfl
  rw [h]
  funext j
  simp only [broadcastInDim, muli, addi, Host.remui, Host.divui, constantI]
  clear h
  revert c
  decide

/-- The rows that every device computes of its part, by batch. -/
def redC (c : Dev nD) (i : Fin 2) : S1x1152.Idx → Elt F .f32 :=
  (blocks c (V3 m c main_v3) (V3 m c main_v1) (V3 m c main_v2) (V3 m c main_v12) i).row

/-- The rows of all the devices, and the finished rows. -/
def cont : Cont F where
  red := redC m
  nrm := fun c r => k0_pay4 (redC m c r) (redC m (qe c (.inl 0)) r) (redC m (qe c (.inl 1)) r) (redC m (qe c (.inl 2)) r) (V3 m c main_v12)

/-- What the call leaves in its result. -/
def outs : Outs (F := F) := fun _ r c => Function.update (V3 m c) main_v25 (outC c (cont m)) r

theorem outs_eq : outs m 4 main_v25 c = outC c (cont m) := Function.update_self ..

/-- The buffers that the call touches. -/
def six : Finset (DevRef τ sig) :=
  {Proc.devRef .tc main_v3, Proc.devRef .tc main_v1, Proc.devRef .tc main_v2, Proc.devRef .tc main_v12, Proc.devRef .tc main_v25, Proc.devRef .tc main_v24}

theorem six_sub : six ⊆ Pipeline.ucRefs τ sig := by decide

theorem six_eq (W : Valuation τ sig (Elt F)) : (StableHlo.held (c : Thread nD τ) six W : sProp 𝕄)
    ⊣⊢ iprop(arrays c (W main_v3) (W main_v1) (W main_v2) (W main_v12) (W main_v25) ∗ ((c : Thread nD τ).loc main_v24 ↦{fullShare} W main_v24)) := by
  have h : (StableHlo.held (c : Thread nD τ) six W : sProp 𝕄)
      = iprop(((c : Thread nD τ).loc main_v3 ↦{fullShare} W main_v3) ∗ ((c : Thread nD τ).loc main_v1 ↦{fullShare} W main_v1) ∗ ((c : Thread nD τ).loc main_v2 ↦{fullShare} W main_v2)
        ∗ ((c : Thread nD τ).loc main_v12 ↦{fullShare} W main_v12) ∗ ((c : Thread nD τ).loc main_v25 ↦{fullShare} W main_v25) ∗ ((c : Thread nD τ).loc main_v24 ↦{fullShare} W main_v24)) := by
    unfold StableHlo.held
    rw [bigSep_eq_bigSepL_of_eq [Proc.devRef .tc main_v3, Proc.devRef .tc main_v1, Proc.devRef .tc main_v2, Proc.devRef .tc main_v12, Proc.devRef .tc main_v25, Proc.devRef .tc main_v24] (by decide) (by decide)]
    rfl
  rw [h]
  unfold arrays
  rw [owns_whole, owns_whole, owns_whole, owns_whole, owns_whole]
  constructor
  · iintro ⟨a, b, d, e, f, g⟩
    isplitr [g]
    · isplitl [a]; · iexact a
      isplitl [b]; · iexact b
      isplitl [d]; · iexact d
      isplitl [e] <;> iassumption
    iexact g
  · iintro ⟨⟨a, b, d, e, f⟩, g⟩
    isplitl [a]; · iexact a
    isplitl [b]; · iexact b
    isplitl [d]; · iexact d
    isplitl [e]; · iexact e
    isplitl [f] <;> iassumption

/-- What a device holds beside its buffers, before the call and after it. -/
def side : Fin 2 → Dev nD → sProp 𝕄
  | 0 => fun c => iprop((∃ K, records (cont m) K) ∗ start (F := F) c ∗ Ow c (owed0 c))
  | 1 => fun c => iprop(semVal (cell c bar) 0 ∗ Ow c [])

/-- The call as a segment of the program. -/
def callSeg : Pipeline.HostSeg (Ix := Unit) (Name := ℕ) (U := UU) (Lvl := ℕ) (pcfgs (F := F)) defs₀ 𝒱₀ L lv where
  prog := Prog.lift (.customCall (Pipeline.entry (0 : Fin 1)) ())
  pre c := iprop(StableHlo.held (c : Thread nD τ) (Pipeline.ucRefs τ sig) (V3 m c) ∗ side m 0 c)
  post c := iprop(StableHlo.held (c : Thread nD τ) (Pipeline.ucRefs τ sig) (V4 m (outs m) c) ∗ side m 1 c)
  run c β k K := by
    have h3 := StableHlo.held_sub_split (Ix := Unit) (Name := ℕ) (U := UU) (Lvl := ℕ) (c : Thread nD τ) six_sub (V3 m c)
    have h4 := StableHlo.held_sub_split (Ix := Unit) (Name := ℕ) (U := UU) (Lvl := ℕ) (c : Thread nD τ) six_sub (V4 m (outs m) c)
    have hr : (StableHlo.held (c : Thread nD τ) (Pipeline.ucRefs τ sig \ six) (V4 m (outs m) c) : sProp 𝕄) = StableHlo.held (c : Thread nD τ) (Pipeline.ucRefs τ sig \ six) (V3 m c) := by
      refine StableHlo.held_congr _ fun b hb => Function.update_of_ne ?_ ..
      rintro rfl
      exact absurd hb (by decide)
    have e3 := (six_eq c (V3 m c)).1
    have e4 : iprop(arrays c (V3 m c main_v3) (V3 m c main_v1) (V3 m c main_v2) (V3 m c main_v12) (outC c (cont m)) ∗ ((c : Thread nD τ).loc main_v24 ↦{fullShare} (fun _ => word c)))
        ⊢ (StableHlo.held (c : Thread nD τ) six (V4 m (outs m) c) : sProp 𝕄) := by
      have h := (six_eq c (V4 m (outs m) c)).2
      rw [V4_of m (outs m) c main_v3 (by decide), V4_of m (outs m) c main_v1 (by decide), V4_of m (outs m) c main_v2 (by decide), V4_of m (outs m) c main_v12 (by decide),
        V4_of m (outs m) c main_v24 (by decide), table_eq, show V4 m (outs m) c main_v25 = outC c (cont m) from (Function.update_self ..).trans (outs_eq m c)] at h
      exact h
    rw [h3, h4, hr]
    unfold side
    iintro ⟨Hk, Hb, ⟨⟨H6, Hrest⟩, ⟨%K', #HI⟩, Hst, HO⟩, #Hla⟩
    ihave H6 := e3 $$ H6
    icases H6 with ⟨Ha, Ht⟩
    rw [table_eq]
    iapply (wp_region c (cont m) K' (V3 m c main_v3) (V3 m c main_v1) (V3 m c main_v2) (V3 m c main_v12) (fun _ => rfl) (fun _ => rfl) (V3 m c main_v25) (k := k) (Ψ := K))
    isplitl [Hk Hrest]
    · iintro ⟨Hb, Ha, Ht, Hv, HO⟩
      iapply Hk
      isplitl [Hb]; · iexact Hb
      isplitr [Hv HO]
      · isplitr [Hrest]
        · iapply e4
          isplitl [Ha] <;> iassumption
        iexact Hrest
      isplitl [Hv] <;> iassumption
    isplitl [Hb]; · iexact Hb
    isplitl [Ha]; · iexact Ha
    isplitl [Ht]; · iexact Ht
    isplitl [HO]; · iexact HO
    isplitr; · iexact Hla
    isplitr; · iexact HI
    iexact Hst

end Main

end Cert.FlashProof
-- ==== Proof.Start.lean ====
/-
The launch: the cells funded, and their tokens and credit dealt to the devices.
-/
module

public import proofs.«01_k».proof.Proof.Segs

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

/-! ## The cells and tokens of the launch -/

theorem cell_inj : Function.Injective fun p : Dev nD × CK => cell p.1 p.2 := by
  rintro ⟨c, k⟩ ⟨c', k'⟩ h
  have h1 : c = c' := congrArg (fun g : GSem nD τ sig => g.1.1) h
  have h2 : sm k = sm k' := congrArg Prod.snd h
  rw [h1, sm_inj h2]

/-- The barriers' cells: counting from the launch on. -/
def live : Finset (GSem nD τ sig) :=
  Finset.univ.map ⟨fun c : Dev nD => cell c bar, fun _ _ h => congrArg Prod.fst (cell_inj (a₁ := (_, bar)) (a₂ := (_, bar)) h)⟩

/-- The copies' cells: opened inside the call. -/
def dormant : Finset (GSem nD τ sig) :=
  Finset.univ.map ⟨fun p : Dev nD × CI => cell p.1 (some p.2), fun p p' h => by
    have h' := cell_inj (a₁ := (p.1, some p.2)) (a₂ := (p'.1, some p'.2)) h
    exact Prod.ext (congrArg (fun z : Dev nD × CK => z.1) h') (Option.some.inj (congrArg (fun z : Dev nD × CK => z.2) h'))⟩

/-- One token for each signal of a barrier, and one for each copy's cell. -/
def tk : Dev nD × (Peer ⊕ CI) → GSem nD τ sig × ℕ × Peer
  | (c, .inl n) => (cell c bar, 0, n)
  | (c, .inr x) => (cell c (some x), 0, .inl 0)

theorem tk_inj : Function.Injective tk := by
  rintro ⟨c, n | x⟩ ⟨c', n' | x'⟩ h
  all_goals have h1 := cell_inj (a₁ := (c, _)) (a₂ := (c', _)) (congrArg Prod.fst h)
  · obtain rfl : c = c' := congrArg Prod.fst h1
    obtain rfl : n = n' := congrArg (fun z : GSem nD τ sig × ℕ × Peer => z.2.2) h
    rfl
  · cases congrArg Prod.snd h1
  · cases congrArg Prod.snd h1
  · obtain rfl : c = c' := congrArg Prod.fst h1
    obtain rfl : x = x' := Option.some.inj (congrArg Prod.snd h1)
    rfl

def toks : Finset (GSem nD τ sig × ℕ × Peer) := Finset.univ.map ⟨tk, tk_inj⟩

theorem live_dormant : Disjoint live dormant := by
  rw [Finset.disjoint_left]
  intro g h h'
  unfold live at h
  unfold dormant at h'
  obtain ⟨c, -, rfl⟩ := Finset.mem_map.mp h
  obtain ⟨p, -, hp⟩ := Finset.mem_map.mp h'
  have h1 := cell_inj (a₁ := (p.1, some p.2)) (a₂ := (c, bar)) hp
  cases congrArg Prod.snd h1

theorem all_cells : live ∪ dormant = Finset.univ.map ⟨fun p : Dev nD × CK => cell p.1 p.2, cell_inj⟩ := by
  ext g
  unfold live dormant
  rw [Finset.mem_union, Finset.mem_map, Finset.mem_map, Finset.mem_map]
  constructor
  · rintro (⟨c, -, rfl⟩ | ⟨p, -, rfl⟩)
    · exact ⟨(c, bar), Finset.mem_univ _, rfl⟩
    · exact ⟨(p.1, some p.2), Finset.mem_univ _, rfl⟩
  · rintro ⟨⟨c, _ | x⟩, -, rfl⟩
    · exact .inl ⟨c, Finset.mem_univ _, rfl⟩
    · exact .inr ⟨(c, x), Finset.mem_univ _, rfl⟩

/-! ## The tokens carried to who uses them -/

/-- The signal that answers a signal. -/
def sigAround : Dev nD × Peer ≃ Dev nD × Peer where
  toFun p := (pe p.1 p.2, prev p.2)
  invFun p := (pe p.1 p.2, prev p.2)
  left_inv p := by
    show (pe (pe p.1 p.2) (prev p.2), prev (prev p.2)) = p
    rw [pe_prev_pe, prev_prev]
  right_inv p := by
    show (pe (pe p.1 p.2) (prev p.2), prev (prev p.2)) = p
    rw [pe_prev_pe, prev_prev]

/-- A cell that a copy of device `c` counts on: its own for what it sends, the peer's for what arrives there. -/
def cpAround : Dev nD × CI ≃ Dev nD × CI where
  toFun p := (if p.2.1 then pe p.1 p.2.2.2 else p.1, p.2)
  invFun p := (if p.2.1 then qe p.1 p.2.2.2 else p.1, p.2)
  left_inv := by
    rintro ⟨c, _ | _, r, k⟩
    · rfl
    · exact Prod.ext (qe_pe c k) rfl
  right_inv := by
    rintro ⟨c, _ | _, r, k⟩
    · rfl
    · exact Prod.ext (pe_qe c k) rfl

theorem sum_bool (Φ : Bool × Fin 2 × Peer → sProp 𝕄) :
    bigSep Finset.univ Φ = iprop((bigSep Finset.univ fun x : Fin 2 × Peer => Φ (false, x)) ∗ bigSep Finset.univ fun x : Fin 2 × Peer => Φ (true, x)) := by
  rw [bigSep_univ_prod, bigSep_univ_eq_bigSepL [false, true] (by decide) (by decide)]
  rfl

theorem sum_two (Φ : Fin 2 × Peer → sProp 𝕄) :
    bigSep Finset.univ Φ = iprop((bigSepL pl fun k => Φ (0, k)) ∗ bigSepL pl fun k => Φ (1, k)) := by
  rw [bigSep_univ_prod, bigSep_univ_eq_bigSepL [0, 1] (by decide) (by decide), pl_sum, pl_sum]
  rfl

/-- The tokens of the launch, as each device uses them. -/
theorem toks_around : (bigSep toks fun x => (dutyTok ER x.1 x.2.1 x.2.2 : sProp 𝕄))
    ⊢ bigSep Finset.univ fun c : Dev nD => iprop(bigSepL pl (sigTok (F := F) c)
      ∗ (bigSep Finset.univ fun x : Fin 2 × Peer => dutyTok ER (cell c (snd x.1 x.2)) 0 (.inl 0))
      ∗ bigSep Finset.univ fun x : Fin 2 × Peer => dutyTok ER (cell (pe c x.2) (rcv x.1 x.2)) 0 (.inl 0)) := by
  have h1 : (bigSep Finset.univ fun c : Dev nD => bigSep Finset.univ fun n : Peer => (dutyTok ER (cell c bar) 0 n : sProp 𝕄))
      = bigSep Finset.univ fun c : Dev nD => bigSepL pl (sigTok (F := F) c) := by
    rw [← bigSep_univ_prod (fun p : Dev nD × Peer => (dutyTok ER (cell p.1 bar) 0 p.2 : sProp 𝕄)), bigSep_univ_equiv sigAround, bigSep_univ_prod]
    exact bigSep_congr fun c _ => (pl_sum _).symm
  have h2 : (bigSep Finset.univ fun c : Dev nD => bigSep Finset.univ fun x : CI => (dutyTok ER (cell c (some x)) 0 (.inl 0) : sProp 𝕄))
      = bigSep Finset.univ fun c : Dev nD => iprop((bigSep Finset.univ fun x : Fin 2 × Peer => dutyTok ER (cell c (snd x.1 x.2)) 0 (.inl 0))
      ∗ bigSep Finset.univ fun x : Fin 2 × Peer => dutyTok ER (cell (pe c x.2) (rcv x.1 x.2)) 0 (.inl 0)) := by
    rw [← bigSep_univ_prod (fun p : Dev nD × CI => (dutyTok ER (cell p.1 (some p.2)) 0 (.inl 0) : sProp 𝕄)), bigSep_univ_equiv cpAround, bigSep_univ_prod]
    exact bigSep_congr fun c _ => sum_bool _
  unfold toks
  rw [bigSep_map, bigSep_sep', ← h1, ← h2, bigSep_univ_prod, ← bigSep_sep']
  refine bigSep_mono fun c _ => ?_
  rw [bigSep_univ_sum]
  exact BI.Entails.refl _

/-! ## The credit of the launch -/

theorem owedL_append (l l' : List (GSem nD τ sig × ℕ)) : owedL (l ++ l') = owedL l + owedL l' := by
  induction l with
  | nil => exact (zero_add _).symm
  | cons x l ih =>
    show owedL (l ++ l') + tallyAt x.1 () x.2 = owedL l + tallyAt x.1 () x.2 + owedL l'
    rw [ih, add_right_comm]

/-- What all the devices together owe a cell, of one list of copies or signals. -/
theorem owed_sum (l : List Peer) (κ : Peer → CK) (a : Peer → ℕ) (c : Dev nD) (k : CK) :
    ∑ d : Dev nD, owedL (l.map fun n => (cell (pe d n) (κ n), a n)) (cell c k) () = (l.map fun n => if κ n = k then a n else 0).sum := by
  induction l with
  | nil => exact Finset.sum_const_zero
  | cons n l ih =>
    rw [List.map_cons, List.sum_cons, ← ih, add_comm, Finset.sum_congr rfl (g := fun d => owedL (l.map fun n => (cell (pe d n) (κ n), a n)) (cell c k) ()
      + if d = qe c n then (if κ n = k then a n else 0) else 0) fun d _ => ?_, Finset.sum_add_distrib, Finset.sum_ite_eq' Finset.univ (qe c n), if_pos (Finset.mem_univ _)]
    show (owedL (l.map fun n => (cell (pe d n) (κ n), a n)) + tallyAt (cell (pe d n) (κ n)) () (a n)) (cell c k) () = _
    rw [Pi.add_apply, Finsupp.add_apply, tallyAt_apply]
    refine congrArg (HAdd.hAdd _) ?_
    by_cases h : d = qe c n
    · subst h
      rw [if_pos rfl, pe_qe]
      by_cases hk : κ n = k
      · rw [if_pos ⟨by rw [hk], rfl⟩, if_pos hk]
      · rw [if_neg fun h => hk (congrArg Prod.snd (cell_inj (a₁ := (c, k)) (a₂ := (c, κ n)) h.1)).symm, if_neg hk]
    · rw [if_neg h, if_neg fun h' => h ?_]
      have := congrArg Prod.fst (cell_inj (a₁ := (c, k)) (a₂ := (pe d n, κ n)) h'.1)
      rw [show c = pe d n from this, qe_pe]

/-- What all the devices together owe a cell at the launch. -/
theorem owed_all (c : Dev nD) (k : CK) :
    ∑ d : Dev nD, owedL (owed0 d) (cell c k) () = (pl.map fun n => if bar = k then 1 else 0).sum
      + ((zl.map fun n => if rcv 0 n = k then NN n else 0).sum + ((zl.map fun n => if rcv 1 n = k then NN n else 0).sum
      + ((gl.map fun n => if rcv 0 n = k then NN n else 0).sum + (gl.map fun n => if rcv 1 n = k then NN n else 0).sum))) := by
  rw [← owed_sum pl (fun _ => bar) (fun _ => 1) c, ← owed_sum zl (rcv 0) NN c, ← owed_sum zl (rcv 1) NN c, ← owed_sum gl (rcv 0) NN c, ← owed_sum gl (rcv 1) NN c,
    ← Finset.sum_add_distrib, ← Finset.sum_add_distrib, ← Finset.sum_add_distrib, ← Finset.sum_add_distrib]
  refine Finset.sum_congr rfl fun d _ => ?_
  unfold owed0 owed1
  rw [List.append_nil, owedL_append, owedL_append, owedL_append, owedL_append]
  rfl

theorem owed_bar (c : Dev nD) : ∑ d : Dev nD, owedL (owed0 d) (cell c bar) () = 10 := by
  rw [owed_all]
  simp [pl, zl, gl, bar, rcv]

theorem owed_rcv (c : Dev nD) (r : Fin 2) (k : Peer) : ∑ d : Dev nD, owedL (owed0 d) (cell c (rcv r k)) () = NN k := by
  rw [owed_all]
  generalize NN = N
  fin_cases r <;> rcases k with k | k <;> fin_cases k <;> simp [pl, zl, gl, bar, rcv]

theorem launch_cell (c : Dev nD) (k : CK) (n : ℕ) (h : ∑ d : Dev nD, owedL (owed0 d) (cell c k) () = n) :
    tallyOn (cell c k) (launchCredit (Pipeline.owing fun d => owedL (owed0 d)) 0 (cell c k)) = (tallyAt (cell c k) () n : CellTallies nD τ sig Unit) := by
  unfold tallyAt
  refine congrArg _ (Finsupp.ext fun u => ?_)
  cases u
  rw [Pipeline.launchCredit_owing, Finsupp.single_eq_same, h]

/-- A device's credit at the launch. -/
theorem creds (c : Dev nD) : (Pipeline.launchCred (fun d => owedL (owed0 d)) c : sProp 𝕄)
    ⊢ iprop(cred (tallyAt (cell c bar) () 10) ∗ bigSep Finset.univ fun x : Fin 2 × Peer => cred (tallyAt (cell c (rcv x.1 x.2)) () (NN x.2))) := by
  have hi : Function.Injective fun x : Fin 2 × Peer => sm (rcv x.1 x.2) := fun x y h => by
    have h' := sm_inj h
    exact congrArg Prod.snd (Option.some.inj h')
  unfold Pipeline.launchCred
  rw [bigSep_univ_at _ (sm bar), launch_cell c bar 10 (owed_bar c)]
  refine sep_mono_right ?_
  have hs : Finset.univ.map ⟨_, hi⟩ ⊆ Finset.univ.erase (sm bar) := fun s hs => by
    obtain ⟨x, -, rfl⟩ := Finset.mem_map.mp hs
    exact Finset.mem_erase.mpr ⟨fun h => (by cases sm_inj (a₁ := rcv x.1 x.2) (a₂ := bar) h), Finset.mem_univ _⟩
  refine BIBase.Entails.trans (bigSep_subset hs) ?_
  rw [bigSep_map]
  exact Entails.of_eq (bigSep_congr fun x _ => congrArg cred (launch_cell c (rcv x.1 x.2) _ (owed_rcv c x.1 x.2)))

/-! ## The start of every device -/

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem unscoped_bar (c : Dev nD) : (unscopedSems0 c : sProp 𝕄) = semVal (cell c bar) 0 := by
  unfold unscopedSems0
  rw [bigSep_eq_bigSepL_of_eq [sm bar] (by decide) (by decide)]
  rfl

/-- A device's part of the rounds' start, and its credit, are its start. -/
theorem start_intro (c : Dev nD) :
    iprop((bigSep Finset.univ fun x : CI => (openTok ER (cell c (some x)) : sProp 𝕄))
      ∗ (bigSepL pl (sigTok (F := F) c)
        ∗ (bigSep Finset.univ fun x : Fin 2 × Peer => dutyTok ER (cell c (snd x.1 x.2)) 0 (.inl 0))
        ∗ bigSep Finset.univ fun x : Fin 2 × Peer => dutyTok ER (cell (pe c x.2) (rcv x.1 x.2)) 0 (.inl 0))
      ∗ (cred (tallyAt (cell c bar) () 10) ∗ bigSep Finset.univ fun x : Fin 2 × Peer => cred (tallyAt (cell c (rcv x.1 x.2)) () (NN x.2)))
      ∗ atPos ER (cell c bar) 0 ∅ 0) ⊢ start (F := F) c := by
  unfold start
  have ht : iprop((bigSepL pl (tok (F := F) c 0)) ∗ bigSepL pl (tok (F := F) c 1)) = bigSep Finset.univ fun x : Fin 2 × Peer => tok (F := F) c x.1 x.2 :=
    (sum_two (fun x : Fin 2 × Peer => tok (F := F) c x.1 x.2)).symm
  rw [ht]
  unfold tok
  rw [sum_bool, bigSep_sep', bigSep_sep', bigSep_sep', bigSep_sep']
  iintro ⟨⟨o1, o2⟩, ⟨s, d1, d2⟩, ⟨cb, cr⟩, a⟩
  isplitl [s]; · iexact s
  isplitl [o1 o2 d1 d2 cr]
  · isplitl [o1 o2]
    · isplitl [o1] <;> iassumption
    isplitl [d1 d2]
    · isplitl [d1] <;> iassumption
    iexact cr
  isplitl [cb] <;> iassumption

theorem gather {A B C D E : Dev nD → sProp 𝕄} (h : ∀ c, iprop(A c ∗ B c ∗ C c ∗ D c) ⊢ E c) :
    iprop(bigSep Finset.univ A ∗ bigSep Finset.univ B ∗ bigSep Finset.univ C ∗ bigSep Finset.univ D) ⊢ bigSep Finset.univ E := by
  rw [← bigSep_sep', ← bigSep_sep', ← bigSep_sep']
  exact bigSep_mono fun c _ => h c

/-- The barriers' counters at zero and the rounds' launch element give every device its start and the records. -/
theorem launch_all (X : Cont F) :
    iprop((bigSep Finset.univ fun c : Dev nD => iprop(unscopedSems0 c ∗ Pipeline.launchCred (fun d => owedL (owed0 d)) c))
        ∗ BI.own (ER (launchOf live dormant toks)))
      ⊢ (|={Set.univ}=> (bigSep Finset.univ fun c : Dev nD => iprop((∃ K, records X K) ∗ start (F := F) c)) : sProp 𝕄) := by
  have hl (Φ : GSem nD τ sig → sProp 𝕄) : bigSep live Φ = bigSep Finset.univ fun c : Dev nD => Φ (cell c bar) := by
    unfold live; rw [bigSep_map]; rfl
  have hd (Φ : GSem nD τ sig → sProp 𝕄) : bigSep dormant Φ = bigSep Finset.univ fun c : Dev nD => bigSep Finset.univ fun x : CI => Φ (cell c (some x)) := by
    unfold dormant; rw [bigSep_map, bigSep_univ_prod]; rfl
  have ha (Φ : GSem nD τ sig → sProp 𝕄) : bigSep (live ∪ dormant) Φ = bigSep Finset.univ fun p : Dev nD × CK => Φ (cell p.1 p.2) := by
    rw [all_cells, bigSep_map]; rfl
  have hu : iprop((bigSep Finset.univ fun c : Dev nD => (unscopedSems0 c : sProp 𝕄)) ∗ BI.own (ER (launchOf live dormant toks)))
      ⊢ iprop(bigSep live (fun g => (semVal g 0 : sProp 𝕄)) ∗ BI.own (ER (launchOf live dormant toks))) := by
    rw [hl]
    exact sep_mono_left (bigSep_mono fun c _ => Entails.of_eq (unscoped_bar c))
  have hc : (bigSep Finset.univ fun c : Dev nD => (Pipeline.launchCred (fun d => owedL (owed0 d)) c : sProp 𝕄))
      ⊢ bigSep Finset.univ fun c : Dev nD => iprop(cred (tallyAt (cell c bar) () 10)
        ∗ bigSep Finset.univ fun x : Fin 2 × Peer => cred (tallyAt (cell c (rcv x.1 x.2)) () (NN x.2))) := bigSep_mono fun c _ => creds c
  rw [bigSep_sep']
  iintro ⟨⟨Hs, Hc⟩, Hu⟩
  ihave Hc := hc $$ Hc
  ihave Hu := hu $$ [Hs Hu]
  · isplitl [Hs] <;> iassumption
  imod (fund_launch ER (Sch X) live_dormant (fun _ _ h => h) toks) $$ Hu with ⟨%K, -, #HI, #HR, Ha, Ho, Ht⟩
  imodintro
  ihave #HI := (show (bigSep (live ∪ dormant) fun g => cellInv ER (Sch X) (K g) g) ⊢ bigSep Finset.univ fun p : Dev nD × CK => inv X K (cell p.1 p.2) from
    Entails.of_eq (ha fun g => cellInv ER (Sch X) (K g) g)) $$ HI
  ihave #HR := (Entails.of_eq (hl fun g => (reached ER g 0 : sProp 𝕄))) $$ HR
  ihave Ha := (Entails.of_eq (hl fun g => (atPos ER g 0 ∅ 0 : sProp 𝕄))) $$ Ha
  ihave Ho := (Entails.of_eq (hd fun g => (openTok ER g : sProp 𝕄))) $$ Ho
  ihave Ht := (toks_around (F := F)) $$ Ht
  iapply (with_records (R := iprop(∃ K, records X K)) (Φ := start (F := F)) fun c _ => BI.Entails.refl _)
  isplitr
  · iexists K
    unfold records
    isplitr; · iexact HI
    iexact HR
  iapply (gather (start_intro (F := F)))
  isplitl [Ho]; · iexact Ho
  isplitl [Ht]; · iexact Ht
  isplitl [Hc]; · iexact Hc
  iexact Ha

end Cert.FlashProof

end
-- ==== Proof.Run.lean ====
/-
The run of the whole program from its launch.
-/
module

public import proofs.«01_k».proof.Proof.Start

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

section Run

variable (m : (ℓ : Loc nD τ sig) → Buf (Elt F) ℓ) (ρ : Dev nD → PrngReg)

/-- One set of tables: the segments read none. -/
abbrev tabs : (p : Fin 1) → (pcfgs (F := F) p).Adm
  | 0 => adm 0

/-- The call's own proof is a segment already, so that nothing is read of these. -/
def pdats : (p : Fin 1) → (c : Dev nD) → Pipeline.Dat τ (Elt F) Unit ℕ UU ℕ (Pipeline.pin (pcfgs (F := F)) tabs p) c := fun p c =>
  { A := fun _ _ => Classical.arbitrary _
    after := fun _ _ _ => Classical.arbitrary _
    Φ := fun _ => iprop(emp)
    q := fun _ => fullShare
    owed := fun _ => 0 }

/-- The program's segments on device `c`. -/
abbrev items (c : Dev nD) : List (Pipeline.Seg (pcfgs (F := F)) tabs (pdats (F := F)) () defs₀ 𝒱₀ L lv) :=
  [.host (seg0 m 𝒱₀ L lv (side m)), .host (seg1 m 𝒱₀ L lv (side m)), .host (seg2 m 𝒱₀ L lv (side m) c), .host (callSeg m), .host (seg4 m (outs m) 𝒱₀ L lv (side m))]

/-- What the launch starts from. -/
def u₀ : UU :=
  (initOf (Pipeline.cells (Pipeline.pin (pcfgs (F := F)) tabs) (cellOf_inj tabs)) (Pipeline.launchToks (Pipeline.pin (pcfgs (F := F)) tabs) (cellOf_inj tabs)),
    (launchOf live dormant toks, 1))

/-- The rounds' launch element, kept by one device until the launch. -/
def G (c : Dev nD) : sProp 𝕄 := if c = 0 then BI.own (ER (launchOf live dormant toks)) else iprop(emp)

theorem G_intro : (BI.own (ER (launchOf live dormant toks)) : sProp 𝕄) ⊢ bigSep Finset.univ (G (F := F)) := by
  have h (c : Dev nD) (hc : c ∈ Finset.univ.erase (0 : Dev nD)) : G (F := F) c = BI.emp := if_neg (Finset.ne_of_mem_erase hc)
  rw [bigSep_univ_at _ (0 : Dev nD), bigSep_congr h, bigSep_emp_const]
  unfold G
  rw [if_pos rfl]
  iintro H
  isplitl; · iexact H
  iempintro

theorem G_elim : bigSep Finset.univ (G (F := F)) ⊢ (BI.own (ER (launchOf live dormant toks)) : sProp 𝕄) := by
  refine BIBase.Entails.trans (bigSep_elim (Finset.mem_univ (0 : Dev nD))) ?_
  unfold G
  rw [if_pos rfl]

/-- The launch. -/
theorem init :
    iprop((bigSep Finset.univ fun c : Dev nD => iprop(unscopedBufs c (fun b => m ((c : Thread nD τ).loc b)) ∗ unscopedSems0 c
          ∗ owes (c : Thread nD τ) (owedL (owed0 c)) ∅ ∗ Pipeline.launchCred (fun d => owedL (owed0 d)) c ∗ prngReg c (ρ c) ∗ G (F := F) c)) ∗ levAts L lv)
      ⊢ (|={Set.univ}=> (bigSep Finset.univ fun c : Dev nD => iprop(StableHlo.held (c : Thread nD τ) (Pipeline.ucRefs τ sig) (V0 m c) ∗ side m 0 c)) : sProp 𝕄) := by
  have h1 (c : Dev nD) : (iprop(unscopedBufs c (fun b => m ((c : Thread nD τ).loc b)) ∗ unscopedSems0 c
          ∗ owes (c : Thread nD τ) (owedL (owed0 c)) ∅ ∗ Pipeline.launchCred (fun d => owedL (owed0 d)) c ∗ prngReg c (ρ c) ∗ G (F := F) c) : sProp 𝕄)
      ⊢ iprop((StableHlo.held (c : Thread nD τ) (Pipeline.ucRefs τ sig) (V0 m c) ∗ owes (c : Thread nD τ) (owedL (owed0 c)) ∅)
        ∗ (unscopedSems0 c ∗ Pipeline.launchCred (fun d => owedL (owed0 d)) c) ∗ G (F := F) c) := by
    rw [← Pipeline.unscopedBufs_held (Ix := Unit) (Name := ℕ) (U := UU) (Lvl := ℕ) c (V0 m c)]
    iintro ⟨Hb, Hs, HO, Hc, -, HG⟩
    isplitl [Hb HO]
    · isplitl [Hb] <;> iassumption
    isplitr [HG]
    · isplitl [Hs] <;> iassumption
    iexact HG
  have h2 (c : Dev nD) : iprop((StableHlo.held (c : Thread nD τ) (Pipeline.ucRefs τ sig) (V0 m c) ∗ owes (c : Thread nD τ) (owedL (owed0 c)) ∅)
        ∗ (∃ K, records (cont m) K) ∗ start (F := F) c)
      ⊢ iprop(StableHlo.held (c : Thread nD τ) (Pipeline.ucRefs τ sig) (V0 m c) ∗ side m 0 c) := by
    unfold side Ow
    iintro ⟨⟨Hh, HO⟩, HK, Hst⟩
    isplitl [Hh]; · iexact Hh
    isplitl [HK]; · iexact HK
    isplitl [Hst]; · iexact Hst
    iexists ∅
    iexact HO
  have hs : (bigSep Finset.univ fun c : Dev nD => iprop(unscopedBufs c (fun b => m ((c : Thread nD τ).loc b)) ∗ unscopedSems0 c
          ∗ owes (c : Thread nD τ) (owedL (owed0 c)) ∅ ∗ Pipeline.launchCred (fun d => owedL (owed0 d)) c ∗ prngReg c (ρ c) ∗ G (F := F) c))
      ⊢ (iprop((bigSep Finset.univ fun c : Dev nD => iprop(StableHlo.held (c : Thread nD τ) (Pipeline.ucRefs τ sig) (V0 m c) ∗ owes (c : Thread nD τ) (owedL (owed0 c)) ∅))
        ∗ (bigSep Finset.univ fun c : Dev nD => iprop(unscopedSems0 c ∗ Pipeline.launchCred (fun d => owedL (owed0 d)) c)) ∗ bigSep Finset.univ (G (F := F))) : sProp 𝕄) := by
    rw [← bigSep_sep', ← bigSep_sep']
    exact bigSep_mono fun c _ => h1 c
  iintro ⟨H, -⟩
  ihave H := hs $$ H
  icases H with ⟨Hh, Hl, HG⟩
  ihave HG := (G_elim (F := F)) $$ HG
  imod (launch_all (cont m)) $$ [Hl HG] with Hst
  · isplitl [Hl] <;> iassumption
  imodintro
  iapply (show iprop((bigSep Finset.univ fun c : Dev nD => iprop(StableHlo.held (c : Thread nD τ) (Pipeline.ucRefs τ sig) (V0 m c) ∗ owes (c : Thread nD τ) (owedL (owed0 c)) ∅))
      ∗ bigSep Finset.univ fun c : Dev nD => iprop((∃ K, records (cont m) K) ∗ start (F := F) c))
    ⊢ bigSep Finset.univ fun c : Dev nD => iprop(StableHlo.held (c : Thread nD τ) (Pipeline.ucRefs τ sig) (V0 m c) ∗ side m 0 c) from by
      rw [← bigSep_sep']
      exact bigSep_mono fun c _ => h2 c)
  isplitl [Hh] <;> iassumption

/-- What is read of a device at the end. -/
def QY (c : Dev nD) (s : MemSt nD τ sig (Elt F)) : Prop :=
  (∀ b ∈ Pipeline.ucRefs τ sig, s.mem (c, b) = V5 m (outs m) c b) ∧ s.sem (cell c bar) = 0

theorem fin (c : Dev nD) (s : Phys nD τ sig (Elt F)) :
    iprop((StableHlo.held (c : Thread nD τ) (Pipeline.ucRefs τ sig) (V5 m (outs m) c) ∗ (semVal (cell c bar) 0 : sProp 𝕄)) ∗ SI s)
      ⊢ |={Set.univ}=> iprop(⌜QY m c s.mem⌝ ∗ SI s) := by
  unfold StableHlo.held
  iintro ⟨⟨Hh, Hv⟩, HSI⟩
  icombine HSI Hv gives %hv
  ihave Hr := (pointsTo_read_all (Pipeline.ucRefs τ sig) (fun b => ((c : Thread nD τ).1, b)) (V5 m (outs m) c) s) $$ [Hh HSI]
  · isplitl [Hh] <;> iassumption
  icases Hr with ⟨%h, HSI⟩
  imodintro
  isplitr
  · ipureintro
    exact ⟨h, by simpa using hv⟩
  iexact HSI

-- the run's implicit arguments are found by unifying its conclusion with this one
set_option backward.isDefEq.respectTransparency.types false in
/-- The run: every device's buffers end as the host operations and the call leave them, and every counter at zero. -/
theorem run_main : θ_run defs (onTc (τ := τ) (main (F := F))) ⟨m, fun _ => 0, ρ⟩
    (fun r => (∀ c : Dev nD, ∀ b ∈ Pipeline.ucRefs τ sig, r.2.mem (c, b) = V5 m (outs m) c b) ∧ r.2.sem = fun _ => 0) :=
  Pipeline.θ_run_regions_kit_dev_sems (pcfgs (F := F)) tabs (pdats (F := F)) () (cellOf_inj tabs) embL defs₀ 𝒱₀ L lv m ρ main (items m)
    (fun c Q => by
      rewrite [main_chain c, Pipeline.Seg.run_eq_chain,
        show (items m c).map Pipeline.Seg.prog = [StableHlo.seq hostOps0, StableHlo.seq hostOps0_1, StableHlo.seq (hostOps0_2 c),
          Prog.lift (.customCall (Pipeline.entry 0) ()), StableHlo.seq hostOps1] from rfl]
      dsimp (config := { failIfUnchanged := false }) only
      exact .rfl)
    (fun c => by simp only [items, Pipeline.Seg.pipes_host, Pipeline.Seg.pipes_nil]; decide)
    (O₀ := fun c => owedL (owed0 c)) (hL := L_of_ne) (G := G (F := F)) (u₀ := u₀ (F := F))
    (hu₀ := by
      unfold u₀
      iintro Hu
      ihave H := (ownU_pair _ _) $$ Hu
      icases H with ⟨HP, HX⟩
      ihave HX := (own_pair_emb embR _ _) $$ HX
      icases HX with ⟨HX, -⟩
      imodintro
      isplitl [HP]; · iexact HP
      iapply (G_intro (F := F))
      iexact HX)
    (T₀ := fun c => iprop(StableHlo.held (c : Thread nD τ) (Pipeline.ucRefs τ sig) (V0 m c) ∗ side m 0 c))
    (Tₙ := fun c => iprop(StableHlo.held (c : Thread nD τ) (Pipeline.ucRefs τ sig) (V5 m (outs m) c) ∗ (semVal (cell c bar) 0 : sProp 𝕄)))
    (hch := fun c => ⟨.rfl, .rfl, .rfl, .rfl, .rfl, by
      show iprop(StableHlo.held (c : Thread nD τ) (Pipeline.ucRefs τ sig) (V5 m (outs m) c) ∗ side m 1 c) ⊢ _
      unfold side Ow
      iintro ⟨Hh, Hv, HO⟩
      isplitr [HO]
      · isplitl [Hh] <;> iassumption
      iexact HO⟩)
    (hinit := init m ρ) (QY := QY m) (hfin := fin m)
    (hQ := fun s h hs => ⟨fun c => (h c).1, sem_eq_zero hs fun c s' hs' => by
      have e : s' = sm bar := by
        clear h hs
        revert s'
        decide
      rw [e]
      exact (h c).2⟩)

end Run

end Cert.FlashProof

end
-- ==== Proof.Same.lean ====
/-
The kernel's program and its reading over the reals are one text under two names.
-/
module

public import proofs.«01_k».proof.Defs
public import proofs.«01_k».proof.Proof.Gen.Kernel.Regions
public import proofs.«01_k».proof.Proof.Gen.KernelIdeal.Regions

@[expose] public section

noncomputable section

namespace Cert.FlashProof

open Idealize.ShloMosaic Idealize.SL.Sem

variable {F : FTy → Type} [FloatOps F]

set_option maxHeartbeats 2000000

theorem body_same : @Cert.Kernel.cc0_body F _ _ = @Cert.KernelIdeal.cc0_body F _ _ := rfl

theorem pcfgs_same : @Cert.Kernel.pcfgs F _ _ = @Cert.KernelIdeal.pcfgs F _ _ := rfl

theorem defs₀_same : @Cert.Kernel.defs₀ F _ _ = @Cert.KernelIdeal.defs₀ F _ _ := by
  unfold Cert.Kernel.defs₀ Cert.KernelIdeal.defs₀
  refine congrArg Defs.onTc (funext fun l => funext fun x => ?_)
  obtain ⟨_ | l, h⟩ := l
  · obtain ⟨t, s⟩ := x
    dsimp only
    rw [body_same]
    rfl
  · exact absurd h (Nat.not_lt.2 (Nat.le_add_left _ _))

theorem defs_same : @Cert.Kernel.defs F _ _ = @Cert.KernelIdeal.defs F _ _ := by
  unfold Cert.Kernel.defs Cert.KernelIdeal.defs
  rw [defs₀_same]
  rfl

theorem main_same : @Cert.Kernel.main F _ _ = @Cert.KernelIdeal.main F _ _ := by
  funext c
  rw [Cert.Kernel.Gen.main_chain c, Cert.KernelIdeal.Gen.main_chain c]
  rfl

end Cert.FlashProof

end
-- ==== Proof.Soft.lean ====
/-
Softmax over the extended reals: a common shift of finite scores cancels, and the division by the
sum of the weights may be made before or after the weighted sum.
-/
module

public import Idealize.ShloMosaic.PureOps.Ideal.Laws

@[expose] public section

noncomputable section

namespace Cert.FlashProof

open Idealize.ShloMosaic
open scoped BigOperators

/-- A value which is neither infinity. -/
def Fin' (x : EReal) : Prop := ∃ r : ℝ, x = (r : EReal)

theorem fin_mul {x y : EReal} (hx : Fin' x) (hy : Fin' y) : Fin' (x * y) := by
  obtain ⟨a, rfl⟩ := hx; obtain ⟨b, rfl⟩ := hy; exact ⟨a * b, rfl⟩

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem fin_sum {ι : Type*} (s : Finset ι) (f : ι → EReal) (h : ∀ i, Fin' (f i)) : Fin' (∑ i ∈ s, f i) := by
  choose g hg using h
  obtain rfl : f = fun i => ((g i : ℝ) : EReal) := funext hg
  exact ⟨_, coe_sum s g⟩

/-- The largest of finitely many finite values is finite, whatever is below it. -/
theorem fin_max {ι : Type*} (s : Finset ι) (hs : s.Nonempty) (f : ι → EReal) (h : ∀ i, Fin' (f i)) : Fin' (s.fold max ⊥ f) := by
  classical
  induction hs using Finset.Nonempty.cons_induction with
  | singleton a => rw [Finset.fold_singleton, max_bot_right]; exact h a
  | cons a s ha hs ih =>
    rw [Finset.fold_cons]
    rcases max_choice (f a) (s.fold max ⊥ f) with e | e <;> rw [e]
    · exact h a
    · exact ih

/-- Multiplying a sum by a real that is not negative. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- The shifted and normalised weights give what the plain weights give, divided once at the end. -/
theorem weighted {ι : Type*} [Fintype ι] [Nonempty ι] (s : ι → EReal) (hs : ∀ i, Fin' (s i)) (M : EReal) (hM : Fin' M) (v : ι → EReal) :
    ∑ i, v i * Ideal.div (Ideal.exp (s i - M)) (∑ j, Ideal.exp (s j - M)) = Ideal.div (∑ i, Ideal.exp (s i) * v i) (∑ j, Ideal.exp (s j)) := by
  choose r hr using hs
  obtain rfl : s = fun i => ((r i : ℝ) : EReal) := funext hr
  obtain ⟨m, rfl⟩ := hM
  have e1 : ∀ x : ℝ, Ideal.exp (x : EReal) = ((Real.exp x : ℝ) : EReal) := fun _ => rfl
  have e2 : ∀ i, ((r i : ℝ) : EReal) - (m : EReal) = ((r i - m : ℝ) : EReal) := fun i => (EReal.coe_sub _ _).symm
  simp only [e2, e1, coe_sum]
  have hL : 0 < ∑ j, Real.exp (r j) := Finset.sum_pos (fun _ _ => Real.exp_pos _) Finset.univ_nonempty
  have hS : ∑ j, Real.exp (r j - m) = (∑ j, Real.exp (r j)) * Real.exp (-m) := by
    rw [Finset.sum_mul]; exact Finset.sum_congr rfl fun j _ => by rw [sub_eq_add_neg, Real.exp_add]
  have hS0 : 0 < ∑ j, Real.exp (r j - m) := Finset.sum_pos (fun _ _ => Real.exp_pos _) Finset.univ_nonempty
  have d : ∀ (x : EReal) (y : ℝ), 0 < y → Ideal.div x (y : EReal) = x * ((y⁻¹ : ℝ) : EReal) := fun x y hy => by
    unfold Ideal.div; rw [if_neg (by exact_mod_cast hy.ne'), EReal.coe_inv]
  rw [d _ _ hL, sum_mul_real _ _ _ (inv_pos.2 hL).le]
  refine Finset.sum_congr rfl fun i _ => ?_
  rw [d _ _ hS0, ← EReal.coe_mul, mul_comm ((Real.exp (r i) : ℝ) : EReal), mul_assoc, ← EReal.coe_mul]
  refine congrArg (fun t : ℝ => v i * (t : EReal)) ?_
  rw [hS, sub_eq_add_neg, Real.exp_add]
  have := (Real.exp_pos (-m)).ne'
  field_simp

/-- The word of −∞. -/
theorem bits_bot : Ideal.ofBits .f32 0xFF800000#32 = ⊥ := by
  simp [Ideal.ofBits, Ideal.ieee]

/-- The word of +∞. -/
theorem bits_top : Ideal.ofBits .f32 0x7F800000#32 = ⊤ := by
  simp [Ideal.ofBits, Ideal.ieee]

theorem bits_zero : Ideal.ofBits .f32 0x00000000#32 = 0 := by
  simp [Ideal.ofBits, Ideal.ieee]

theorem bits_one : Ideal.ofBits .f32 0x3F800000#32 = 1 := by
  simp [Ideal.ofBits, Ideal.ieee, -EReal.coe_mul]; norm_num

/-- The scale is finite. -/
theorem bits_scale : Fin' (Ideal.ofBits .f32 0x3E000000#32) := by
  simp [Ideal.ofBits, Ideal.ieee, Fin', -EReal.coe_mul]

/-- A value whose magnitude is below +∞ is finite. -/
theorem fin_of_abs {x : EReal} (h : max x (-x) < ⊤) : Fin' x := by
  induction x with
  | bot => simp at h
  | top => simp at h
  | coe r => exact ⟨r, rfl⟩

end Cert.FlashProof

end
-- ==== Proof.Row.lean ====
/-
What the body computes, read over the extended reals at one index: a device's row for one batch, and
the row after the sum over z divided by its weights.
-/
module

public import proofs.«01_k».proof.Proof.Gen.KernelIdeal.Skeleton
public import proofs.«01_k».proof.Proof.Soft
public import Idealize.ShloMosaic.Lib.MatmulPlain
public import Idealize.ShloMosaic.Lib.ValueIdx
public import Idealize.ShloMosaic.Lib.ValueLayout
public import Idealize.ShloMosaic.Lib.Pointwise.Reduce
public import Idealize.ShloMosaic.Lib.Pipeline.Value

@[expose] public section

noncomputable section

namespace Cert.FlashProof

open Idealize.ShloMosaic hiding ix0 ix1 ix2 ix3 ix4 ix5
open Idealize.ShloMosaic.ValueIdx Cert.KernelIdeal Cert.KernelIdeal.Gen
open scoped BigOperators

/-- The flat column of head `h`, lane `d`. -/
def col (h : Fin 16) (d : Fin 64) : Fin 1024 := ⟨64 * h.val + d.val, by omega⟩

theorem sum_col (f : Fin 1024 → EReal) : ∑ j, f j = ∑ h, ∑ d, f (col h d) := by
  rw [← Fintype.sum_prod_type', ← (finProdFinEquiv (m := 16) (n := 64)).sum_comp (fun j : Fin (16 * 64) => f j)]
  refine Finset.sum_congr rfl fun x _ => congrArg f (Fin.ext ?_)
  show x.2.val + 64 * x.1.val = 64 * x.1.val + x.2.val
  omega

theorem col_div (h : Fin 16) (d : Fin 64) : (col h d).val / 64 = h.val := by
  show (64 * h.val + d.val) / 64 = h.val
  omega

/-- The head mask: column `j` belongs to head `j / 64`. -/
def IsMask (m : S16x1024.Idx → EReal) : Prop := ∀ (h : Fin 16) (j : Fin 1024), m (ix2 h j) = if j.val / 64 = h.val then 1 else 0

theorem IsMask.at {m : S16x1024.Idx → EReal} (hm : IsMask m) (h h' : Fin 16) (d : Fin 64) : m (ix2 h (col h' d)) = if h' = h then 1 else 0 := by
  rw [hm h (col h' d), col_div]
  exact if_congr Fin.ext_iff.symm rfl rfl

/-- A sum over the flat columns under the mask is a sum over the head's own lanes. -/
theorem IsMask.sum {m : S16x1024.Idx → EReal} (hm : IsMask m) (h : Fin 16) (f : Fin 1024 → EReal) :
    ∑ j, m (ix2 h j) * f j = ∑ d, f (col h d) := by
  rw [sum_col, Finset.sum_eq_single h]
  · exact Finset.sum_congr rfl fun d _ => by rw [hm.at, if_pos rfl, one_mul]
  · exact fun h' _ hne => Finset.sum_eq_zero fun d _ => by rw [hm.at, if_neg hne, zero_mul]
  · exact fun hn => absurd (Finset.mem_univ _) hn

/-- A sum over the heads under the mask is the term of the column's head. -/
theorem IsMask.sum_head {m : S16x1024.Idx → EReal} (hm : IsMask m) (h : Fin 16) (d : Fin 64) (f : Fin 16 → EReal) :
    ∑ h', f h' * m (ix2 h' (col h d)) = f h := by
  rw [Finset.sum_eq_single h]
  · rw [hm.at, if_pos rfl, mul_one]
  · exact fun h' _ hne => by rw [hm.at, if_neg hne.symm, mul_zero]
  · exact fun hn => absurd (Finset.mem_univ _) hn

/-- A block of keys or values, its head and lane axes made one. -/
theorem flat_apply (x : S1x16x64x1024.Idx → EReal) (h : Fin 16) (d : Fin 64) (k : Fin 1024) :
    shapeCast S1024x1024 (shapeCast S16x64x1024 x shapeCasts_S1x16x64x1024_S16x64x1024) shapeCasts_S16x64x1024_S1024x1024 (ix2 (col h d) k)
      = x (ix4 0 h d k) := by
  rw [shapeCast_apply _ _ _ (ix3 h d k) (by
      rw [Shape.rowMajor_val_two, Shape.rowMajor_val_three]
      show (h.val * 64 + d.val) * 1024 + k.val = (64 * h.val + d.val) * 1024 + k.val
      omega),
    shapeCast_apply _ _ _ (ix4 0 h d k) (by
      rw [Shape.rowMajor_val_four, Shape.rowMajor_val_three]
      show ((0 * 16 + h.val) * 64 + d.val) * 1024 + k.val = (h.val * 64 + d.val) * 1024 + k.val
      omega)]

/-- The query's heads and lanes made one row, the same on every head. -/
theorem query_apply (q : S1x16x64.Idx → EReal) (h h' : Fin 16) (d : Fin 64) :
    broadcastTo S16x1024 (shapeCast S1x1024 (shapeCast S16x64 q shapeCasts_S1x16x64_S16x64) shapeCasts_S16x64_S1x1024) broadcasts_S1x1024_S16x1024 (ix2 h' (col h d))
      = q (ix3 0 h d) := by
  rw [broadcastTo_apply _ _ _ (ix2 0 (col h d)) (by
      intro a
      match a with
      | ⟨0, _⟩ => rfl
      | ⟨1, _⟩ => rfl),
    shapeCast_apply _ _ _ (ix2 h d) (by
      rw [Shape.rowMajor_val_two, Shape.rowMajor_val_two]
      show h.val * 64 + d.val = 0 * 1024 + (64 * h.val + d.val)
      omega),
    shapeCast_apply _ _ _ (ix3 0 h d) (by
      rw [Shape.rowMajor_val_three, Shape.rowMajor_val_two]
      show (0 * 16 + h.val) * 64 + d.val = h.val * 64 + d.val
      omega)]

/-- The score of key `k` for head `h`, scaled. -/
def sc (q : S1x16x64.Idx → EReal) (kt : S1x16x64x1024.Idx → EReal) (h : Fin 16) (k : Fin 1024) : EReal :=
  (∑ d, q (ix3 0 h d) * kt (ix4 0 h d k)) * Ideal.ofBits .f32 0x3E000000#32

/-- The weights the body computes. -/
def wt (kt : FVec Ideal S1x16x64x1024 .f32) (m : FVec Ideal S16x1024 .f32) (q : FVec Ideal S1x16x64 .f32) : FVec Ideal S16x1024 .f32 :=
  exp (mulf (φ := .f32) (matmul dot_S16x1024_S1024x1024_S16x1024_1_0_0_1_n_n none
      (mulf (φ := .f32) (shapeCast S16x1024 m shapeCasts_S16x1024_S16x1024) (broadcastTo S16x1024 (shapeCast S1x1024 (shapeCast S16x64 q shapeCasts_S1x16x64_S16x64) shapeCasts_S16x64_S1x1024) broadcasts_S1x1024_S16x1024))
      (shapeCast S1024x1024 (shapeCast S16x64x1024 kt shapeCasts_S1x16x64x1024_S16x64x1024) shapeCasts_S16x64x1024_S1024x1024) (constant S16x1024 .f32 0x00000000#32))
    (broadcast S16x1024 (Scalar.ofBits .f32 0x3E000000#32)))

theorem shapeCast_same {s : Shape} {α : Type} (x : s.Idx → α) (h : s.ShapeCasts s) (j : s.Idx) : shapeCast s x h j = x j :=
  shapeCast_apply _ _ _ _ rfl

theorem wt_apply (kt : FVec Ideal S1x16x64x1024 .f32) (m : FVec Ideal S16x1024 .f32) (q : FVec Ideal S1x16x64 .f32) (hm : IsMask m) (h : Fin 16) (k : Fin 1024) :
    wt kt m q (ix2 h k) = Ideal.exp (sc q kt h k) := by
  refine congrArg Ideal.exp ?_
  refine congrArg (· * Ideal.ofBits .f32 0x3E000000#32) ?_
  refine (Ideal.matmul_plain_apply (M := 16) (K := 1024) (N := 1024) none _ _ _ h k).trans ?_
  rw [constant_apply, bits_zero, zero_add]
  refine Eq.trans (Finset.sum_congr rfl fun j _ => ?_) (hm.sum h (fun j => broadcastTo S16x1024 (shapeCast S1x1024 (shapeCast S16x64 q shapeCasts_S1x16x64_S16x64) shapeCasts_S16x64_S1x1024) broadcasts_S1x1024_S16x1024 (ix2 h j) * shapeCast S1024x1024 (shapeCast S16x64x1024 kt shapeCasts_S1x16x64x1024_S16x64x1024) shapeCasts_S16x64x1024_S1024x1024 (ix2 j k))) |>.trans ?_
  · rw [mulf_apply, shapeCast_same, mul_assoc]
  · exact Finset.sum_congr rfl fun d _ => by rw [query_apply, flat_apply]

/-- Three pieces side by side, read in the first and in the second. -/
theorem cat_first (x : S1x1024.Idx → EReal) (y : S1x16.Idx → EReal) (z : S1x112.Idx → EReal) (h : Fin 16) (d : Fin 64) :
    concatenate S1x1152 1 [⟨S1x1024, x⟩, ⟨S1x16, y⟩, ⟨S1x112, z⟩] concatenates_S1x1024_S1x16_S1x112_S1x1152_d1 (ix2 0 ⟨64 * h.val + d.val, by omega⟩) = x (ix2 0 (col h d)) :=
  concatenate_apply_piece (t := S1x1152) 1 [⟨S1x1024, x⟩, ⟨S1x16, y⟩, ⟨S1x112, z⟩] concatenates_S1x1024_S1x16_S1x112_S1x1152_d1 _ 0 (by decide : 0 < 3) S1x1024 x rfl rfl 0 rfl (ix2 0 (col h d))
    (fun b hb => by
      match b with
      | ⟨0, _⟩ => rfl
      | ⟨1, _⟩ => exact absurd rfl hb) (Nat.zero_add _)

theorem cat_second (x : S1x1024.Idx → EReal) (y : S1x16.Idx → EReal) (z : S1x112.Idx → EReal) (h : Fin 16) :
    concatenate S1x1152 1 [⟨S1x1024, x⟩, ⟨S1x16, y⟩, ⟨S1x112, z⟩] concatenates_S1x1024_S1x16_S1x112_S1x1152_d1 (ix2 0 ⟨1024 + h.val, by omega⟩) = y (ix2 0 h) :=
  concatenate_apply_piece (t := S1x1152) 1 [⟨S1x1024, x⟩, ⟨S1x16, y⟩, ⟨S1x112, z⟩] concatenates_S1x1024_S1x16_S1x112_S1x1152_d1 _ 1 (by decide : 1 < 3) S1x16 y rfl rfl 1024 rfl (ix2 0 h)
    (fun b hb => by
      match b with
      | ⟨0, _⟩ => rfl
      | ⟨1, _⟩ => exact absurd rfl hb) rfl

/-- The row's first 1024 columns: the weighted values. -/
theorem row_num (kt vt : FVec Ideal S1x16x64x1024 .f32) (m : FVec Ideal S16x1024 .f32) (q : FVec Ideal S1x16x64 .f32) (hm : IsMask m) (h : Fin 16) (d : Fin 64) :
    k0_pay5 (F := Ideal) kt vt m q m (ix2 0 ⟨64 * h.val + d.val, by omega⟩) = ∑ k, Ideal.exp (sc q kt h k) * vt (ix4 0 h d k) := by
  unfold k0_pay5
  rw [shapeCast_same]
  refine (cat_first _ _ _ h d).trans ?_
  rw [shapeCast_apply _ _ _ (ix1 (col h d)) (by
      rw [Shape.rowMajor_val_two, Shape.rowMajor_val_one]
      show (col h d).val = 0 * 1024 + (col h d).val
      omega)]
  refine (Ideal.reduceAdd_r2_a0 reduces_S16x1024_S1024 _ (ix1 (col h d))).trans ?_
  refine Eq.trans (Finset.sum_congr rfl fun h' _ => ?_) (hm.sum_head h d (fun h' => ∑ k, Ideal.exp (sc q kt h' k) * vt (ix4 0 h d k)))
  show _ * shapeCast S16x1024 m shapeCasts_S16x1024_S16x1024 (ix2 h' (col h d)) = _
  rw [shapeCast_same]
  refine congrArg (· * m (ix2 h' (col h d))) ?_
  refine (Ideal.matmul_transposedRhs_apply (M := 16) (K := 1024) (N := 1024) none (wt kt m q) _ _ h' (col h d)).trans ?_
  rw [constant_apply, bits_zero, zero_add]
  exact Finset.sum_congr rfl fun k _ => by rw [wt_apply kt m q hm, flat_apply]

/-- The row's next 16 columns: the sums of the weights. -/
theorem row_den (kt vt : FVec Ideal S1x16x64x1024 .f32) (m : FVec Ideal S16x1024 .f32) (q : FVec Ideal S1x16x64 .f32) (hm : IsMask m) (h : Fin 16) :
    k0_pay5 (F := Ideal) kt vt m q m (ix2 0 ⟨1024 + h.val, by omega⟩) = ∑ k, Ideal.exp (sc q kt h k) := by
  unfold k0_pay5
  rw [shapeCast_same]
  refine (cat_second _ _ _ h).trans ?_
  refine (Ideal.matmul_transposedRhs_apply (M := 1) (K := 1024) (N := 16) none _ (wt kt m q) _ 0 h).trans ?_
  rw [constant_apply, bits_zero, zero_add]
  refine Finset.sum_congr rfl fun k _ => ?_
  rw [wt_apply kt m q hm, broadcast_apply]
  show Ideal.ofBits .f32 0x3F800000#32 * _ = _
  rw [bits_one, one_mul]

/-- The sum of four rows, divided by its own weights. -/
theorem norm_apply (r₀ r₁ r₂ r₃ : FVec Ideal S1x1152 .f32) (m : FVec Ideal S16x1024 .f32) (hm : IsMask m) (h : Fin 16) (d : Fin 64) :
    k0_pay4 (F := Ideal) r₀ r₁ r₂ r₃ m (ix2 0 (col h d))
      = Ideal.div (r₀ (ix2 0 ⟨64 * h.val + d.val, by omega⟩) + r₁ (ix2 0 ⟨64 * h.val + d.val, by omega⟩) + r₂ (ix2 0 ⟨64 * h.val + d.val, by omega⟩) + r₃ (ix2 0 ⟨64 * h.val + d.val, by omega⟩))
        (r₀ (ix2 0 ⟨1024 + h.val, by omega⟩) + r₁ (ix2 0 ⟨1024 + h.val, by omega⟩) + r₂ (ix2 0 ⟨1024 + h.val, by omega⟩) + r₃ (ix2 0 ⟨1024 + h.val, by omega⟩)) := by
  unfold k0_pay4
  rw [shapeCast_same, divf_apply]
  refine congrArg₂ Ideal.div ?_ ?_
  · exact extractStridedSlice_apply _ _ _ _ (ix2 0 ⟨64 * h.val + d.val, by omega⟩) (by
      intro a
      match a with
      | ⟨0, _⟩ => rfl
      | ⟨1, _⟩ => exact (Nat.zero_add _).symm)
  · refine (Ideal.matmul_plain_apply (M := 1) (K := 16) (N := 1024) none _ _ _ 0 (col h d)).trans ?_
    rw [constant_apply, bits_zero, zero_add]
    refine Eq.trans (Finset.sum_congr rfl fun h' _ => ?_) (hm.sum_head h d (fun h' => r₀ (ix2 0 ⟨1024 + h'.val, by omega⟩) + r₁ (ix2 0 ⟨1024 + h'.val, by omega⟩) + r₂ (ix2 0 ⟨1024 + h'.val, by omega⟩) + r₃ (ix2 0 ⟨1024 + h'.val, by omega⟩)))
    rw [shapeCast_same]
    refine congrArg (· * m (ix2 h' (col h d))) ?_
    exact extractStridedSlice_apply _ _ _ _ (ix2 0 ⟨1024 + h'.val, by omega⟩) (by
      intro a
      match a with
      | ⟨0, _⟩ => rfl
      | ⟨1, _⟩ => rfl)

end Cert.FlashProof

end
-- ==== Proof.Reads.lean ====
/-
What the host operations before the call leave in the arrays of the call, and what the blocks of the call hold of them.
-/
module

public import proofs.«01_k».proof.Proof.Segs
public import proofs.«01_k».proof.Proof.Row
public import Idealize.ShloMosaic.Lib.StableHlo.RunRead

@[expose] public section

noncomputable section

namespace Cert.FlashProof

open Idealize.ShloMosaic hiding ix0 ix1 ix2 ix3 ix4 ix5
open Idealize.ShloMosaic.ValueIdx Idealize.ShloMosaic.TcCoe Cert.KernelIdeal Cert.KernelIdeal.Gen
open scoped BigOperators

variable {F : FTy → Type} [FloatOps F]

/-! ## The head mask -/

/-- The sign of a word. -/
def sgn (x : BitVec 32) : BitVec 32 := if x = 0 then 0 else if x.msb then -1 else 1

/-- The quotient rounded down, as the host program computes it. -/
def floorDiv (x y : BitVec 32) : BitVec 32 :=
  Scalar.select (IntOp.andi (IntOp.cmpi .ne (sgn x) (sgn y)) (IntOp.cmpi .ne (IntOp.remsi .host x y) 0#32)) (IntOp.subi (IntOp.divsi .host x y) 1#32) (IntOp.divsi .host x y)

theorem floorDiv_head : ∀ j : Fin 1024, floorDiv (BitVec.ofNat 32 j.val) 64#32 = BitVec.ofNat 32 (j.val / 64) := by
  decide +kernel

theorem head_eq (h : Fin 16) (j : Fin 1024) : IntOp.cmpi .eq (BitVec.ofNat 32 (j.val / 64)) (BitVec.ofNat 32 h.val) = if j.val / 64 = h.val then 1#1 else 0#1 := by
  have e : (BitVec.ofNat 32 (j.val / 64) = BitVec.ofNat 32 h.val) ↔ j.val / 64 = h.val := by
    rw [← BitVec.toNat_inj, BitVec.toNat_ofNat, BitVec.toNat_ofNat]
    have := j.isLt
    have := h.isLt
    omega
  show BitVec.ofBool (BitVec.ofNat 32 (j.val / 64) == BitVec.ofNat 32 h.val) = _
  by_cases hh : j.val / 64 = h.val
  · rw [if_pos hh, beq_iff_eq.mpr (e.mpr hh)]; rfl
  · rw [if_neg hh, beq_eq_false_iff_ne.mpr fun x => hh (e.mp x)]; rfl

section Host

variable (m : (ℓ : Loc nD τ sig) → Buf (Elt F) ℓ) (c : Dev nD)

theorem v5_eq : V1 m c main_v5 = broadcastInDim S1x1024 ![1] bcast_S1024_S1x1024_1 (iotaInDim S1024 32 0) := by
  simp only [V1, StableHlo.after_cons, StableHlo.after_nil, hostOps0]
  rfl

theorem c_eq : V1 m c main_c = constantI S_ 32 64#32 := by
  simp only [V1, StableHlo.after_cons, StableHlo.after_nil, hostOps0]
  rfl

/-- The quotient of every column by the width of a head, over the columns and the divisor that the host operations
before it leave. -/
theorem v6_of : V2 m c main_v6 = fun j => floorDiv (V1 m c main_v5 j) (V1 m c main_c ix0) := by
  have h : V2 m c main_v6 = select
      (andi (cmpi .ne (signi (V1 m c main_v5)) (broadcastInDim S1x1024 ![] bcast_S_S1x1024 (signi (V1 m c main_c))))
        (cmpi .ne (Host.remsi (V1 m c main_v5) (broadcastInDim S1x1024 ![] bcast_S_S1x1024 (V1 m c main_c))) (broadcastInDim S1x1024 ![] bcast_S_S1x1024 (constantI S_ 32 0#32))))
      (subi (Host.divsi (V1 m c main_v5) (broadcastInDim S1x1024 ![] bcast_S_S1x1024 (V1 m c main_c))) (broadcastInDim S1x1024 ![] bcast_S_S1x1024 (constantI S_ 32 1#32)))
      (Host.divsi (V1 m c main_v5) (broadcastInDim S1x1024 ![] bcast_S_S1x1024 (V1 m c main_c))) := by
    unfold V2
    generalize V1 m c = W
    after_reads_simp
    rfl
  rw [h]
  funext j
  have e : ∀ x : IVec S_ 32, broadcastInDim S1x1024 ![] bcast_S_S1x1024 x j = x ix0 := fun x => congrArg x (funext fun a => a.elim0)
  simp only [select, andi, cmpi, subi, Host.divsi, Host.remsi, e]
  rfl

theorem v6_eq (j : Fin 1024) : V2 m c main_v6 (ix2 0 j) = BitVec.ofNat 32 (j.val / 64) := by
  rw [v6_of, v5_eq, c_eq]
  exact floorDiv_head j

theorem v12_eq : V3 m c main_v12 = uitofp .f32 (cmpi .eq (broadcastInDim S16x1024 ![0, 1] bcast_S1x1024_S16x1024_0_1 (V2 m c main_v6))
    (broadcastInDim S16x1024 ![0, 1] bcast_S16x1_S16x1024_0_1 (broadcastInDim S16x1 ![0] bcast_S16_S16x1_0 (iotaInDim S16 32 0)))) := by
  simp only [V3, StableHlo.after_cons, StableHlo.after_nil, hostOps0_2]
  rfl

theorem v3_eq : V3 m c main_v3 = shapeCast S16x16x64 (m ((c : Thread nD τ).loc main_arg0)) shapeCasts_S16x1x16x64_S16x16x64 := by
  rw [V3_of m c main_v3 (by decide), V2_of m c main_v3 (by decide)]
  simp only [V1, StableHlo.after_cons, StableHlo.after_nil, hostOps0]
  rfl

theorem v1_eq : V3 m c main_v1 = transpose S16x16x64x1024 [0, 2, 3, 1] (m ((c : Thread nD τ).loc main_arg1)) transposes_S16x1024x16x64_S16x16x64x1024_0_2_3_1 := by
  rw [V3_of m c main_v1 (by decide), V2_of m c main_v1 (by decide)]
  simp only [V1, StableHlo.after_cons, StableHlo.after_nil, hostOps0]
  rfl

theorem v2_eq : V3 m c main_v2 = transpose S16x16x64x1024 [0, 2, 3, 1] (m ((c : Thread nD τ).loc main_arg2)) transposes_S16x1024x16x64_S16x16x64x1024_0_2_3_1 := by
  rw [V3_of m c main_v2 (by decide), V2_of m c main_v2 (by decide)]
  simp only [V1, StableHlo.after_cons, StableHlo.after_nil, hostOps0]
  rfl

theorem v3_apply (b : Fin 16) (h : Fin 16) (d : Fin 64) :
    V3 m c main_v3 (ix3 b h d) = m ((c : Thread nD τ).loc main_arg0) (ix4 b (0 : Fin 1) h d) := by
  rw [v3_eq]
  refine shapeCast_apply _ _ _ (ix4 b (0 : Fin 1) h d) ?_
  rw [Shape.rowMajor_val_three, Shape.rowMajor_val_four]
  show ((b.val * 1 + 0) * 16 + h.val) * 64 + d.val = (b.val * 16 + h.val) * 64 + d.val
  omega

/-- Keys moved to the last axis. -/
theorem keys_last {α : Type} (x : S16x1024x16x64.Idx → α) (b : Fin 16) (h : Fin 16) (d : Fin 64) (k : Fin 1024) :
    transpose S16x16x64x1024 [0, 2, 3, 1] x transposes_S16x1024x16x64_S16x16x64x1024_0_2_3_1 (ix4 b h d k) = x (ix4 b k h d) :=
  transpose_apply _ _ _ _ _ fun a => by
    match a with
    | ⟨0, _⟩ => rfl
    | ⟨1, _⟩ => rfl
    | ⟨2, _⟩ => rfl
    | ⟨3, _⟩ => rfl

theorem v1_apply (b : Fin 16) (h : Fin 16) (d : Fin 64) (k : Fin 1024) :
    V3 m c main_v1 (ix4 b h d k) = m ((c : Thread nD τ).loc main_arg1) (ix4 b k h d) := by
  rw [v1_eq]; exact keys_last _ b h d k

theorem v2_apply (b : Fin 16) (h : Fin 16) (d : Fin 64) (k : Fin 1024) :
    V3 m c main_v2 (ix4 b h d k) = m ((c : Thread nD τ).loc main_arg2) (ix4 b k h d) := by
  rw [v2_eq]; exact keys_last _ b h d k

end Host

theorem mask (m : (ℓ : Loc nD τ sig) → Buf (Elt Ideal) ℓ) (c : Dev nD) : IsMask (V3 m c main_v12) := by
  intro h j
  rw [v12_eq]
  have e9 : broadcastInDim S16x1024 ![0, 1] bcast_S1x1024_S16x1024_0_1 (V2 m c main_v6) (ix2 h j) = BitVec.ofNat 32 (j.val / 64) := by
    rw [← v6_eq m c j]
    exact congrArg (V2 m c main_v6) (funext fun a => by
      match a with
      | ⟨0, _⟩ => rfl
      | ⟨1, _⟩ => rfl)
  have e10 : broadcastInDim S16x1024 ![0, 1] bcast_S16x1_S16x1024_0_1 (broadcastInDim S16x1 ![0] bcast_S16_S16x1_0 (iotaInDim S16 32 0)) (ix2 h j) = BitVec.ofNat 32 h.val := rfl
  have e : ∀ x : BitVec 1, x = (if j.val / 64 = h.val then 1#1 else 0#1) → ((x.toNat : ℝ) : EReal) = if j.val / 64 = h.val then 1 else 0 := by
    intro x hx
    rw [hx]
    split <;> simp
  refine e (IntOp.cmpi .eq _ _) ?_
  rw [e9, e10]
  exact head_eq h j

/-! ## The blocks -/

/-- The batch that device `c` handles at point `i`. -/
def bat (c : Dev nD) (i : Fin 2) : Fin 16 := ⟨rb c + i.val, rb_add_lt c i⟩

theorem word_bat : ∀ (c : Dev nD) (i : Fin 2), (Scalar.addi (word c) (BitVec.ofNat 32 i.val)).toNat = rb c + i.val := by decide

theorem emb0 (c : Dev nD) (i : Fin 2) (h : Fin 16) (d : Fin 64) : ((wn (F := F) c 0).rect (tt i)).emb (ix3 (0 : Fin 1) h d) = ix3 (bat c i) h d := by
  have hw := word_bat c i
  have e : ∀ x n : ℕ, 0 * n + 1 * x = x := by intro x n; omega
  have e' : ∀ x : ℕ, x * 1 + 1 * 0 = x := by intro x; omega
  funext a
  match i, a with
  | 0, ⟨0, _⟩ | 1, ⟨0, _⟩ => exact Fin.ext ((e' _).trans hw)
  | 0, ⟨1, _⟩ | 0, ⟨2, _⟩ | 1, ⟨1, _⟩ | 1, ⟨2, _⟩ => exact Fin.ext (e _ _)

theorem emb1 (c : Dev nD) (i : Fin 2) (h : Fin 16) (d : Fin 64) (k : Fin 1024) :
    ((wn (F := F) c 1).rect (tt i)).emb (ix4 (0 : Fin 1) h d k) = ix4 (bat c i) h d k := by
  have hw := word_bat c i
  have e : ∀ x n : ℕ, 0 * n + 1 * x = x := by intro x n; omega
  have e' : ∀ x : ℕ, x * 1 + 1 * 0 = x := by intro x; omega
  funext a
  match i, a with
  | 0, ⟨0, _⟩ | 1, ⟨0, _⟩ => exact Fin.ext ((e' _).trans hw)
  | 0, ⟨1, _⟩ | 0, ⟨2, _⟩ | 0, ⟨3, _⟩ | 1, ⟨1, _⟩ | 1, ⟨2, _⟩ | 1, ⟨3, _⟩ => exact Fin.ext (e _ _)

theorem emb2 (c : Dev nD) (i : Fin 2) (h : Fin 16) (d : Fin 64) (k : Fin 1024) :
    ((wn (F := F) c 2).rect (tt i)).emb (ix4 (0 : Fin 1) h d k) = ix4 (bat c i) h d k :=
  emb1 (F := F) c i h d k

/-! ## The rows -/

section Rows

variable (m : (ℓ : Loc nD τ sig) → Buf (Elt Ideal) ℓ) (c : Dev nD)

/-- The arguments of device `c`. -/
abbrev argQ : S16x1x16x64.Idx → EReal := m ((c : Thread nD τ).loc main_arg0)
abbrev argK : S16x1024x16x64.Idx → EReal := m ((c : Thread nD τ).loc main_arg1)
abbrev argV : S16x1024x16x64.Idx → EReal := m ((c : Thread nD τ).loc main_arg2)

/-- The score of key `k` of device `c`'s block, for a batch and a head. -/
def sco (b h : Fin 16) (k : Fin 1024) : EReal :=
  (∑ d : Fin 64, argQ m c (ix4 b (0 : Fin 1) h d) * argK m c (ix4 b k h d)) * Ideal.ofBits .f32 0x3E000000#32

theorem sc_eq (i : Fin 2) (h : Fin 16) (k : Fin 1024) :
    sc (blocks c (V3 m c main_v3) (V3 m c main_v1) (V3 m c main_v2) (V3 m c main_v12) i).q (blocks c (V3 m c main_v3) (V3 m c main_v1) (V3 m c main_v2) (V3 m c main_v12) i).kt h k
      = sco m c (bat c i) h k := by
  refine congrArg (· * Ideal.ofBits .f32 0x3E000000#32) (Finset.sum_congr rfl fun d _ => congrArg₂ (· * ·) ?_ ?_)
  · exact (congrArg (V3 m c main_v3) (emb0 c i h d)).trans (v3_apply m c _ h d)
  · exact (congrArg (V3 m c main_v1) (emb1 c i h d k)).trans (v1_apply m c _ h d k)

theorem red_num (i : Fin 2) (h : Fin 16) (d : Fin 64) :
    redC m c i (ix2 0 ⟨64 * h.val + d.val, by omega⟩) = ∑ k, Ideal.exp (sco m c (bat c i) h k) * argV m c (ix4 (bat c i) k h d) := by
  refine (row_num _ _ _ _ (mask m c) h d).trans (Finset.sum_congr rfl fun k _ => congrArg₂ (· * ·) (congrArg Ideal.exp (sc_eq m c i h k)) ?_)
  exact (congrArg (V3 m c main_v2) (emb2 c i h d k)).trans (v2_apply m c _ h d k)

theorem red_den (i : Fin 2) (h : Fin 16) :
    redC m c i (ix2 0 ⟨1024 + h.val, by omega⟩) = ∑ k, Ideal.exp (sco m c (bat c i) h k) :=
  (row_den _ _ _ _ (mask m c) h).trans (Finset.sum_congr rfl fun k _ => congrArg Ideal.exp (sc_eq m c i h k))

end Rows

end Cert.FlashProof

end
-- ==== Proof.Ref.lean ====
/-
The reference's result at an index: the softmax of the scaled scores, averaged over the values.
-/
module

public import proofs.«01_k».proof.Proof.Soft
public import proofs.«01_k».proof.Proof.Gen.ReferenceIdeal.Run
public import Idealize.ShloMosaic.Lib.Pointwise.Reduce
public import Idealize.ShloMosaic.Lib.Pointwise.IndexBridge
public import Idealize.ShloMosaic.Lib.MatmulPlain
public import Idealize.ShloMosaic.Lib.IdealHost
public import Idealize.ShloMosaic.Lib.Pipeline.Value

@[expose] public section

noncomputable section

namespace Cert.FlashProof.Ref

open Idealize.ShloMosaic hiding ix0 ix1 ix2 ix3 ix4 ix5
open Idealize.ShloMosaic.ValueIdx Cert.ReferenceIdeal Cert.ReferenceIdeal.Gen Cert.FlashProof
open scoped BigOperators

section
variable (Q : FVec Ideal S16x1x16x64 .f32) (K V : FVec Ideal S16x4096x16x64 .f32)

/-- The products of queries and keys. -/
theorem qk_apply (b h : Fin 16) (k : Fin 4096) :
    Host.dotGeneral dot_S16x1x16x64_S16x4096x16x64_S16x16x1x4096_3_3_1_1_02_02 none Q K (ix4 b h (0 : Fin 1) k) = ∑ d : Fin 64, Q (ix4 b (0 : Fin 1) h d) * K (ix4 b k h d) := by
  simp only [Host.dotGeneral]
  have hr : (dot_S16x1x16x64_S16x4096x16x64_S16x16x1x4096_3_3_1_1_02_02).contr.rank = 1 := rfl
  have hs : (dot_S16x1x16x64_S16x4096x16x64_S16x16x1x4096_3_3_1_1_02_02).contr.size ⟨0, by omega⟩ = 64 := rfl
  rw [Ideal.dotGeneral_apply, ← Equiv.sum_comp (contrEquiv1 _ 64 hr hs).symm]
  refine Finset.sum_congr rfl fun d _ => ?_
  have hd := contrEquiv1_symm_val _ 64 hr hs d
  refine congrArg₂ (· * ·) (congrArg Q (funext fun a => Fin.ext ?_)) (congrArg K (funext fun a => Fin.ext ?_))
  · match a with
    | ⟨0, _⟩ => rfl
    | ⟨1, _⟩ => rfl
    | ⟨2, _⟩ => rfl
    | ⟨3, _⟩ => exact hd
  · match a with
    | ⟨0, _⟩ => rfl
    | ⟨1, _⟩ => rfl
    | ⟨2, _⟩ => rfl
    | ⟨3, _⟩ => exact hd

/-- The weighted values. -/
theorem pv_apply (P : FVec Ideal S16x16x1x4096 .f32) (b h : Fin 16) (d : Fin 64) :
    Host.dotGeneral dot_S16x4096x16x64_S16x16x1x4096_S16x16x64x1_1_3_3_2_02_01 none V P (ix4 b h d (0 : Fin 1)) = ∑ k : Fin 4096, V (ix4 b k h d) * P (ix4 b h (0 : Fin 1) k) := by
  simp only [Host.dotGeneral]
  have hr : (dot_S16x4096x16x64_S16x16x1x4096_S16x16x64x1_1_3_3_2_02_01).contr.rank = 1 := rfl
  have hs : (dot_S16x4096x16x64_S16x16x1x4096_S16x16x64x1_1_3_3_2_02_01).contr.size ⟨0, by omega⟩ = 4096 := rfl
  rw [Ideal.dotGeneral_apply, ← Equiv.sum_comp (contrEquiv1 _ 4096 hr hs).symm]
  refine Finset.sum_congr rfl fun k _ => ?_
  have hk := contrEquiv1_symm_val _ 4096 hr hs k
  refine congrArg₂ (· * ·) (congrArg V (funext fun a => Fin.ext ?_)) (congrArg P (funext fun a => Fin.ext ?_))
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk

/-- The score of key `k`, for a batch and a head. -/
def score (b h : Fin 16) (k : Fin 4096) : EReal := (∑ d : Fin 64, Q (ix4 b (0 : Fin 1) h d) * K (ix4 b k h d)) * Ideal.ofBits .f32 0x3E000000#32

/-- The scores, as the reference computes them. -/
def scores : FVec Ideal S16x16x1x4096 .f32 :=
  mulf (Host.dotGeneral dot_S16x1x16x64_S16x4096x16x64_S16x16x1x4096_3_3_1_1_02_02 none Q K) (broadcastInDim S16x16x1x4096 ![] bcast_S_S16x16x1x4096 (constant S_ .f32 0x3E000000#32))

theorem scores_apply (b h : Fin 16) (k : Fin 4096) : scores Q K (ix4 b h (0 : Fin 1) k) = score Q K b h k :=
  congrArg (· * Ideal.ofBits .f32 0x3E000000#32) (qk_apply Q K b h k)

/-- One number for every batch and head, along the keys. -/
def along (x : FVec Ideal S16x16x1 .f32) : FVec Ideal S16x16x1x4096 .f32 :=
  broadcastInDim S16x16x1x4096 ![0, 1, 2, 3] bcast_S16x16x1x1_S16x16x1x4096_0_1_2_3 (broadcastInDim S16x16x1x1 ![0, 1, 2] bcast_S16x16x1_S16x16x1x1_0_1_2 x)

theorem along_apply (x : FVec Ideal S16x16x1 .f32) (b h : Fin 16) (k : Fin 4096) : along x (ix4 b h (0 : Fin 1) k) = x (ix3 b h (0 : Fin 1)) :=
  congrArg x (funext fun a => by
    match a with
    | ⟨0, _⟩ => rfl
    | ⟨1, _⟩ => rfl
    | ⟨2, _⟩ => rfl)

/-- The greatest score of a batch and a head. -/
def top : FVec Ideal S16x16x1 .f32 :=
  Host.reduce FloatOps.maximumf (scores Q K) (constant S_ .f32 0xFF800000#32) reducesTo_S16x16x1x4096_S16x16x1_d3 h_S_

theorem top_apply (b h : Fin 16) : top Q K (ix3 b h (0 : Fin 1)) = Finset.univ.fold max ⊥ (score Q K b h) := by
  have e : (FloatOps.maximumf : Ideal .f32 → Ideal .f32 → Ideal .f32) = (max : EReal → EReal → EReal) := by
    exact Ideal.maximumf_eq_max
  unfold top
  rw [e]
  refine (Host.reduce_eq_fold (max : EReal → EReal → EReal) _ _ _ _ _).trans ?_
  refine (Shape.ReducesTo.fold_fiber_r4_a3 reducesTo_S16x16x1x4096_S16x16x1_d3 _ (max : EReal → EReal → EReal) _ _).trans ?_
  refine congrArg₂ (fun z f => Finset.univ.fold max z f) bits_bot (funext fun k => ?_)
  rw [ix4_eq_valueIdx]
  exact scores_apply Q K b h k

/-- The weights of the keys. -/
def weights : FVec Ideal S16x16x1x4096 .f32 := Host.exp (subf (scores Q K) (along (top Q K)))

theorem weights_apply (b h : Fin 16) (k : Fin 4096) :
    weights Q K (ix4 b h (0 : Fin 1) k) = Ideal.exp (score Q K b h k - Finset.univ.fold max ⊥ (score Q K b h)) := by
  show Ideal.exp (scores Q K (ix4 b h (0 : Fin 1) k) - along (top Q K) (ix4 b h (0 : Fin 1) k)) = _
  rw [scores_apply, along_apply, top_apply]

/-- The sum of the weights of a batch and a head. -/
def total : FVec Ideal S16x16x1 .f32 := Host.reduceAdd (weights Q K) (constant S_ .f32 0x00000000#32) reducesTo_S16x16x1x4096_S16x16x1_d3 h_S_

theorem total_apply (b h : Fin 16) : total Q K (ix3 b h (0 : Fin 1)) = ∑ k, Ideal.exp (score Q K b h k - Finset.univ.fold max ⊥ (score Q K b h)) := by
  refine (Ideal.hostReduceAdd_r4_a3 reducesTo_S16x16x1x4096_S16x16x1_d3 _ _ _).trans ?_
  rw [constant_apply]
  refine (congrArg₂ (· + ·) bits_zero (Finset.sum_congr rfl fun k _ => ?_)).trans (zero_add _)
  rw [ix4_eq_valueIdx]
  exact weights_apply Q K b h k

/-- The reference's result. -/
def out : FVec Ideal S16x1x16x64 .f32 :=
  transpose S16x1x16x64 [0, 3, 1, 2] (Host.dotGeneral dot_S16x4096x16x64_S16x16x1x4096_S16x16x64x1_1_3_3_2_02_01 none V (Host.divf (weights Q K) (along (total Q K)))) transposes_S16x16x64x1_S16x1x16x64_0_3_1_2

theorem out_apply (b h : Fin 16) (d : Fin 64) (hs : ∀ k, Fin' (score Q K b h k)) :
    out Q K V (ix4 b (0 : Fin 1) h d) = Ideal.div (∑ k, Ideal.exp (score Q K b h k) * V (ix4 b k h d)) (∑ k, Ideal.exp (score Q K b h k)) := by
  unfold out
  refine (transpose_apply _ _ _ _ (ix4 b h d (0 : Fin 1)) fun a => by
    match a with
    | ⟨0, _⟩ => rfl
    | ⟨1, _⟩ => rfl
    | ⟨2, _⟩ => rfl
    | ⟨3, _⟩ => rfl).trans ?_
  refine (pv_apply V _ b h d).trans ?_
  refine Eq.trans (Finset.sum_congr rfl fun k _ => ?_) (weighted (score Q K b h) hs (Finset.univ.fold max ⊥ (score Q K b h)) (fin_max _ ⟨0, Finset.mem_univ _⟩ _ hs) fun k => V (ix4 b k h d))
  refine congrArg (V (ix4 b k h d) * ·) ?_
  show Ideal.div (weights Q K (ix4 b h (0 : Fin 1) k)) (along (total Q K) (ix4 b h (0 : Fin 1) k)) = _
  rw [weights_apply, along_apply, total_apply]

end

/-- The scores of finite queries and keys are finite. -/
theorem score_fin (Q : FVec Ideal S16x1x16x64 .f32) (K : FVec Ideal S16x4096x16x64 .f32) (hQ : ∀ i, Fin' (Q i)) (hK : ∀ i, Fin' (K i)) (b h : Fin 16) (k : Fin 4096) :
    Fin' (score Q K b h k) :=
  fin_mul (fin_sum _ _ fun d => fin_mul (hQ _) (hK _)) bits_scale

end Cert.FlashProof.Ref

end
-- ==== Proof.Whole.lean ====
/-
The kernel's result is the reference's: the rows of the four devices that share two batches, added up, are the sums over
all the keys.
-/
module

public import proofs.«01_k».proof.Proof.Reads
public import proofs.«01_k».proof.Proof.Ref
public import Idealize.ShloMosaic.Lib.Layout

@[expose] public section

noncomputable section

namespace Cert.FlashProof

open Idealize.ShloMosaic hiding ix0 ix1 ix2 ix3 ix4 ix5
open Idealize.ShloMosaic.ValueIdx Idealize.ShloMosaic.TcCoe Cert.KernelIdeal Cert.KernelIdeal.Gen
open scoped BigOperators

/-! ## The blocks of the keys -/

/-- The place of key `k` of block `z` among all the keys. -/
def key (z : Fin 4) (k : Fin 1024) : Fin 4096 := ⟨z.val * 1024 + k.val, by omega⟩

theorem sum_key (f : Fin 4096 → EReal) : ∑ z, ∑ k, f (key z k) = ∑ k, f k := by
  rw [← Fintype.sum_prod_type', ← (finProdFinEquiv (m := 4) (n := 1024)).sum_comp (fun j : Fin (4 * 1024) => f j)]
  refine Finset.sum_congr rfl fun x _ => congrArg f (Fin.ext ?_)
  show x.1.val * 1024 + x.2.val = x.2.val + 1024 * x.1.val
  omega

/-- The block of the keys that a device holds. -/
def zz (c : Dev nD) : Fin 4 := ⟨c.val % 4, Nat.mod_lt _ (by decide)⟩

theorem zz_turn : ∀ c : Dev nD, (zz c, zz (qe c (.inl 0)), zz (qe c (.inl 1)), zz (qe c (.inl 2))) ∈
    [((0 : Fin 4), (3 : Fin 4), (2 : Fin 4), (1 : Fin 4)), (1, 0, 3, 2), (2, 1, 0, 3), (3, 2, 1, 0), (0, 1, 2, 3), (1, 2, 3, 0), (2, 3, 0, 1), (3, 0, 1, 2)] := by decide

theorem bat_qe : ∀ (c : Dev nD) (j : Fin 3) (r : Fin 2), bat (qe c (.inl j)) r = bat c r := by decide

/-- A device's block and the blocks of the three it exchanges with are the four blocks. -/
theorem sum_turn (c : Dev nD) (g : Fin 4 → EReal) : g (zz c) + g (zz (qe c (.inl 0))) + g (zz (qe c (.inl 1))) + g (zz (qe c (.inl 2))) = ∑ z, g z := by
  have h := zz_turn c
  rw [Fin.sum_univ_four]
  simp only [List.mem_cons, List.not_mem_nil, or_false, Prod.mk.injEq] at h
  rcases h with h | h | h | h | h | h | h | h <;> obtain ⟨h0, h1, h2, h3⟩ := h <;> rw [h0, h1, h2, h3] <;> ac_rfl

/-- A device's block of the keys, at an index. -/
theorem block_apply (c : Dev nD) (K : Cert.ReferenceIdeal.S16x4096x16x64.Idx → EReal) (b h : Fin 16) (k : Fin 1024) (d : Fin 64) :
    (Layout.blockN ⟨4, ![16, 1024, 16, 64]⟩ ⟨4, ![16, 4096, 16, 64]⟩ (Layout.meshBlock [2, 4, 4] ![[], [2], [], []] c) K : (⟨4, ![16, 1024, 16, 64]⟩ : Shape).Idx → EReal) (ix4 b k h d) = K (ix4 b (key (zz c) k) h d) := by
  rw [Layout.blockN_apply]
  refine congrArg K (funext fun a => Fin.ext ?_)
  rw [Layout.TilesN.idx_val]
  match a with
  | ⟨0, _⟩ => exact (by omega : 0 * 16 + b.val = b.val)
  | ⟨1, _⟩ =>
    show (c.val / 1 % 4 * 1 + 0) * 1024 + k.val = c.val % 4 * 1024 + k.val
    omega
  | ⟨2, _⟩ => exact (by omega : 0 * 16 + h.val = h.val)
  | ⟨3, _⟩ => exact (by omega : 0 * 64 + d.val = d.val)

/-- What holds of every element of every device's block holds of every element of the array. -/
theorem forall_block {P : EReal → Prop} (K : Cert.ReferenceIdeal.S16x4096x16x64.Idx → EReal)
    (h : ∀ (c : Dev nD) i, P ((Layout.blockN ⟨4, ![16, 1024, 16, 64]⟩ ⟨4, ![16, 4096, 16, 64]⟩ (Layout.meshBlock [2, 4, 4] ![[], [2], [], []] c) K : (⟨4, ![16, 1024, 16, 64]⟩ : Shape).Idx → EReal) i)) (x) : P (K x) := by
  obtain ⟨b, k, g, d, rfl⟩ : ∃ (b : Fin 16) (k : Fin 4096) (g : Fin 16) (d : Fin 64), x = ix4 b k g d := ⟨x 0, x 1, x 2, x 3, ValueIdx.eq_ix4 x⟩
  have e := h ⟨k.val / 1024, by have := k.isLt; show k.val / 1024 < 32; omega⟩ (ix4 b (⟨k.val % 1024, Nat.mod_lt _ (by decide)⟩ : Fin 1024) g d)
  rw [block_apply] at e
  have hk : key (zz ⟨k.val / 1024, by have := k.isLt; show k.val / 1024 < 32; omega⟩) ⟨k.val % 1024, Nat.mod_lt _ (by decide)⟩ = k := by
    refine Fin.ext ?_
    show k.val / 1024 % 4 * 1024 + k.val % 1024 = k.val
    have := k.isLt
    omega
  rwa [hk] at e

/-! ## The result -/

section
variable (m : (ℓ : Loc nD τ sig) → Buf (Elt Ideal) ℓ)
variable (Q : FVec Ideal Cert.ReferenceIdeal.S16x1x16x64 .f32) (K V : FVec Ideal Cert.ReferenceIdeal.S16x4096x16x64 .f32)

/-- The devices hold the queries whole and their blocks of the keys and the values. -/
structure Holds : Prop where
  q : ∀ c, argQ m c = Q
  k : ∀ c, argK m c = Layout.blockN ⟨4, ![16, 1024, 16, 64]⟩ ⟨4, ![16, 4096, 16, 64]⟩ (Layout.meshBlock [2, 4, 4] ![[], [2], [], []] c) K
  v : ∀ c, argV m c = Layout.blockN ⟨4, ![16, 1024, 16, 64]⟩ ⟨4, ![16, 4096, 16, 64]⟩ (Layout.meshBlock [2, 4, 4] ![[], [2], [], []] c) V

variable {m Q K V} (H : Holds m Q K V)
include H

theorem sco_eq (c : Dev nD) (b h : Fin 16) (k : Fin 1024) : sco m c b h k = Ref.score Q K b h (key (zz c) k) := by
  refine congrArg (· * Ideal.ofBits .f32 0x3E000000#32) (Finset.sum_congr rfl fun d _ => congrArg₂ (· * ·) (congrFun (H.q c) _) ?_)
  exact (congrFun (H.k c) _).trans (block_apply c K b h k d)

/-- The numerators of the four devices, added up. -/
theorem num_eq (c : Dev nD) (r : Fin 2) (h : Fin 16) (d : Fin 64) :
    redC m c r (ix2 0 ⟨64 * h.val + d.val, by omega⟩) + redC m (qe c (.inl 0)) r (ix2 0 ⟨64 * h.val + d.val, by omega⟩)
      + redC m (qe c (.inl 1)) r (ix2 0 ⟨64 * h.val + d.val, by omega⟩) + redC m (qe c (.inl 2)) r (ix2 0 ⟨64 * h.val + d.val, by omega⟩)
      = ∑ k, Ideal.exp (Ref.score Q K (bat c r) h k) * V (ix4 (bat c r) k h d) := by
  have e : ∀ c', redC m c' r (ix2 0 ⟨64 * h.val + d.val, by omega⟩)
      = ∑ k, Ideal.exp (Ref.score Q K (bat c' r) h (key (zz c') k)) * V (ix4 (bat c' r) (key (zz c') k) h d) := by
    intro c'
    refine (red_num m c' r h d).trans (Finset.sum_congr rfl fun k _ => congrArg₂ (· * ·) (congrArg Ideal.exp (sco_eq H c' _ h k)) ?_)
    exact (congrFun (H.v c') _).trans (block_apply c' V _ h k d)
  rw [e, e, e, e, bat_qe, bat_qe, bat_qe]
  exact (sum_turn c fun z => ∑ k, Ideal.exp (Ref.score Q K (bat c r) h (key z k)) * V (ix4 (bat c r) (key z k) h d)).trans
    (sum_key fun k => Ideal.exp (Ref.score Q K (bat c r) h k) * V (ix4 (bat c r) k h d))

/-- The denominators of the four devices, added up. -/
theorem den_eq (c : Dev nD) (r : Fin 2) (h : Fin 16) :
    redC m c r (ix2 0 ⟨1024 + h.val, by omega⟩) + redC m (qe c (.inl 0)) r (ix2 0 ⟨1024 + h.val, by omega⟩)
      + redC m (qe c (.inl 1)) r (ix2 0 ⟨1024 + h.val, by omega⟩) + redC m (qe c (.inl 2)) r (ix2 0 ⟨1024 + h.val, by omega⟩)
      = ∑ k, Ideal.exp (Ref.score Q K (bat c r) h k) := by
  have e : ∀ c', redC m c' r (ix2 0 ⟨1024 + h.val, by omega⟩) = ∑ k, Ideal.exp (Ref.score Q K (bat c' r) h (key (zz c') k)) := fun c' =>
    (red_den m c' r h).trans (Finset.sum_congr rfl fun k _ => congrArg Ideal.exp (sco_eq H c' _ h k))
  rw [e, e, e, e, bat_qe, bat_qe, bat_qe]
  exact (sum_turn c fun z => ∑ k, Ideal.exp (Ref.score Q K (bat c r) h (key z k))).trans (sum_key fun k => Ideal.exp (Ref.score Q K (bat c r) h k))

/-- A finished row is the reference's. -/
theorem nrm_eq (hs : ∀ b h k, Fin' (Ref.score Q K b h k)) (c : Dev nD) (r : Fin 2) (h : Fin 16) (d : Fin 64) :
    (cont m).nrm c r (ix2 0 (col h d)) = Ref.out Q K V (ix4 (bat c r) (0 : Fin 1) h d) := by
  refine (norm_apply (redC m c r) (redC m (qe c (.inl 0)) r) (redC m (qe c (.inl 1)) r) (redC m (qe c (.inl 2)) r) _ (mask m c) h d).trans ?_
  rw [num_eq H, den_eq H, Ref.out_apply Q K V _ h d (hs _ h)]

omit H in
theorem v26_eq (c : Dev nD) : V5 m (outs m) c main_v26 = shapeCast S16x1x16x64 (outC c (cont m)) shapeCasts_S16x1024_S16x1x16x64 := by
  have e : V4 m (outs m) c main_v25 = outC c (cont m) := (Function.update_self ..).trans (outs_eq m c)
  rw [← e]
  simp only [V5, StableHlo.after_cons, StableHlo.after_nil, hostOps1]
  rfl

/-- The kernel's result is the reference's. -/
theorem result_eq (hs : ∀ b h k, Fin' (Ref.score Q K b h k)) (c : Dev nD) : V5 m (outs m) c main_v26 = Ref.out Q K V := by
  rw [v26_eq]
  have key : ∀ (b h : Fin 16) (d : Fin 64), shapeCast S16x1x16x64 (outC c (cont m)) shapeCasts_S16x1024_S16x1x16x64 (ix4 b (0 : Fin 1) h d) = Ref.out Q K V (ix4 b (0 : Fin 1) h d) := by
    intro b h d
    refine (shapeCast_apply _ _ _ (ix2 b (col h d)) ?_).trans ?_
    · rw [Shape.rowMajor_val_two, Shape.rowMajor_val_four]
      show b.val * 1024 + (64 * h.val + d.val) = ((b.val * 1 + 0) * 16 + h.val) * 64 + d.val
      omega
    have hb : bat (who c ((rowEquiv c).symm b).1) ((rowEquiv c).symm b).2 = b :=
      Fin.ext ((rowEquiv_val c ((rowEquiv c).symm b)).symm.trans (congrArg Fin.val ((rowEquiv c).apply_symm_apply b)))
    refine (nrm_eq H hs (who c ((rowEquiv c).symm b).1) ((rowEquiv c).symm b).2 h d).trans ?_
    rw [hb]
  funext x
  obtain ⟨b, o, h, d, rfl⟩ : ∃ (b : Fin 16) (o : Fin 1) (h : Fin 16) (d : Fin 64), x = ix4 b o h d := ⟨x 0, x 1, x 2, x 3, ValueIdx.eq_ix4 x⟩
  obtain rfl : o = 0 := Subsingleton.elim _ _
  exact key b h d

end

end Cert.FlashProof

end
-- ==== Proof.Finite.lean ====
/-
The precondition read back: the queries and the keys are finite.
-/
module

public import proofs.«01_k».proof.Defs
public import proofs.«01_k».proof.Proof.Whole
public import Idealize.ShloMosaic.Lib.ReduceAll

@[expose] public section

noncomputable section

namespace Cert.FlashProof

open Idealize.ShloMosaic Idealize.ShloMosaic.TcCoe

instance : Subsingleton (⟨0, ![]⟩ : Shape).Idx := ⟨fun x y => funext fun a => a.elim0⟩

/-- Where every magnitude is found below +∞, every element is finite. -/
theorem all_fin {s : Shape} {axes : List (Fin s.rank)} {x : FVec Ideal s .f32} {hb : (⟨0, ![]⟩ : Shape).BroadcastsInDim s ![]} {hr : s.ReducesTo axes ⟨0, ![]⟩} {hu : 0 < (⟨0, ![]⟩ : Shape).numel}
    {j : (⟨0, ![]⟩ : Shape).Idx}
    (e : Host.reduce IntOp.andi (cmpf .olt (Host.absf x) (broadcastInDim s ![] hb (constant ⟨0, ![]⟩ .f32 0x7F800000#32))) (constantI ⟨0, ![]⟩ 1 1#1) hr hu j = 1#1) (i : s.Idx) : Fin' (x i) := by
  have h : BitVec.ofBool (decide (max (x i) (-x i) < Ideal.ofBits .f32 0x7F800000#32)) = 1#1 := Host.reduce_andi_all _ _ hr hu j e i
  rw [bits_top] at h
  refine fin_of_abs (by_contra fun hn => ?_)
  rw [decide_eq_false hn] at h
  exact absurd h (by decide)

theorem pre_facts_kernel : Cert.Pre_finite_KernelIdeal.Facts := ⟨by decide, by decide, by decide, by decide, by decide⟩
theorem pre_facts_reference : Cert.Pre_finite_ReferenceIdeal.Facts := ⟨by decide, by decide, by decide, by decide, by decide⟩

/-- The precondition says that every device's queries and keys are finite. -/
theorem fin_of_pre (m : (ℓ : Loc Cert.KernelIdeal.nD Cert.KernelIdeal.τ Cert.KernelIdeal.sig) → Buf (Elt Ideal) ℓ) [Cert.Pre_finite_KernelIdeal.Facts]
    (h : Cert.Pre_KernelIdeal_finite_KernelIdeal m) (c : Dev Cert.KernelIdeal.nD) : (∀ i, Fin' (argQ m c i)) ∧ ∀ i, Fin' (argK m c i) := by
  have e := IntOp.andi_eq_one.mp (congrFun (h c) fun a => a.elim0)
  exact ⟨all_fin e.1, all_fin e.2⟩

/-- Both programs run, the devices' results are the reference's, and the arguments are kept. -/
theorem same_result {m : (ℓ : Loc Cert.KernelIdeal.nD Cert.KernelIdeal.τ Cert.KernelIdeal.sig) → Buf (Elt Ideal) ℓ} {Q : FVec Ideal Cert.ReferenceIdeal.S16x1x16x64 .f32}
    {K V : FVec Ideal Cert.ReferenceIdeal.S16x4096x16x64 .f32} [Cert.Pre_finite_KernelIdeal.Facts] (h : Cert.Pre_KernelIdeal_finite_KernelIdeal m) (H : Holds m Q K V) (c : Dev Cert.KernelIdeal.nD) :
    Cert.KernelIdeal.Gen.V5 m (outs m) c Cert.KernelIdeal.main_v26 = Ref.out Q K V := by
  have hQ : ∀ i, Fin' (Q i) := fun i => congrFun (H.q c) i ▸ (fin_of_pre m h c).1 i
  have hK : ∀ i, Fin' (K i) := forall_block (P := Fin') K fun c i => congrFun (H.k c) i ▸ (fin_of_pre m h c).2 i
  exact result_eq H (Ref.score_fin Q K hQ hK) c

end Cert.FlashProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal

public import proofs.«01_k».proof.Proof.Gen.ReferenceIdeal.Run
public import proofs.«01_k».proof.Proof.Run
public import proofs.«01_k».proof.Proof.Same
public import proofs.«01_k».proof.Proof.Finite
public import Idealize.ShloMosaic.Adequacy
public import Idealize.ShloMosaic.Init

@[expose] public section

noncomputable section

namespace Cert.Proof

open Idealize.ShloMosaic Idealize.SL.Sem

/-- An argument of the kernel's program ends as it began. -/
theorem kept {F : FTy → Type} [FloatOps F] {m : (ℓ : Loc Cert.KernelIdeal.nD Cert.KernelIdeal.τ Cert.KernelIdeal.sig) → Buf (Elt F) ℓ}
    {s : MemSt Cert.KernelIdeal.nD Cert.KernelIdeal.τ Cert.KernelIdeal.sig (Elt F)} {c : Dev Cert.KernelIdeal.nD}
    (h : ∀ b ∈ Pipeline.ucRefs Cert.KernelIdeal.τ Cert.KernelIdeal.sig, s.mem (c, b) = Cert.KernelIdeal.Gen.V5 m (Cert.FlashProof.outs m) c b) :
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  ⟨(h _ (Finset.mem_filter.mpr ⟨StableHlo.devRef_mem_tcRefs Cert.KernelIdeal.main_arg0, by decide⟩)).trans (Cert.KernelIdeal.Gen.V5_main_arg0 m _ c),
    (h _ (Finset.mem_filter.mpr ⟨StableHlo.devRef_mem_tcRefs Cert.KernelIdeal.main_arg1, by decide⟩)).trans (Cert.KernelIdeal.Gen.V5_main_arg1 m _ c),
    (h _ (Finset.mem_filter.mpr ⟨StableHlo.devRef_mem_tcRefs Cert.KernelIdeal.main_arg2, by decide⟩)).trans (Cert.KernelIdeal.Gen.V5_main_arg2 m _ c)⟩

/-- Over any float values the program runs, keeps its arguments and leaves every counter at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => kept (h.1 c), h.2⟩) (Cert.FlashProof.run_main m ρ)

theorem frame_kernel : Cert.quiescent_Kernel := by
  intro m ρ _
  have h := frame_any (F := Bits) m ρ
  rw [← Cert.FlashProof.defs_same, ← Cert.FlashProof.main_same] at h
  exact h

theorem frame_ideal : Cert.quiescent_KernelIdeal := fun m ρ _ => frame_any (F := Ideal) m ρ

/-- The reference runs on the host alone: it has no counter. -/
theorem reference_runs (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, funext fun g => nomatch g.2⟩) (Cert.ReferenceIdeal.Value.run (F := Ideal) m ρ)

theorem frame_reference : Cert.quiescent_ReferenceIdeal := fun m ρ _ => reference_runs m ρ

/-- The ideal kernel's result, on every device, is the ideal reference's. -/
theorem equal_ideal [Cert.Pre_finite_KernelIdeal.Facts] : Cert.algebraic_KernelIdeal_ReferenceIdeal_pre_finite_KernelIdeal := by
  intro m g m' g' hpre hm
  have H : Cert.FlashProof.Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c => (hm c).1, fun c => (hm c).2.1, fun c => (hm c).2.2⟩
  refine ⟨Cert.FlashProof.Ref.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun _ h c => ⟨?_, kept (h.1 c)⟩) (Cert.FlashProof.run_main m g)
    exact (h.1 c _ (Finset.mem_filter.mpr ⟨StableHlo.devRef_mem_tcRefs Cert.KernelIdeal.main_v26, by decide⟩)).trans (Cert.FlashProof.same_result hpre H c)
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, Cert.FlashProof.pre_facts_kernel, Cert.FlashProof.pre_facts_reference,
    frame_kernel, frame_ideal, fun m ρ _ => frame_any (F := Ideal) m ρ, frame_reference, fun m ρ _ => reference_runs m ρ, trivial, @equal_ideal Cert.FlashProof.pre_facts_kernel⟩

end Cert.Proof

end
